-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S8192x4096 : Shape := ⟨2, ![8192, 4096]⟩
abbrev S16x16 : Shape := ⟨2, ![16, 16]⟩
abbrev S512x4096 : Shape := ⟨2, ![512, 4096]⟩
abbrev S2x512x512 : Shape := ⟨3, ![2, 512, 512]⟩
abbrev S16x512x512 : Shape := ⟨3, ![16, 512, 512]⟩
abbrev S2x512x4096 : Shape := ⟨3, ![2, 512, 4096]⟩
abbrev S16 : Shape := ⟨1, ![16]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S1x512x512 : Shape := ⟨3, ![1, 512, 512]⟩
abbrev S512x512 : Shape := ⟨2, ![512, 512]⟩
abbrev S1x1 : Shape := ⟨2, ![1, 1]⟩

abbrev nBuf : Space → Nat
  | .hbm => 4
  | .vmem => 5
  | .smem => 1
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S16x16, .i32⟩
  | .hbm, ⟨3, _⟩ => ⟨S512x4096, .f32⟩
  | .local _ .vmem, ⟨0, _⟩ => ⟨S512x4096, .f32⟩
  | .local _ .vmem, ⟨1, _⟩ => ⟨S8192x512, .bf16⟩
  | .local _ .vmem, ⟨2, _⟩ => ⟨S2x512x512, .f32⟩
  | .local _ .vmem, ⟨3, _⟩ => ⟨S16x512x512, .bf16⟩
  | .local _ .vmem, ⟨4, _⟩ => ⟨S2x512x4096, .f32⟩
  | .local _ .smem, ⟨0, _⟩ => ⟨S16x16, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v3 : BitVec 32 := Scalar.muli v2 c512_i32
  let c0_i32_3 : BitVec 32 := 0#32
  ![v3.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_4 : BitVec 32 := 512#32
  let v9 : BitVec 32 := Scalar.muli v2 c512_i32_4
  let c0_i32_9 : BitVec 32 := 0#32
  ![v9.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v15 : Index := Scalar.indexCast v2
  let c15 : Index := 15#32
  ![v15.toNat, 15]
def k0_off4 (v16 : BitVec 32) : Fin 2 → Nat :=
  let c512_i32_10 : BitVec 32 := 512#32
  let v17 : BitVec 32 := Scalar.muli v16 c512_i32_10
  let c0_i32_15 : BitVec 32 := 0#32
  ![v17.toNat, 0]

def k0_chk1 (v16 : BitVec 32) : Prop :=
  (∀ a, (k0_off4 v16) a + S512x512.size a ≤ S8192x512.size a)
theorem k0_off4_inb : ∀ (v16 : BitVec 32) (k0_hw1 : k0_chk1 v16), ∀ a, (k0_off4 v16) a + S512x512.size a ≤ S8192x512.size a := fun v16 k0_hw1 => k0_hw1

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_16 : BitVec 32 := 0#32
  let v24 : BitVec 1 := Scalar.cmpi .ne v2 c0_i32_16
  let v25 : BitVec 32 := Scalar.extui v24
  let c0_i32_17 : BitVec 32 := 0#32
  let v26 : BitVec 1 := Scalar.cmpi .ne v25 c0_i32_17
  v26

def k0_dev1 : Nat :=
  let c0_i32_1016 : BitVec 32 := 0#32
  let c0_i32_1014 : BitVec 32 := 0#32
  let c1_i32_1015 : BitVec 32 := 1#32
  let v1263 : BitVec 32 := Scalar.muli c0_i32_1014 c1_i32_1015
  let v1264 : BitVec 32 := Scalar.addi c0_i32_1016 v1263
  v1264.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 1 := Scalar.cmpi .ne v2 c1_i32_18
  let v28 : BitVec 32 := Scalar.extui v27
  let c0_i32_19 : BitVec 32 := 0#32
  let v29 : BitVec 1 := Scalar.cmpi .ne v28 c0_i32_19
  v29

def k0_dev2 : Nat :=
  let c0_i32_1016 : BitVec 32 := 0#32
  let c1_i32_1014 : BitVec 32 := 1#32
  let c1_i32_1015 : BitVec 32 := 1#32
  let v1263 : BitVec 32 := Scalar.muli c1_i32_1014 c1_i32_1015
  let v1264 : BitVec 32 := Scalar.addi c0_i32_1016 v1263
  v1264.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v30 : BitVec 1 := Scalar.cmpi .ne v2 c2_i32
  let v31 : BitVec 32 := Scalar.extui v30
  let c0_i32_20 : BitVec 32 := 0#32
  let v32 : BitVec 1 := Scalar.cmpi .ne v31 c0_i32_20
  v32

def k0_dev3 : Nat :=
  let c0_i32_1016 : BitVec 32 := 0#32
  let c2_i32_1014 : BitVec 32 := 2#32
  let c1_i32_1015 : BitVec 32 := 1#32
  let v1263 : BitVec 32 := Scalar.muli c2_i32_1014 c1_i32_1015
  let v1264 : BitVec 32 := Scalar.addi c0_i32_1016 v1263
  v1264.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v33 : BitVec 1 := Scalar.cmpi .ne v2 c3_i32
  let v34 : BitVec 32 := Scalar.extui v33
  let c0_i32_21 : BitVec 32 := 0#32
  let v35 : BitVec 1 := Scalar.cmpi .ne v34 c0_i32_21
  v35

def k0_dev4 : Nat :=
  let c0_i32_1016 : BitVec 32 := 0#32
  let c3_i32_1014 : BitVec 32 := 3#32
  let c1_i32_1015 : BitVec 32 := 1#32
  let v1263 : BitVec 32 := Scalar.muli c3_i32_1014 c1_i32_1015
  let v1264 : BitVec 32 := Scalar.addi c0_i32_1016 v1263
  v1264.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v36 : BitVec 1 := Scalar.cmpi .ne v2 c4_i32
  let v37 : BitVec 32 := Scalar.extui v36
  let c0_i32_22 : BitVec 32 := 0#32
  let v38 : BitVec 1 := Scalar.cmpi .ne v37 c0_i32_22
  v38

def k0_dev5 : Nat :=
  let c0_i32_1016 : BitVec 32 := 0#32
  let c4_i32_1014 : BitVec 32 := 4#32
  let c1_i32_1015 : BitVec 32 := 1#32
  let v1263 : BitVec 32 := Scalar.muli c4_i32_1014 c1_i32_1015
  let v1264 : BitVec 32 := Scalar.addi c0_i32_1016 v1263
  v1264.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v39 : BitVec 1 := Scalar.cmpi .ne v2 c5_i32
  let v40 : BitVec 32 := Scalar.extui v39
  let c0_i32_23 : BitVec 32 := 0#32
  let v41 : BitVec 1 := Scalar.cmpi .ne v40 c0_i32_23
  v41

def k0_dev6 : Nat :=
  let c0_i32_1016 : BitVec 32 := 0#32
  let c5_i32_1014 : BitVec 32 := 5#32
  let c1_i32_1015 : BitVec 32 := 1#32
  let v1263 : BitVec 32 := Scalar.muli c5_i32_1014 c1_i32_1015
  let v1264 : BitVec 32 := Scalar.addi c0_i32_1016 v1263
  v1264.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v42 : BitVec 1 := Scalar.cmpi .ne v2 c6_i32
  let v43 : BitVec 32 := Scalar.extui v42
  let c0_i32_24 : BitVec 32 := 0#32
  let v44 : BitVec 1 := Scalar.cmpi .ne v43 c0_i32_24
  v44

def k0_dev7 : Nat :=
  let c0_i32_1016 : BitVec 32 := 0#32
  let c6_i32_1014 : BitVec 32 := 6#32
  let c1_i32_1015 : BitVec 32 := 1#32
  let v1263 : BitVec 32 := Scalar.muli c6_i32_1014 c1_i32_1015
  let v1264 : BitVec 32 := Scalar.addi c0_i32_1016 v1263
  v1264.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v45 : BitVec 1 := Scalar.cmpi .ne v2 c7_i32
  let v46 : BitVec 32 := Scalar.extui v45
  let c0_i32_25 : BitVec 32 := 0#32
  let v47 : BitVec 1 := Scalar.cmpi .ne v46 c0_i32_25
  v47

def k0_dev8 : Nat :=
  let c0_i32_1016 : BitVec 32 := 0#32
  let c7_i32_1014 : BitVec 32 := 7#32
  let c1_i32_1015 : BitVec 32 := 1#32
  let v1263 : BitVec 32 := Scalar.muli c7_i32_1014 c1_i32_1015
  let v1264 : BitVec 32 := Scalar.addi c0_i32_1016 v1263
  v1264.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 1 := Scalar.cmpi .ne v2 c8_i32
  let v49 : BitVec 32 := Scalar.extui v48
  let c0_i32_26 : BitVec 32 := 0#32
  let v50 : BitVec 1 := Scalar.cmpi .ne v49 c0_i32_26
  v50

def k0_dev9 : Nat :=
  let c0_i32_1016 : BitVec 32 := 0#32
  let c8_i32_1014 : BitVec 32 := 8#32
  let c1_i32_1015 : BitVec 32 := 1#32
  let v1263 : BitVec 32 := Scalar.muli c8_i32_1014 c1_i32_1015
  let v1264 : BitVec 32 := Scalar.addi c0_i32_1016 v1263
  v1264.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v51 : BitVec 1 := Scalar.cmpi .ne v2 c9_i32
  let v52 : BitVec 32 := Scalar.extui v51
  let c0_i32_27 : BitVec 32 := 0#32
  let v53 : BitVec 1 := Scalar.cmpi .ne v52 c0_i32_27
  v53

def k0_dev10 : Nat :=
  let c0_i32_1016 : BitVec 32 := 0#32
  let c9_i32_1014 : BitVec 32 := 9#32
  let c1_i32_1015 : BitVec 32 := 1#32
  let v1263 : BitVec 32 := Scalar.muli c9_i32_1014 c1_i32_1015
  let v1264 : BitVec 32 := Scalar.addi c0_i32_1016 v1263
  v1264.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v54 : BitVec 1 := Scalar.cmpi .ne v2 c10_i32
  let v55 : BitVec 32 := Scalar.extui v54
  let c0_i32_28 : BitVec 32 := 0#32
  let v56 : BitVec 1 := Scalar.cmpi .ne v55 c0_i32_28
  v56

def k0_dev11 : Nat :=
  let c0_i32_1016 : BitVec 32 := 0#32
  let c10_i32_1014 : BitVec 32 := 10#32
  let c1_i32_1015 : BitVec 32 := 1#32
  let v1263 : BitVec 32 := Scalar.muli c10_i32_1014 c1_i32_1015
  let v1264 : BitVec 32 := Scalar.addi c0_i32_1016 v1263
  v1264.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v57 : BitVec 1 := Scalar.cmpi .ne v2 c11_i32
  let v58 : BitVec 32 := Scalar.extui v57
  let c0_i32_29 : BitVec 32 := 0#32
  let v59 : BitVec 1 := Scalar.cmpi .ne v58 c0_i32_29
  v59

def k0_dev12 : Nat :=
  let c0_i32_1016 : BitVec 32 := 0#32
  let c11_i32_1014 : BitVec 32 := 11#32
  let c1_i32_1015 : BitVec 32 := 1#32
  let v1263 : BitVec 32 := Scalar.muli c11_i32_1014 c1_i32_1015
  let v1264 : BitVec 32 := Scalar.addi c0_i32_1016 v1263
  v1264.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v60 : BitVec 1 := Scalar.cmpi .ne v2 c12_i32
  let v61 : BitVec 32 := Scalar.extui v60
  let c0_i32_30 : BitVec 32 := 0#32
  let v62 : BitVec 1 := Scalar.cmpi .ne v61 c0_i32_30
  v62

def k0_dev13 : Nat :=
  let c0_i32_1016 : BitVec 32 := 0#32
  let c12_i32_1014 : BitVec 32 := 12#32
  let c1_i32_1015 : BitVec 32 := 1#32
  let v1263 : BitVec 32 := Scalar.muli c12_i32_1014 c1_i32_1015
  let v1264 : BitVec 32 := Scalar.addi c0_i32_1016 v1263
  v1264.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v63 : BitVec 1 := Scalar.cmpi .ne v2 c13_i32
  let v64 : BitVec 32 := Scalar.extui v63
  let c0_i32_31 : BitVec 32 := 0#32
  let v65 : BitVec 1 := Scalar.cmpi .ne v64 c0_i32_31
  v65

def k0_dev14 : Nat :=
  let c0_i32_1016 : BitVec 32 := 0#32
  let c13_i32_1014 : BitVec 32 := 13#32
  let c1_i32_1015 : BitVec 32 := 1#32
  let v1263 : BitVec 32 := Scalar.muli c13_i32_1014 c1_i32_1015
  let v1264 : BitVec 32 := Scalar.addi c0_i32_1016 v1263
  v1264.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v66 : BitVec 1 := Scalar.cmpi .ne v2 c14_i32
  let v67 : BitVec 32 := Scalar.extui v66
  let c0_i32_32 : BitVec 32 := 0#32
  let v68 : BitVec 1 := Scalar.cmpi .ne v67 c0_i32_32
  v68

def k0_dev15 : Nat :=
  let c0_i32_1016 : BitVec 32 := 0#32
  let c14_i32_1014 : BitVec 32 := 14#32
  let c1_i32_1015 : BitVec 32 := 1#32
  let v1263 : BitVec 32 := Scalar.muli c14_i32_1014 c1_i32_1015
  let v1264 : BitVec 32 := Scalar.addi c0_i32_1016 v1263
  v1264.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v69 : BitVec 1 := Scalar.cmpi .ne v2 c15_i32
  let v70 : BitVec 32 := Scalar.extui v69
  let c0_i32_33 : BitVec 32 := 0#32
  let v71 : BitVec 1 := Scalar.cmpi .ne v70 c0_i32_33
  v71

def k0_dev16 : Nat :=
  let c0_i32_1016 : BitVec 32 := 0#32
  let c15_i32_1014 : BitVec 32 := 15#32
  let c1_i32_1015 : BitVec 32 := 1#32
  let v1263 : BitVec 32 := Scalar.muli c15_i32_1014 c1_i32_1015
  let v1264 : BitVec 32 := Scalar.addi c0_i32_1016 v1263
  v1264.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_34 : BitVec 32 := 512#32
  let v72 : BitVec 32 := Scalar.muli v2 c512_i32_34
  let c0_i32_39 : BitVec 32 := 0#32
  ![v72.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_42 : BitVec 32 := 512#32
  let v81 : BitVec 32 := Scalar.muli v2 c512_i32_42
  let v82 : Index := Scalar.indexCast v81
  let c0_43 : Index := 0#32
  ![v82.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v86 : Index := Scalar.indexCast v2
  let c15_45 : Index := 15#32
  ![v86.toNat, 15]
def k0_off8 (v89 : BitVec 32) : Fin 2 → Nat :=
  let c512_i32_47 : BitVec 32 := 512#32
  let v90 : BitVec 32 := Scalar.muli v89 c512_i32_47
  let c0_i32_52 : BitVec 32 := 0#32
  ![v90.toNat, 0]

def k0_chk2 (v89 : BitVec 32) : Prop :=
  (∀ a, (k0_off8 v89) a + S512x512.size a ≤ S8192x512.size a)
theorem k0_off8_inb : ∀ (v89 : BitVec 32) (k0_hw2 : k0_chk2 v89), ∀ a, (k0_off8 v89) a + S512x512.size a ≤ S8192x512.size a := fun v89 k0_hw2 => k0_hw2

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v96 : Index := Scalar.indexCast v2
  let c14 : Index := 14#32
  ![v96.toNat, 14]
def k0_off10 (v97 : BitVec 32) : Fin 2 → Nat :=
  let c512_i32_53 : BitVec 32 := 512#32
  let v98 : BitVec 32 := Scalar.muli v97 c512_i32_53
  let c0_i32_58 : BitVec 32 := 0#32
  ![v98.toNat, 0]

def k0_chk3 (v97 : BitVec 32) : Prop :=
  (∀ a, (k0_off10 v97) a + S512x512.size a ≤ S8192x512.size a)
theorem k0_off10_inb : ∀ (v97 : BitVec 32) (k0_hw3 : k0_chk3 v97), ∀ a, (k0_off10 v97) a + S512x512.size a ≤ S8192x512.size a := fun v97 k0_hw3 => k0_hw3

def k0_off11 (v87 : BitVec 32) : Fin 2 → Nat :=
  let c512_i32_61 : BitVec 32 := 512#32
  let v107 : BitVec 32 := Scalar.muli v87 c512_i32_61
  let v108 : Index := Scalar.indexCast v107
  let c0_62 : Index := 0#32
  ![v108.toNat, 0]

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_67 : BitVec 32 := 0#32
  let c0_i32_68 : BitVec 32 := 0#32
  ![v2.toNat, 0, 0]
def k0_off14 (v87 : BitVec 32) : Fin 2 → Nat :=
  let c512_i32_63 : BitVec 32 := 512#32
  let v112 : BitVec 32 := Scalar.muli v87 c512_i32_63
  let c0_i32_69 : BitVec 32 := 0#32
  ![v112.toNat, 0]
def k0_dev17 (v87 : BitVec 32) : Nat :=
  let c0_i32_66 : BitVec 32 := 0#32
  let c1_i32_65 : BitVec 32 := 1#32
  let v113 : BitVec 32 := Scalar.muli v87 c1_i32_65
  let v114 : BitVec 32 := Scalar.addi c0_i32_66 v113
  v114.toNat

def k0_chk4 (v87 : BitVec 32) : Prop :=
  (∀ a, (k0_off11 v87) a + S512x512.size a ≤ S8192x512.size a) ∧
  (∀ (hinb : ∀ a, (k0_off11 v87) a + S512x512.size a ≤ S8192x512.size a), (Rect.unit (s := S8192x512) (k0_off11 v87) S512x512.size hinb).PackedRows (EltTy.packing .bf16)) ∧
  (∀ a, (k0_off14 v87) a + S512x512.size a ≤ S8192x512.size a) ∧
  (∀ (hinb : ∀ a, (k0_off14 v87) a + S512x512.size a ≤ S8192x512.size a), (Rect.unit (s := S8192x512) (k0_off14 v87) S512x512.size hinb).WholeWords (EltTy.packing .bf16)) ∧
  ((k0_dev17 v87) < nD)
theorem k0_off11_inb : ∀ (v87 : BitVec 32) (k0_hw4 : k0_chk4 v87), ∀ a, (k0_off11 v87) a + S512x512.size a ≤ S8192x512.size a := fun v87 k0_hw4 => k0_hw4.1
theorem k0_off11_packedbf16 : ∀ (v87 : BitVec 32) (k0_hw4 : k0_chk4 v87), (Rect.unit (s := S8192x512) (k0_off11 v87) S512x512.size (k0_off11_inb v87 k0_hw4)).PackedRows (EltTy.packing .bf16) := fun v87 k0_hw4 => k0_hw4.2.1 (k0_off11_inb v87 k0_hw4)
theorem k0_off14_inb : ∀ (v87 : BitVec 32) (k0_hw4 : k0_chk4 v87), ∀ a, (k0_off14 v87) a + S512x512.size a ≤ S8192x512.size a := fun v87 k0_hw4 => k0_hw4.2.2.1
theorem k0_off14_wordsbf16 : ∀ (v87 : BitVec 32) (k0_hw4 : k0_chk4 v87), (Rect.unit (s := S8192x512) (k0_off14 v87) S512x512.size (k0_off14_inb v87 k0_hw4)).WholeWords (EltTy.packing .bf16) := fun v87 k0_hw4 => k0_hw4.2.2.2.1 (k0_off14_inb v87 k0_hw4)
theorem k0_dev17_lt : ∀ (v87 : BitVec 32) (k0_hw4 : k0_chk4 v87), (k0_dev17 v87) < nD := fun v87 k0_hw4 => k0_hw4.2.2.2.2

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v122 : Index := Scalar.indexCast v2
  let c14_70 : Index := 14#32
  ![v122.toNat, 14]
def k0_off16 (v125 : BitVec 32) : Fin 2 → Nat :=
  let c512_i32_72 : BitVec 32 := 512#32
  let v126 : BitVec 32 := Scalar.muli v125 c512_i32_72
  let c0_i32_77 : BitVec 32 := 0#32
  ![v126.toNat, 0]

def k0_chk5 (v125 : BitVec 32) : Prop :=
  (∀ a, (k0_off16 v125) a + S512x512.size a ≤ S8192x512.size a)
theorem k0_off16_inb : ∀ (v125 : BitVec 32) (k0_hw5 : k0_chk5 v125), ∀ a, (k0_off16 v125) a + S512x512.size a ≤ S8192x512.size a := fun v125 k0_hw5 => k0_hw5

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v132 : Index := Scalar.indexCast v2
  let c13 : Index := 13#32
  ![v132.toNat, 13]
def k0_off18 (v133 : BitVec 32) : Fin 2 → Nat :=
  let c512_i32_78 : BitVec 32 := 512#32
  let v134 : BitVec 32 := Scalar.muli v133 c512_i32_78
  let c0_i32_83 : BitVec 32 := 0#32
  ![v134.toNat, 0]

def k0_chk6 (v133 : BitVec 32) : Prop :=
  (∀ a, (k0_off18 v133) a + S512x512.size a ≤ S8192x512.size a)
theorem k0_off18_inb : ∀ (v133 : BitVec 32) (k0_hw6 : k0_chk6 v133), ∀ a, (k0_off18 v133) a + S512x512.size a ≤ S8192x512.size a := fun v133 k0_hw6 => k0_hw6

def k0_off19 (v123 : BitVec 32) : Fin 2 → Nat :=
  let c512_i32_87 : BitVec 32 := 512#32
  let v143 : BitVec 32 := Scalar.muli v123 c512_i32_87
  let v144 : Index := Scalar.indexCast v143
  let c0_88 : Index := 0#32
  ![v144.toNat, 0]

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_93 : BitVec 32 := 0#32
  let c0_i32_94 : BitVec 32 := 0#32
  ![v2.toNat, 0, 0]
def k0_off22 (v123 : BitVec 32) : Fin 2 → Nat :=
  let c512_i32_89 : BitVec 32 := 512#32
  let v148 : BitVec 32 := Scalar.muli v123 c512_i32_89
  let c0_i32_95 : BitVec 32 := 0#32
  ![v148.toNat, 0]
def k0_dev18 (v123 : BitVec 32) : Nat :=
  let c0_i32_92 : BitVec 32 := 0#32
  let c1_i32_91 : BitVec 32 := 1#32
  let v149 : BitVec 32 := Scalar.muli v123 c1_i32_91
  let v150 : BitVec 32 := Scalar.addi c0_i32_92 v149
  v150.toNat

def k0_chk7 (v123 : BitVec 32) : Prop :=
  (∀ a, (k0_off19 v123) a + S512x512.size a ≤ S8192x512.size a) ∧
  (∀ (hinb : ∀ a, (k0_off19 v123) a + S512x512.size a ≤ S8192x512.size a), (Rect.unit (s := S8192x512) (k0_off19 v123) S512x512.size hinb).PackedRows (EltTy.packing .bf16)) ∧
  (∀ a, (k0_off22 v123) a + S512x512.size a ≤ S8192x512.size a) ∧
  (∀ (hinb : ∀ a, (k0_off22 v123) a + S512x512.size a ≤ S8192x512.size a), (Rect.unit (s := S8192x512) (k0_off22 v123) S512x512.size hinb).WholeWords (EltTy.packing .bf16)) ∧
  ((k0_dev18 v123) < nD)
theorem k0_off19_inb : ∀ (v123 : BitVec 32) (k0_hw7 : k0_chk7 v123), ∀ a, (k0_off19 v123) a + S512x512.size a ≤ S8192x512.size a := fun v123 k0_hw7 => k0_hw7.1
theorem k0_off19_packedbf16 : ∀ (v123 : BitVec 32) (k0_hw7 : k0_chk7 v123), (Rect.unit (s := S8192x512) (k0_off19 v123) S512x512.size (k0_off19_inb v123 k0_hw7)).PackedRows (EltTy.packing .bf16) := fun v123 k0_hw7 => k0_hw7.2.1 (k0_off19_inb v123 k0_hw7)
theorem k0_off22_inb : ∀ (v123 : BitVec 32) (k0_hw7 : k0_chk7 v123), ∀ a, (k0_off22 v123) a + S512x512.size a ≤ S8192x512.size a := fun v123 k0_hw7 => k0_hw7.2.2.1
theorem k0_off22_wordsbf16 : ∀ (v123 : BitVec 32) (k0_hw7 : k0_chk7 v123), (Rect.unit (s := S8192x512) (k0_off22 v123) S512x512.size (k0_off22_inb v123 k0_hw7)).WholeWords (EltTy.packing .bf16) := fun v123 k0_hw7 => k0_hw7.2.2.2.1 (k0_off22_inb v123 k0_hw7)
theorem k0_dev18_lt : ∀ (v123 : BitVec 32) (k0_hw7 : k0_chk7 v123), (k0_dev18 v123) < nD := fun v123 k0_hw7 => k0_hw7.2.2.2.2

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v158 : Index := Scalar.indexCast v2
  let c13_96 : Index := 13#32
  ![v158.toNat, 13]
def k0_off24 (v161 : BitVec 32) : Fin 2 → Nat :=
  let c512_i32_98 : BitVec 32 := 512#32
  let v162 : BitVec 32 := Scalar.muli v161 c512_i32_98
  let c0_i32_103 : BitVec 32 := 0#32
  ![v162.toNat, 0]

def k0_chk8 (v161 : BitVec 32) : Prop :=
  (∀ a, (k0_off24 v161) a + S512x512.size a ≤ S8192x512.size a)
theorem k0_off24_inb : ∀ (v161 : BitVec 32) (k0_hw8 : k0_chk8 v161), ∀ a, (k0_off24 v161) a + S512x512.size a ≤ S8192x512.size a := fun v161 k0_hw8 => k0_hw8

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v168 : Index := Scalar.indexCast v2
  let c12 : Index := 12#32
  ![v168.toNat, 12]
def k0_off26 (v169 : BitVec 32) : Fin 2 → Nat :=
  let c512_i32_104 : BitVec 32 := 512#32
  let v170 : BitVec 32 := Scalar.muli v169 c512_i32_104
  let c0_i32_109 : BitVec 32 := 0#32
  ![v170.toNat, 0]

def k0_chk9 (v169 : BitVec 32) : Prop :=
  (∀ a, (k0_off26 v169) a + S512x512.size a ≤ S8192x512.size a)
theorem k0_off26_inb : ∀ (v169 : BitVec 32) (k0_hw9 : k0_chk9 v169), ∀ a, (k0_off26 v169) a + S512x512.size a ≤ S8192x512.size a := fun v169 k0_hw9 => k0_hw9

def k0_off27 (v159 : BitVec 32) : Fin 2 → Nat :=
  let c512_i32_113 : BitVec 32 := 512#32
  let v179 : BitVec 32 := Scalar.muli v159 c512_i32_113
  let v180 : Index := Scalar.indexCast v179
  let c0_114 : Index := 0#32
  ![v180.toNat, 0]

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_119 : BitVec 32 := 0#32
  let c0_i32_120 : BitVec 32 := 0#32
  ![v2.toNat, 0, 0]
def k0_off30 (v159 : BitVec 32) : Fin 2 → Nat :=
  let c512_i32_115 : BitVec 32 := 512#32
  let v184 : BitVec 32 := Scalar.muli v159 c512_i32_115
  let c0_i32_121 : BitVec 32 := 0#32
  ![v184.toNat, 0]
def k0_dev19 (v159 : BitVec 32) : Nat :=
  let c0_i32_118 : BitVec 32 := 0#32
  let c1_i32_117 : BitVec 32 := 1#32
  let v185 : BitVec 32 := Scalar.muli v159 c1_i32_117
  let v186 : BitVec 32 := Scalar.addi c0_i32_118 v185
  v186.toNat

def k0_chk10 (v159 : BitVec 32) : Prop :=
  (∀ a, (k0_off27 v159) a + S512x512.size a ≤ S8192x512.size a) ∧
  (∀ (hinb : ∀ a, (k0_off27 v159) a + S512x512.size a ≤ S8192x512.size a), (Rect.unit (s := S8192x512) (k0_off27 v159) S512x512.size hinb).PackedRows (EltTy.packing .bf16)) ∧
  (∀ a, (k0_off30 v159) a + S512x512.size a ≤ S8192x512.size a) ∧
  (∀ (hinb : ∀ a, (k0_off30 v159) a + S512x512.size a ≤ S8192x512.size a), (Rect.unit (s := S8192x512) (k0_off30 v159) S512x512.size hinb).WholeWords (EltTy.packing .bf16)) ∧
  ((k0_dev19 v159) < nD)
theorem k0_off27_inb : ∀ (v159 : BitVec 32) (k0_hw10 : k0_chk10 v159), ∀ a, (k0_off27 v159) a + S512x512.size a ≤ S8192x512.size a := fun v159 k0_hw10 => k0_hw10.1
theorem k0_off27_packedbf16 : ∀ (v159 : BitVec 32) (k0_hw10 : k0_chk10 v159), (Rect.unit (s := S8192x512) (k0_off27 v159) S512x512.size (k0_off27_inb v159 k0_hw10)).PackedRows (EltTy.packing .bf16) := fun v159 k0_hw10 => k0_hw10.2.1 (k0_off27_inb v159 k0_hw10)
theorem k0_off30_inb : ∀ (v159 : BitVec 32) (k0_hw10 : k0_chk10 v159), ∀ a, (k0_off30 v159) a + S512x512.size a ≤ S8192x512.size a := fun v159 k0_hw10 => k0_hw10.2.2.1
theorem k0_off30_wordsbf16 : ∀ (v159 : BitVec 32) (k0_hw10 : k0_chk10 v159), (Rect.unit (s := S8192x512) (k0_off30 v159) S512x512.size (k0_off30_inb v159 k0_hw10)).WholeWords (EltTy.packing .bf16) := fun v159 k0_hw10 => k0_hw10.2.2.2.1 (k0_off30_inb v159 k0_hw10)
theorem k0_dev19_lt : ∀ (v159 : BitVec 32) (k0_hw10 : k0_chk10 v159), (k0_dev19 v159) < nD := fun v159 k0_hw10 => k0_hw10.2.2.2.2

def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v194 : Index := Scalar.indexCast v2
  let c12_122 : Index := 12#32
  ![v194.toNat, 12]
def k0_off32 (v197 : BitVec 32) : Fin 2 → Nat :=
  let c512_i32_124 : BitVec 32 := 512#32
  let v198 : BitVec 32 := Scalar.muli v197 c512_i32_124
  let c0_i32_129 : BitVec 32 := 0#32
  ![v198.toNat, 0]

def k0_chk11 (v197 : BitVec 32) : Prop :=
  (∀ a, (k0_off32 v197) a + S512x512.size a ≤ S8192x512.size a)
theorem k0_off32_inb : ∀ (v197 : BitVec 32) (k0_hw11 : k0_chk11 v197), ∀ a, (k0_off32 v197) a + S512x512.size a ≤ S8192x512.size a := fun v197 k0_hw11 => k0_hw11

def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v204 : Index := Scalar.indexCast v2
  let c11 : Index := 11#32
  ![v204.toNat, 11]
def k0_off34 (v205 : BitVec 32) : Fin 2 → Nat :=
  let c512_i32_130 : BitVec 32 := 512#32
  let v206 : BitVec 32 := Scalar.muli v205 c512_i32_130
  let c0_i32_135 : BitVec 32 := 0#32
  ![v206.toNat, 0]

def k0_chk12 (v205 : BitVec 32) : Prop :=
  (∀ a, (k0_off34 v205) a + S512x512.size a ≤ S8192x512.size a)
theorem k0_off34_inb : ∀ (v205 : BitVec 32) (k0_hw12 : k0_chk12 v205), ∀ a, (k0_off34 v205) a + S512x512.size a ≤ S8192x512.size a := fun v205 k0_hw12 => k0_hw12

def k0_off35 (v195 : BitVec 32) : Fin 2 → Nat :=
  let c512_i32_139 : BitVec 32 := 512#32
  let v215 : BitVec 32 := Scalar.muli v195 c512_i32_139
  let v216 : Index := Scalar.indexCast v215
  let c0_140 : Index := 0#32
  ![v216.toNat, 0]

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_145 : BitVec 32 := 0#32
  let c0_i32_146 : BitVec 32 := 0#32
  ![v2.toNat, 0, 0]
def k0_off38 (v195 : BitVec 32) : Fin 2 → Nat :=
  let c512_i32_141 : BitVec 32 := 512#32
  let v220 : BitVec 32 := Scalar.muli v195 c512_i32_141
  let c0_i32_147 : BitVec 32 := 0#32
  ![v220.toNat, 0]
def k0_dev20 (v195 : BitVec 32) : Nat :=
  let c0_i32_144 : BitVec 32 := 0#32
  let c1_i32_143 : BitVec 32 := 1#32
  let v221 : BitVec 32 := Scalar.muli v195 c1_i32_143
  let v222 : BitVec 32 := Scalar.addi c0_i32_144 v221
  v222.toNat

def k0_chk13 (v195 : BitVec 32) : Prop :=
  (∀ a, (k0_off35 v195) a + S512x512.size a ≤ S8192x512.size a) ∧
  (∀ (hinb : ∀ a, (k0_off35 v195) a + S512x512.size a ≤ S8192x512.size a), (Rect.unit (s := S8192x512) (k0_off35 v195) S512x512.size hinb).PackedRows (EltTy.packing .bf16)) ∧
  (∀ a, (k0_off38 v195) a + S512x512.size a ≤ S8192x512.size a) ∧
  (∀ (hinb : ∀ a, (k0_off38 v195) a + S512x512.size a ≤ S8192x512.size a), (Rect.unit (s := S8192x512) (k0_off38 v195) S512x512.size hinb).WholeWords (EltTy.packing .bf16)) ∧
  ((k0_dev20 v195) < nD)
theorem k0_off35_inb : ∀ (v195 : BitVec 32) (k0_hw13 : k0_chk13 v195), ∀ a, (k0_off35 v195) a + S512x512.size a ≤ S8192x512.size a := fun v195 k0_hw13 => k0_hw13.1
theorem k0_off35_packedbf16 : ∀ (v195 : BitVec 32) (k0_hw13 : k0_chk13 v195), (Rect.unit (s := S8192x512) (k0_off35 v195) S512x512.size (k0_off35_inb v195 k0_hw13)).PackedRows (EltTy.packing .bf16) := fun v195 k0_hw13 => k0_hw13.2.1 (k0_off35_inb v195 k0_hw13)
theorem k0_off38_inb : ∀ (v195 : BitVec 32) (k0_hw13 : k0_chk13 v195), ∀ a, (k0_off38 v195) a + S512x512.size a ≤ S8192x512.size a := fun v195 k0_hw13 => k0_hw13.2.2.1
theorem k0_off38_wordsbf16 : ∀ (v195 : BitVec 32) (k0_hw13 : k0_chk13 v195), (Rect.unit (s := S8192x512) (k0_off38 v195) S512x512.size (k0_off38_inb v195 k0_hw13)).WholeWords (EltTy.packing .bf16) := fun v195 k0_hw13 => k0_hw13.2.2.2.1 (k0_off38_inb v195 k0_hw13)
theorem k0_dev20_lt : ∀ (v195 : BitVec 32) (k0_hw13 : k0_chk13 v195), (k0_dev20 v195) < nD := fun v195 k0_hw13 => k0_hw13.2.2.2.2

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v230 : Index := Scalar.indexCast v2
  let c11_148 : Index := 11#32
  ![v230.toNat, 11]
def k0_off40 (v233 : BitVec 32) : Fin 2 → Nat :=
  let c512_i32_150 : BitVec 32 := 512#32
  let v234 : BitVec 32 := Scalar.muli v233 c512_i32_150
  let c0_i32_155 : BitVec 32 := 0#32
  ![v234.toNat, 0]

def k0_chk14 (v233 : BitVec 32) : Prop :=
  (∀ a, (k0_off40 v233) a + S512x512.size a ≤ S8192x512.size a)
theorem k0_off40_inb : ∀ (v233 : BitVec 32) (k0_hw14 : k0_chk14 v233), ∀ a, (k0_off40 v233) a + S512x512.size a ≤ S8192x512.size a := fun v233 k0_hw14 => k0_hw14

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v240 : Index := Scalar.indexCast v2
  let c10 : Index := 10#32
  ![v240.toNat, 10]
def k0_off42 (v241 : BitVec 32) : Fin 2 → Nat :=
  let c512_i32_156 : BitVec 32 := 512#32
  let v242 : BitVec 32 := Scalar.muli v241 c512_i32_156
  let c0_i32_161 : BitVec 32 := 0#32
  ![v242.toNat, 0]

def k0_chk15 (v241 : BitVec 32) : Prop :=
  (∀ a, (k0_off42 v241) a + S512x512.size a ≤ S8192x512.size a)
theorem k0_off42_inb : ∀ (v241 : BitVec 32) (k0_hw15 : k0_chk15 v241), ∀ a, (k0_off42 v241) a + S512x512.size a ≤ S8192x512.size a := fun v241 k0_hw15 => k0_hw15

def k0_off43 (v231 : BitVec 32) : Fin 2 → Nat :=
  let c512_i32_165 : BitVec 32 := 512#32
  let v251 : BitVec 32 := Scalar.muli v231 c512_i32_165
  let v252 : Index := Scalar.indexCast v251
  let c0_166 : Index := 0#32
  ![v252.toNat, 0]

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_171 : BitVec 32 := 0#32
  let c0_i32_172 : BitVec 32 := 0#32
  ![v2.toNat, 0, 0]
def k0_off46 (v231 : BitVec 32) : Fin 2 → Nat :=
  let c512_i32_167 : BitVec 32 := 512#32
  let v256 : BitVec 32 := Scalar.muli v231 c512_i32_167
  let c0_i32_173 : BitVec 32 := 0#32
  ![v256.toNat, 0]
def k0_dev21 (v231 : BitVec 32) : Nat :=
  let c0_i32_170 : BitVec 32 := 0#32
  let c1_i32_169 : BitVec 32 := 1#32
  let v257 : BitVec 32 := Scalar.muli v231 c1_i32_169
  let v258 : BitVec 32 := Scalar.addi c0_i32_170 v257
  v258.toNat

def k0_chk16 (v231 : BitVec 32) : Prop :=
  (∀ a, (k0_off43 v231) a + S512x512.size a ≤ S8192x512.size a) ∧
  (∀ (hinb : ∀ a, (k0_off43 v231) a + S512x512.size a ≤ S8192x512.size a), (Rect.unit (s := S8192x512) (k0_off43 v231) S512x512.size hinb).PackedRows (EltTy.packing .bf16)) ∧
  (∀ a, (k0_off46 v231) a + S512x512.size a ≤ S8192x512.size a) ∧
  (∀ (hinb : ∀ a, (k0_off46 v231) a + S512x512.size a ≤ S8192x512.size a), (Rect.unit (s := S8192x512) (k0_off46 v231) S512x512.size hinb).WholeWords (EltTy.packing .bf16)) ∧
  ((k0_dev21 v231) < nD)
theorem k0_off43_inb : ∀ (v231 : BitVec 32) (k0_hw16 : k0_chk16 v231), ∀ a, (k0_off43 v231) a + S512x512.size a ≤ S8192x512.size a := fun v231 k0_hw16 => k0_hw16.1
theorem k0_off43_packedbf16 : ∀ (v231 : BitVec 32) (k0_hw16 : k0_chk16 v231), (Rect.unit (s := S8192x512) (k0_off43 v231) S512x512.size (k0_off43_inb v231 k0_hw16)).PackedRows (EltTy.packing .bf16) := fun v231 k0_hw16 => k0_hw16.2.1 (k0_off43_inb v231 k0_hw16)
theorem k0_off46_inb : ∀ (v231 : BitVec 32) (k0_hw16 : k0_chk16 v231), ∀ a, (k0_off46 v231) a + S512x512.size a ≤ S8192x512.size a := fun v231 k0_hw16 => k0_hw16.2.2.1
theorem k0_off46_wordsbf16 : ∀ (v231 : BitVec 32) (k0_hw16 : k0_chk16 v231), (Rect.unit (s := S8192x512) (k0_off46 v231) S512x512.size (k0_off46_inb v231 k0_hw16)).WholeWords (EltTy.packing .bf16) := fun v231 k0_hw16 => k0_hw16.2.2.2.1 (k0_off46_inb v231 k0_hw16)
theorem k0_dev21_lt : ∀ (v231 : BitVec 32) (k0_hw16 : k0_chk16 v231), (k0_dev21 v231) < nD := fun v231 k0_hw16 => k0_hw16.2.2.2.2

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v266 : Index := Scalar.indexCast v2
  let c10_174 : Index := 10#32
  ![v266.toNat, 10]
def k0_off48 (v269 : BitVec 32) : Fin 2 → Nat :=
  let c512_i32_176 : BitVec 32 := 512#32
  let v270 : BitVec 32 := Scalar.muli v269 c512_i32_176
  let c0_i32_181 : BitVec 32 := 0#32
  ![v270.toNat, 0]

def k0_chk17 (v269 : BitVec 32) : Prop :=
  (∀ a, (k0_off48 v269) a + S512x512.size a ≤ S8192x512.size a)
theorem k0_off48_inb : ∀ (v269 : BitVec 32) (k0_hw17 : k0_chk17 v269), ∀ a, (k0_off48 v269) a + S512x512.size a ≤ S8192x512.size a := fun v269 k0_hw17 => k0_hw17

def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v276 : Index := Scalar.indexCast v2
  let c9 : Index := 9#32
  ![v276.toNat, 9]
def k0_off50 (v277 : BitVec 32) : Fin 2 → Nat :=
  let c512_i32_182 : BitVec 32 := 512#32
  let v278 : BitVec 32 := Scalar.muli v277 c512_i32_182
  let c0_i32_187 : BitVec 32 := 0#32
  ![v278.toNat, 0]

def k0_chk18 (v277 : BitVec 32) : Prop :=
  (∀ a, (k0_off50 v277) a + S512x512.size a ≤ S8192x512.size a)
theorem k0_off50_inb : ∀ (v277 : BitVec 32) (k0_hw18 : k0_chk18 v277), ∀ a, (k0_off50 v277) a + S512x512.size a ≤ S8192x512.size a := fun v277 k0_hw18 => k0_hw18

def k0_off51 (v267 : BitVec 32) : Fin 2 → Nat :=
  let c512_i32_191 : BitVec 32 := 512#32
  let v287 : BitVec 32 := Scalar.muli v267 c512_i32_191
  let v288 : Index := Scalar.indexCast v287
  let c0_192 : Index := 0#32
  ![v288.toNat, 0]

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_197 : BitVec 32 := 0#32
  let c0_i32_198 : BitVec 32 := 0#32
  ![v2.toNat, 0, 0]
def k0_off54 (v267 : BitVec 32) : Fin 2 → Nat :=
  let c512_i32_193 : BitVec 32 := 512#32
  let v292 : BitVec 32 := Scalar.muli v267 c512_i32_193
  let c0_i32_199 : BitVec 32 := 0#32
  ![v292.toNat, 0]
def k0_dev22 (v267 : BitVec 32) : Nat :=
  let c0_i32_196 : BitVec 32 := 0#32
  let c1_i32_195 : BitVec 32 := 1#32
  let v293 : BitVec 32 := Scalar.muli v267 c1_i32_195
  let v294 : BitVec 32 := Scalar.addi c0_i32_196 v293
  v294.toNat

def k0_chk19 (v267 : BitVec 32) : Prop :=
  (∀ a, (k0_off51 v267) a + S512x512.size a ≤ S8192x512.size a) ∧
  (∀ (hinb : ∀ a, (k0_off51 v267) a + S512x512.size a ≤ S8192x512.size a), (Rect.unit (s := S8192x512) (k0_off51 v267) S512x512.size hinb).PackedRows (EltTy.packing .bf16)) ∧
  (∀ a, (k0_off54 v267) a + S512x512.size a ≤ S8192x512.size a) ∧
  (∀ (hinb : ∀ a, (k0_off54 v267) a + S512x512.size a ≤ S8192x512.size a), (Rect.unit (s := S8192x512) (k0_off54 v267) S512x512.size hinb).WholeWords (EltTy.packing .bf16)) ∧
  ((k0_dev22 v267) < nD)
theorem k0_off51_inb : ∀ (v267 : BitVec 32) (k0_hw19 : k0_chk19 v267), ∀ a, (k0_off51 v267) a + S512x512.size a ≤ S8192x512.size a := fun v267 k0_hw19 => k0_hw19.1
theorem k0_off51_packedbf16 : ∀ (v267 : BitVec 32) (k0_hw19 : k0_chk19 v267), (Rect.unit (s := S8192x512) (k0_off51 v267) S512x512.size (k0_off51_inb v267 k0_hw19)).PackedRows (EltTy.packing .bf16) := fun v267 k0_hw19 => k0_hw19.2.1 (k0_off51_inb v267 k0_hw19)
theorem k0_off54_inb : ∀ (v267 : BitVec 32) (k0_hw19 : k0_chk19 v267), ∀ a, (k0_off54 v267) a + S512x512.size a ≤ S8192x512.size a := fun v267 k0_hw19 => k0_hw19.2.2.1
theorem k0_off54_wordsbf16 : ∀ (v267 : BitVec 32) (k0_hw19 : k0_chk19 v267), (Rect.unit (s := S8192x512) (k0_off54 v267) S512x512.size (k0_off54_inb v267 k0_hw19)).WholeWords (EltTy.packing .bf16) := fun v267 k0_hw19 => k0_hw19.2.2.2.1 (k0_off54_inb v267 k0_hw19)
theorem k0_dev22_lt : ∀ (v267 : BitVec 32) (k0_hw19 : k0_chk19 v267), (k0_dev22 v267) < nD := fun v267 k0_hw19 => k0_hw19.2.2.2.2

def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v302 : Index := Scalar.indexCast v2
  let c9_200 : Index := 9#32
  ![v302.toNat, 9]
def k0_off56 (v305 : BitVec 32) : Fin 2 → Nat :=
  let c512_i32_202 : BitVec 32 := 512#32
  let v306 : BitVec 32 := Scalar.muli v305 c512_i32_202
  let c0_i32_207 : BitVec 32 := 0#32
  ![v306.toNat, 0]

def k0_chk20 (v305 : BitVec 32) : Prop :=
  (∀ a, (k0_off56 v305) a + S512x512.size a ≤ S8192x512.size a)
theorem k0_off56_inb : ∀ (v305 : BitVec 32) (k0_hw20 : k0_chk20 v305), ∀ a, (k0_off56 v305) a + S512x512.size a ≤ S8192x512.size a := fun v305 k0_hw20 => k0_hw20

def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v312 : Index := Scalar.indexCast v2
  let c8 : Index := 8#32
  ![v312.toNat, 8]
def k0_off58 (v313 : BitVec 32) : Fin 2 → Nat :=
  let c512_i32_208 : BitVec 32 := 512#32
  let v314 : BitVec 32 := Scalar.muli v313 c512_i32_208
  let c0_i32_213 : BitVec 32 := 0#32
  ![v314.toNat, 0]

def k0_chk21 (v313 : BitVec 32) : Prop :=
  (∀ a, (k0_off58 v313) a + S512x512.size a ≤ S8192x512.size a)
theorem k0_off58_inb : ∀ (v313 : BitVec 32) (k0_hw21 : k0_chk21 v313), ∀ a, (k0_off58 v313) a + S512x512.size a ≤ S8192x512.size a := fun v313 k0_hw21 => k0_hw21

def k0_off59 (v303 : BitVec 32) : Fin 2 → Nat :=
  let c512_i32_217 : BitVec 32 := 512#32
  let v323 : BitVec 32 := Scalar.muli v303 c512_i32_217
  let v324 : Index := Scalar.indexCast v323
  let c0_218 : Index := 0#32
  ![v324.toNat, 0]

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_223 : BitVec 32 := 0#32
  let c0_i32_224 : BitVec 32 := 0#32
  ![v2.toNat, 0, 0]
def k0_off62 (v303 : BitVec 32) : Fin 2 → Nat :=
  let c512_i32_219 : BitVec 32 := 512#32
  let v328 : BitVec 32 := Scalar.muli v303 c512_i32_219
  let c0_i32_225 : BitVec 32 := 0#32
  ![v328.toNat, 0]
def k0_dev23 (v303 : BitVec 32) : Nat :=
  let c0_i32_222 : BitVec 32 := 0#32
  let c1_i32_221 : BitVec 32 := 1#32
  let v329 : BitVec 32 := Scalar.muli v303 c1_i32_221
  let v330 : BitVec 32 := Scalar.addi c0_i32_222 v329
  v330.toNat

def k0_chk22 (v303 : BitVec 32) : Prop :=
  (∀ a, (k0_off59 v303) a + S512x512.size a ≤ S8192x512.size a) ∧
  (∀ (hinb : ∀ a, (k0_off59 v303) a + S512x512.size a ≤ S8192x512.size a), (Rect.unit (s := S8192x512) (k0_off59 v303) S512x512.size hinb).PackedRows (EltTy.packing .bf16)) ∧
  (∀ a, (k0_off62 v303) a + S512x512.size a ≤ S8192x512.size a) ∧
  (∀ (hinb : ∀ a, (k0_off62 v303) a + S512x512.size a ≤ S8192x512.size a), (Rect.unit (s := S8192x512) (k0_off62 v303) S512x512.size hinb).WholeWords (EltTy.packing .bf16)) ∧
  ((k0_dev23 v303) < nD)
theorem k0_off59_inb : ∀ (v303 : BitVec 32) (k0_hw22 : k0_chk22 v303), ∀ a, (k0_off59 v303) a + S512x512.size a ≤ S8192x512.size a := fun v303 k0_hw22 => k0_hw22.1
theorem k0_off59_packedbf16 : ∀ (v303 : BitVec 32) (k0_hw22 : k0_chk22 v303), (Rect.unit (s := S8192x512) (k0_off59 v303) S512x512.size (k0_off59_inb v303 k0_hw22)).PackedRows (EltTy.packing .bf16) := fun v303 k0_hw22 => k0_hw22.2.1 (k0_off59_inb v303 k0_hw22)
theorem k0_off62_inb : ∀ (v303 : BitVec 32) (k0_hw22 : k0_chk22 v303), ∀ a, (k0_off62 v303) a + S512x512.size a ≤ S8192x512.size a := fun v303 k0_hw22 => k0_hw22.2.2.1
theorem k0_off62_wordsbf16 : ∀ (v303 : BitVec 32) (k0_hw22 : k0_chk22 v303), (Rect.unit (s := S8192x512) (k0_off62 v303) S512x512.size (k0_off62_inb v303 k0_hw22)).WholeWords (EltTy.packing .bf16) := fun v303 k0_hw22 => k0_hw22.2.2.2.1 (k0_off62_inb v303 k0_hw22)
theorem k0_dev23_lt : ∀ (v303 : BitVec 32) (k0_hw22 : k0_chk22 v303), (k0_dev23 v303) < nD := fun v303 k0_hw22 => k0_hw22.2.2.2.2

def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v338 : Index := Scalar.indexCast v2
  let c8_226 : Index := 8#32
  ![v338.toNat, 8]
def k0_off64 (v341 : BitVec 32) : Fin 2 → Nat :=
  let c512_i32_228 : BitVec 32 := 512#32
  let v342 : BitVec 32 := Scalar.muli v341 c512_i32_228
  let c0_i32_233 : BitVec 32 := 0#32
  ![v342.toNat, 0]

def k0_chk23 (v341 : BitVec 32) : Prop :=
  (∀ a, (k0_off64 v341) a + S512x512.size a ≤ S8192x512.size a)
theorem k0_off64_inb : ∀ (v341 : BitVec 32) (k0_hw23 : k0_chk23 v341), ∀ a, (k0_off64 v341) a + S512x512.size a ≤ S8192x512.size a := fun v341 k0_hw23 => k0_hw23

def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v348 : Index := Scalar.indexCast v2
  let c7 : Index := 7#32
  ![v348.toNat, 7]
def k0_off66 (v349 : BitVec 32) : Fin 2 → Nat :=
  let c512_i32_234 : BitVec 32 := 512#32
  let v350 : BitVec 32 := Scalar.muli v349 c512_i32_234
  let c0_i32_239 : BitVec 32 := 0#32
  ![v350.toNat, 0]

def k0_chk24 (v349 : BitVec 32) : Prop :=
  (∀ a, (k0_off66 v349) a + S512x512.size a ≤ S8192x512.size a)
theorem k0_off66_inb : ∀ (v349 : BitVec 32) (k0_hw24 : k0_chk24 v349), ∀ a, (k0_off66 v349) a + S512x512.size a ≤ S8192x512.size a := fun v349 k0_hw24 => k0_hw24

def k0_off67 (v339 : BitVec 32) : Fin 2 → Nat :=
  let c512_i32_243 : BitVec 32 := 512#32
  let v359 : BitVec 32 := Scalar.muli v339 c512_i32_243
  let v360 : Index := Scalar.indexCast v359
  let c0_244 : Index := 0#32
  ![v360.toNat, 0]

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_249 : BitVec 32 := 0#32
  let c0_i32_250 : BitVec 32 := 0#32
  ![v2.toNat, 0, 0]
def k0_off70 (v339 : BitVec 32) : Fin 2 → Nat :=
  let c512_i32_245 : BitVec 32 := 512#32
  let v364 : BitVec 32 := Scalar.muli v339 c512_i32_245
  let c0_i32_251 : BitVec 32 := 0#32
  ![v364.toNat, 0]
def k0_dev24 (v339 : BitVec 32) : Nat :=
  let c0_i32_248 : BitVec 32 := 0#32
  let c1_i32_247 : BitVec 32 := 1#32
  let v365 : BitVec 32 := Scalar.muli v339 c1_i32_247
  let v366 : BitVec 32 := Scalar.addi c0_i32_248 v365
  v366.toNat

def k0_chk25 (v339 : BitVec 32) : Prop :=
  (∀ a, (k0_off67 v339) a + S512x512.size a ≤ S8192x512.size a) ∧
  (∀ (hinb : ∀ a, (k0_off67 v339) a + S512x512.size a ≤ S8192x512.size a), (Rect.unit (s := S8192x512) (k0_off67 v339) S512x512.size hinb).PackedRows (EltTy.packing .bf16)) ∧
  (∀ a, (k0_off70 v339) a + S512x512.size a ≤ S8192x512.size a) ∧
  (∀ (hinb : ∀ a, (k0_off70 v339) a + S512x512.size a ≤ S8192x512.size a), (Rect.unit (s := S8192x512) (k0_off70 v339) S512x512.size hinb).WholeWords (EltTy.packing .bf16)) ∧
  ((k0_dev24 v339) < nD)
theorem k0_off67_inb : ∀ (v339 : BitVec 32) (k0_hw25 : k0_chk25 v339), ∀ a, (k0_off67 v339) a + S512x512.size a ≤ S8192x512.size a := fun v339 k0_hw25 => k0_hw25.1
theorem k0_off67_packedbf16 : ∀ (v339 : BitVec 32) (k0_hw25 : k0_chk25 v339), (Rect.unit (s := S8192x512) (k0_off67 v339) S512x512.size (k0_off67_inb v339 k0_hw25)).PackedRows (EltTy.packing .bf16) := fun v339 k0_hw25 => k0_hw25.2.1 (k0_off67_inb v339 k0_hw25)
theorem k0_off70_inb : ∀ (v339 : BitVec 32) (k0_hw25 : k0_chk25 v339), ∀ a, (k0_off70 v339) a + S512x512.size a ≤ S8192x512.size a := fun v339 k0_hw25 => k0_hw25.2.2.1
theorem k0_off70_wordsbf16 : ∀ (v339 : BitVec 32) (k0_hw25 : k0_chk25 v339), (Rect.unit (s := S8192x512) (k0_off70 v339) S512x512.size (k0_off70_inb v339 k0_hw25)).WholeWords (EltTy.packing .bf16) := fun v339 k0_hw25 => k0_hw25.2.2.2.1 (k0_off70_inb v339 k0_hw25)
theorem k0_dev24_lt : ∀ (v339 : BitVec 32) (k0_hw25 : k0_chk25 v339), (k0_dev24 v339) < nD := fun v339 k0_hw25 => k0_hw25.2.2.2.2

def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v374 : Index := Scalar.indexCast v2
  let c7_252 : Index := 7#32
  ![v374.toNat, 7]
def k0_off72 (v377 : BitVec 32) : Fin 2 → Nat :=
  let c512_i32_254 : BitVec 32 := 512#32
  let v378 : BitVec 32 := Scalar.muli v377 c512_i32_254
  let c0_i32_259 : BitVec 32 := 0#32
  ![v378.toNat, 0]

def k0_chk26 (v377 : BitVec 32) : Prop :=
  (∀ a, (k0_off72 v377) a + S512x512.size a ≤ S8192x512.size a)
theorem k0_off72_inb : ∀ (v377 : BitVec 32) (k0_hw26 : k0_chk26 v377), ∀ a, (k0_off72 v377) a + S512x512.size a ≤ S8192x512.size a := fun v377 k0_hw26 => k0_hw26

def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v384 : Index := Scalar.indexCast v2
  let c6 : Index := 6#32
  ![v384.toNat, 6]
def k0_off74 (v385 : BitVec 32) : Fin 2 → Nat :=
  let c512_i32_260 : BitVec 32 := 512#32
  let v386 : BitVec 32 := Scalar.muli v385 c512_i32_260
  let c0_i32_265 : BitVec 32 := 0#32
  ![v386.toNat, 0]

def k0_chk27 (v385 : BitVec 32) : Prop :=
  (∀ a, (k0_off74 v385) a + S512x512.size a ≤ S8192x512.size a)
theorem k0_off74_inb : ∀ (v385 : BitVec 32) (k0_hw27 : k0_chk27 v385), ∀ a, (k0_off74 v385) a + S512x512.size a ≤ S8192x512.size a := fun v385 k0_hw27 => k0_hw27

def k0_off75 (v375 : BitVec 32) : Fin 2 → Nat :=
  let c512_i32_269 : BitVec 32 := 512#32
  let v395 : BitVec 32 := Scalar.muli v375 c512_i32_269
  let v396 : Index := Scalar.indexCast v395
  let c0_270 : Index := 0#32
  ![v396.toNat, 0]

def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_275 : BitVec 32 := 0#32
  let c0_i32_276 : BitVec 32 := 0#32
  ![v2.toNat, 0, 0]
def k0_off78 (v375 : BitVec 32) : Fin 2 → Nat :=
  let c512_i32_271 : BitVec 32 := 512#32
  let v400 : BitVec 32 := Scalar.muli v375 c512_i32_271
  let c0_i32_277 : BitVec 32 := 0#32
  ![v400.toNat, 0]
def k0_dev25 (v375 : BitVec 32) : Nat :=
  let c0_i32_274 : BitVec 32 := 0#32
  let c1_i32_273 : BitVec 32 := 1#32
  let v401 : BitVec 32 := Scalar.muli v375 c1_i32_273
  let v402 : BitVec 32 := Scalar.addi c0_i32_274 v401
  v402.toNat

def k0_chk28 (v375 : BitVec 32) : Prop :=
  (∀ a, (k0_off75 v375) a + S512x512.size a ≤ S8192x512.size a) ∧
  (∀ (hinb : ∀ a, (k0_off75 v375) a + S512x512.size a ≤ S8192x512.size a), (Rect.unit (s := S8192x512) (k0_off75 v375) S512x512.size hinb).PackedRows (EltTy.packing .bf16)) ∧
  (∀ a, (k0_off78 v375) a + S512x512.size a ≤ S8192x512.size a) ∧
  (∀ (hinb : ∀ a, (k0_off78 v375) a + S512x512.size a ≤ S8192x512.size a), (Rect.unit (s := S8192x512) (k0_off78 v375) S512x512.size hinb).WholeWords (EltTy.packing .bf16)) ∧
  ((k0_dev25 v375) < nD)
theorem k0_off75_inb : ∀ (v375 : BitVec 32) (k0_hw28 : k0_chk28 v375), ∀ a, (k0_off75 v375) a + S512x512.size a ≤ S8192x512.size a := fun v375 k0_hw28 => k0_hw28.1
theorem k0_off75_packedbf16 : ∀ (v375 : BitVec 32) (k0_hw28 : k0_chk28 v375), (Rect.unit (s := S8192x512) (k0_off75 v375) S512x512.size (k0_off75_inb v375 k0_hw28)).PackedRows (EltTy.packing .bf16) := fun v375 k0_hw28 => k0_hw28.2.1 (k0_off75_inb v375 k0_hw28)
theorem k0_off78_inb : ∀ (v375 : BitVec 32) (k0_hw28 : k0_chk28 v375), ∀ a, (k0_off78 v375) a + S512x512.size a ≤ S8192x512.size a := fun v375 k0_hw28 => k0_hw28.2.2.1
theorem k0_off78_wordsbf16 : ∀ (v375 : BitVec 32) (k0_hw28 : k0_chk28 v375), (Rect.unit (s := S8192x512) (k0_off78 v375) S512x512.size (k0_off78_inb v375 k0_hw28)).WholeWords (EltTy.packing .bf16) := fun v375 k0_hw28 => k0_hw28.2.2.2.1 (k0_off78_inb v375 k0_hw28)
theorem k0_dev25_lt : ∀ (v375 : BitVec 32) (k0_hw28 : k0_chk28 v375), (k0_dev25 v375) < nD := fun v375 k0_hw28 => k0_hw28.2.2.2.2

def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v410 : Index := Scalar.indexCast v2
  let c6_278 : Index := 6#32
  ![v410.toNat, 6]
def k0_off80 (v413 : BitVec 32) : Fin 2 → Nat :=
  let c512_i32_280 : BitVec 32 := 512#32
  let v414 : BitVec 32 := Scalar.muli v413 c512_i32_280
  let c0_i32_285 : BitVec 32 := 0#32
  ![v414.toNat, 0]

def k0_chk29 (v413 : BitVec 32) : Prop :=
  (∀ a, (k0_off80 v413) a + S512x512.size a ≤ S8192x512.size a)
theorem k0_off80_inb : ∀ (v413 : BitVec 32) (k0_hw29 : k0_chk29 v413), ∀ a, (k0_off80 v413) a + S512x512.size a ≤ S8192x512.size a := fun v413 k0_hw29 => k0_hw29

def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v420 : Index := Scalar.indexCast v2
  let c5 : Index := 5#32
  ![v420.toNat, 5]
def k0_off82 (v421 : BitVec 32) : Fin 2 → Nat :=
  let c512_i32_286 : BitVec 32 := 512#32
  let v422 : BitVec 32 := Scalar.muli v421 c512_i32_286
  let c0_i32_291 : BitVec 32 := 0#32
  ![v422.toNat, 0]

def k0_chk30 (v421 : BitVec 32) : Prop :=
  (∀ a, (k0_off82 v421) a + S512x512.size a ≤ S8192x512.size a)
theorem k0_off82_inb : ∀ (v421 : BitVec 32) (k0_hw30 : k0_chk30 v421), ∀ a, (k0_off82 v421) a + S512x512.size a ≤ S8192x512.size a := fun v421 k0_hw30 => k0_hw30

def k0_off83 (v411 : BitVec 32) : Fin 2 → Nat :=
  let c512_i32_295 : BitVec 32 := 512#32
  let v431 : BitVec 32 := Scalar.muli v411 c512_i32_295
  let v432 : Index := Scalar.indexCast v431
  let c0_296 : Index := 0#32
  ![v432.toNat, 0]

def k0_off84 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_301 : BitVec 32 := 0#32
  let c0_i32_302 : BitVec 32 := 0#32
  ![v2.toNat, 0, 0]
def k0_off86 (v411 : BitVec 32) : Fin 2 → Nat :=
  let c512_i32_297 : BitVec 32 := 512#32
  let v436 : BitVec 32 := Scalar.muli v411 c512_i32_297
  let c0_i32_303 : BitVec 32 := 0#32
  ![v436.toNat, 0]
def k0_dev26 (v411 : BitVec 32) : Nat :=
  let c0_i32_300 : BitVec 32 := 0#32
  let c1_i32_299 : BitVec 32 := 1#32
  let v437 : BitVec 32 := Scalar.muli v411 c1_i32_299
  let v438 : BitVec 32 := Scalar.addi c0_i32_300 v437
  v438.toNat

def k0_chk31 (v411 : BitVec 32) : Prop :=
  (∀ a, (k0_off83 v411) a + S512x512.size a ≤ S8192x512.size a) ∧
  (∀ (hinb : ∀ a, (k0_off83 v411) a + S512x512.size a ≤ S8192x512.size a), (Rect.unit (s := S8192x512) (k0_off83 v411) S512x512.size hinb).PackedRows (EltTy.packing .bf16)) ∧
  (∀ a, (k0_off86 v411) a + S512x512.size a ≤ S8192x512.size a) ∧
  (∀ (hinb : ∀ a, (k0_off86 v411) a + S512x512.size a ≤ S8192x512.size a), (Rect.unit (s := S8192x512) (k0_off86 v411) S512x512.size hinb).WholeWords (EltTy.packing .bf16)) ∧
  ((k0_dev26 v411) < nD)
theorem k0_off83_inb : ∀ (v411 : BitVec 32) (k0_hw31 : k0_chk31 v411), ∀ a, (k0_off83 v411) a + S512x512.size a ≤ S8192x512.size a := fun v411 k0_hw31 => k0_hw31.1
theorem k0_off83_packedbf16 : ∀ (v411 : BitVec 32) (k0_hw31 : k0_chk31 v411), (Rect.unit (s := S8192x512) (k0_off83 v411) S512x512.size (k0_off83_inb v411 k0_hw31)).PackedRows (EltTy.packing .bf16) := fun v411 k0_hw31 => k0_hw31.2.1 (k0_off83_inb v411 k0_hw31)
theorem k0_off86_inb : ∀ (v411 : BitVec 32) (k0_hw31 : k0_chk31 v411), ∀ a, (k0_off86 v411) a + S512x512.size a ≤ S8192x512.size a := fun v411 k0_hw31 => k0_hw31.2.2.1
theorem k0_off86_wordsbf16 : ∀ (v411 : BitVec 32) (k0_hw31 : k0_chk31 v411), (Rect.unit (s := S8192x512) (k0_off86 v411) S512x512.size (k0_off86_inb v411 k0_hw31)).WholeWords (EltTy.packing .bf16) := fun v411 k0_hw31 => k0_hw31.2.2.2.1 (k0_off86_inb v411 k0_hw31)
theorem k0_dev26_lt : ∀ (v411 : BitVec 32) (k0_hw31 : k0_chk31 v411), (k0_dev26 v411) < nD := fun v411 k0_hw31 => k0_hw31.2.2.2.2

def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v446 : Index := Scalar.indexCast v2
  let c5_304 : Index := 5#32
  ![v446.toNat, 5]
def k0_off88 (v449 : BitVec 32) : Fin 2 → Nat :=
  let c512_i32_306 : BitVec 32 := 512#32
  let v450 : BitVec 32 := Scalar.muli v449 c512_i32_306
  let c0_i32_311 : BitVec 32 := 0#32
  ![v450.toNat, 0]

def k0_chk32 (v449 : BitVec 32) : Prop :=
  (∀ a, (k0_off88 v449) a + S512x512.size a ≤ S8192x512.size a)
theorem k0_off88_inb : ∀ (v449 : BitVec 32) (k0_hw32 : k0_chk32 v449), ∀ a, (k0_off88 v449) a + S512x512.size a ≤ S8192x512.size a := fun v449 k0_hw32 => k0_hw32

def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v456 : Index := Scalar.indexCast v2
  let c4 : Index := 4#32
  ![v456.toNat, 4]
def k0_off90 (v457 : BitVec 32) : Fin 2 → Nat :=
  let c512_i32_312 : BitVec 32 := 512#32
  let v458 : BitVec 32 := Scalar.muli v457 c512_i32_312
  let c0_i32_317 : BitVec 32 := 0#32
  ![v458.toNat, 0]

def k0_chk33 (v457 : BitVec 32) : Prop :=
  (∀ a, (k0_off90 v457) a + S512x512.size a ≤ S8192x512.size a)
theorem k0_off90_inb : ∀ (v457 : BitVec 32) (k0_hw33 : k0_chk33 v457), ∀ a, (k0_off90 v457) a + S512x512.size a ≤ S8192x512.size a := fun v457 k0_hw33 => k0_hw33

def k0_off91 (v447 : BitVec 32) : Fin 2 → Nat :=
  let c512_i32_321 : BitVec 32 := 512#32
  let v467 : BitVec 32 := Scalar.muli v447 c512_i32_321
  let v468 : Index := Scalar.indexCast v467
  let c0_322 : Index := 0#32
  ![v468.toNat, 0]

def k0_off92 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_327 : BitVec 32 := 0#32
  let c0_i32_328 : BitVec 32 := 0#32
  ![v2.toNat, 0, 0]
def k0_off94 (v447 : BitVec 32) : Fin 2 → Nat :=
  let c512_i32_323 : BitVec 32 := 512#32
  let v472 : BitVec 32 := Scalar.muli v447 c512_i32_323
  let c0_i32_329 : BitVec 32 := 0#32
  ![v472.toNat, 0]
def k0_dev27 (v447 : BitVec 32) : Nat :=
  let c0_i32_326 : BitVec 32 := 0#32
  let c1_i32_325 : BitVec 32 := 1#32
  let v473 : BitVec 32 := Scalar.muli v447 c1_i32_325
  let v474 : BitVec 32 := Scalar.addi c0_i32_326 v473
  v474.toNat

def k0_chk34 (v447 : BitVec 32) : Prop :=
  (∀ a, (k0_off91 v447) a + S512x512.size a ≤ S8192x512.size a) ∧
  (∀ (hinb : ∀ a, (k0_off91 v447) a + S512x512.size a ≤ S8192x512.size a), (Rect.unit (s := S8192x512) (k0_off91 v447) S512x512.size hinb).PackedRows (EltTy.packing .bf16)) ∧
  (∀ a, (k0_off94 v447) a + S512x512.size a ≤ S8192x512.size a) ∧
  (∀ (hinb : ∀ a, (k0_off94 v447) a + S512x512.size a ≤ S8192x512.size a), (Rect.unit (s := S8192x512) (k0_off94 v447) S512x512.size hinb).WholeWords (EltTy.packing .bf16)) ∧
  ((k0_dev27 v447) < nD)
theorem k0_off91_inb : ∀ (v447 : BitVec 32) (k0_hw34 : k0_chk34 v447), ∀ a, (k0_off91 v447) a + S512x512.size a ≤ S8192x512.size a := fun v447 k0_hw34 => k0_hw34.1
theorem k0_off91_packedbf16 : ∀ (v447 : BitVec 32) (k0_hw34 : k0_chk34 v447), (Rect.unit (s := S8192x512) (k0_off91 v447) S512x512.size (k0_off91_inb v447 k0_hw34)).PackedRows (EltTy.packing .bf16) := fun v447 k0_hw34 => k0_hw34.2.1 (k0_off91_inb v447 k0_hw34)
theorem k0_off94_inb : ∀ (v447 : BitVec 32) (k0_hw34 : k0_chk34 v447), ∀ a, (k0_off94 v447) a + S512x512.size a ≤ S8192x512.size a := fun v447 k0_hw34 => k0_hw34.2.2.1
theorem k0_off94_wordsbf16 : ∀ (v447 : BitVec 32) (k0_hw34 : k0_chk34 v447), (Rect.unit (s := S8192x512) (k0_off94 v447) S512x512.size (k0_off94_inb v447 k0_hw34)).WholeWords (EltTy.packing .bf16) := fun v447 k0_hw34 => k0_hw34.2.2.2.1 (k0_off94_inb v447 k0_hw34)
theorem k0_dev27_lt : ∀ (v447 : BitVec 32) (k0_hw34 : k0_chk34 v447), (k0_dev27 v447) < nD := fun v447 k0_hw34 => k0_hw34.2.2.2.2

def k0_off95 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v482 : Index := Scalar.indexCast v2
  let c4_330 : Index := 4#32
  ![v482.toNat, 4]
def k0_off96 (v485 : BitVec 32) : Fin 2 → Nat :=
  let c512_i32_332 : BitVec 32 := 512#32
  let v486 : BitVec 32 := Scalar.muli v485 c512_i32_332
  let c0_i32_337 : BitVec 32 := 0#32
  ![v486.toNat, 0]

def k0_chk35 (v485 : BitVec 32) : Prop :=
  (∀ a, (k0_off96 v485) a + S512x512.size a ≤ S8192x512.size a)
theorem k0_off96_inb : ∀ (v485 : BitVec 32) (k0_hw35 : k0_chk35 v485), ∀ a, (k0_off96 v485) a + S512x512.size a ≤ S8192x512.size a := fun v485 k0_hw35 => k0_hw35

def k0_off97 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v492 : Index := Scalar.indexCast v2
  let c3 : Index := 3#32
  ![v492.toNat, 3]
def k0_off98 (v493 : BitVec 32) : Fin 2 → Nat :=
  let c512_i32_338 : BitVec 32 := 512#32
  let v494 : BitVec 32 := Scalar.muli v493 c512_i32_338
  let c0_i32_343 : BitVec 32 := 0#32
  ![v494.toNat, 0]

def k0_chk36 (v493 : BitVec 32) : Prop :=
  (∀ a, (k0_off98 v493) a + S512x512.size a ≤ S8192x512.size a)
theorem k0_off98_inb : ∀ (v493 : BitVec 32) (k0_hw36 : k0_chk36 v493), ∀ a, (k0_off98 v493) a + S512x512.size a ≤ S8192x512.size a := fun v493 k0_hw36 => k0_hw36

def k0_off99 (v483 : BitVec 32) : Fin 2 → Nat :=
  let c512_i32_347 : BitVec 32 := 512#32
  let v503 : BitVec 32 := Scalar.muli v483 c512_i32_347
  let v504 : Index := Scalar.indexCast v503
  let c0_348 : Index := 0#32
  ![v504.toNat, 0]

def k0_off100 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off101 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_353 : BitVec 32 := 0#32
  let c0_i32_354 : BitVec 32 := 0#32
  ![v2.toNat, 0, 0]
def k0_off102 (v483 : BitVec 32) : Fin 2 → Nat :=
  let c512_i32_349 : BitVec 32 := 512#32
  let v508 : BitVec 32 := Scalar.muli v483 c512_i32_349
  let c0_i32_355 : BitVec 32 := 0#32
  ![v508.toNat, 0]
def k0_dev28 (v483 : BitVec 32) : Nat :=
  let c0_i32_352 : BitVec 32 := 0#32
  let c1_i32_351 : BitVec 32 := 1#32
  let v509 : BitVec 32 := Scalar.muli v483 c1_i32_351
  let v510 : BitVec 32 := Scalar.addi c0_i32_352 v509
  v510.toNat

def k0_chk37 (v483 : BitVec 32) : Prop :=
  (∀ a, (k0_off99 v483) a + S512x512.size a ≤ S8192x512.size a) ∧
  (∀ (hinb : ∀ a, (k0_off99 v483) a + S512x512.size a ≤ S8192x512.size a), (Rect.unit (s := S8192x512) (k0_off99 v483) S512x512.size hinb).PackedRows (EltTy.packing .bf16)) ∧
  (∀ a, (k0_off102 v483) a + S512x512.size a ≤ S8192x512.size a) ∧
  (∀ (hinb : ∀ a, (k0_off102 v483) a + S512x512.size a ≤ S8192x512.size a), (Rect.unit (s := S8192x512) (k0_off102 v483) S512x512.size hinb).WholeWords (EltTy.packing .bf16)) ∧
  ((k0_dev28 v483) < nD)
theorem k0_off99_inb : ∀ (v483 : BitVec 32) (k0_hw37 : k0_chk37 v483), ∀ a, (k0_off99 v483) a + S512x512.size a ≤ S8192x512.size a := fun v483 k0_hw37 => k0_hw37.1
theorem k0_off99_packedbf16 : ∀ (v483 : BitVec 32) (k0_hw37 : k0_chk37 v483), (Rect.unit (s := S8192x512) (k0_off99 v483) S512x512.size (k0_off99_inb v483 k0_hw37)).PackedRows (EltTy.packing .bf16) := fun v483 k0_hw37 => k0_hw37.2.1 (k0_off99_inb v483 k0_hw37)
theorem k0_off102_inb : ∀ (v483 : BitVec 32) (k0_hw37 : k0_chk37 v483), ∀ a, (k0_off102 v483) a + S512x512.size a ≤ S8192x512.size a := fun v483 k0_hw37 => k0_hw37.2.2.1
theorem k0_off102_wordsbf16 : ∀ (v483 : BitVec 32) (k0_hw37 : k0_chk37 v483), (Rect.unit (s := S8192x512) (k0_off102 v483) S512x512.size (k0_off102_inb v483 k0_hw37)).WholeWords (EltTy.packing .bf16) := fun v483 k0_hw37 => k0_hw37.2.2.2.1 (k0_off102_inb v483 k0_hw37)
theorem k0_dev28_lt : ∀ (v483 : BitVec 32) (k0_hw37 : k0_chk37 v483), (k0_dev28 v483) < nD := fun v483 k0_hw37 => k0_hw37.2.2.2.2

def k0_off103 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : Index := Scalar.indexCast v2
  let c3_356 : Index := 3#32
  ![v518.toNat, 3]
def k0_off104 (v521 : BitVec 32) : Fin 2 → Nat :=
  let c512_i32_358 : BitVec 32 := 512#32
  let v522 : BitVec 32 := Scalar.muli v521 c512_i32_358
  let c0_i32_363 : BitVec 32 := 0#32
  ![v522.toNat, 0]

def k0_chk38 (v521 : BitVec 32) : Prop :=
  (∀ a, (k0_off104 v521) a + S512x512.size a ≤ S8192x512.size a)
theorem k0_off104_inb : ∀ (v521 : BitVec 32) (k0_hw38 : k0_chk38 v521), ∀ a, (k0_off104 v521) a + S512x512.size a ≤ S8192x512.size a := fun v521 k0_hw38 => k0_hw38

def k0_off105 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v528 : Index := Scalar.indexCast v2
  let c2 : Index := 2#32
  ![v528.toNat, 2]
def k0_off106 (v529 : BitVec 32) : Fin 2 → Nat :=
  let c512_i32_364 : BitVec 32 := 512#32
  let v530 : BitVec 32 := Scalar.muli v529 c512_i32_364
  let c0_i32_369 : BitVec 32 := 0#32
  ![v530.toNat, 0]

def k0_chk39 (v529 : BitVec 32) : Prop :=
  (∀ a, (k0_off106 v529) a + S512x512.size a ≤ S8192x512.size a)
theorem k0_off106_inb : ∀ (v529 : BitVec 32) (k0_hw39 : k0_chk39 v529), ∀ a, (k0_off106 v529) a + S512x512.size a ≤ S8192x512.size a := fun v529 k0_hw39 => k0_hw39

def k0_off107 (v519 : BitVec 32) : Fin 2 → Nat :=
  let c512_i32_373 : BitVec 32 := 512#32
  let v539 : BitVec 32 := Scalar.muli v519 c512_i32_373
  let v540 : Index := Scalar.indexCast v539
  let c0_374 : Index := 0#32
  ![v540.toNat, 0]

def k0_off108 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off109 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_379 : BitVec 32 := 0#32
  let c0_i32_380 : BitVec 32 := 0#32
  ![v2.toNat, 0, 0]
def k0_off110 (v519 : BitVec 32) : Fin 2 → Nat :=
  let c512_i32_375 : BitVec 32 := 512#32
  let v544 : BitVec 32 := Scalar.muli v519 c512_i32_375
  let c0_i32_381 : BitVec 32 := 0#32
  ![v544.toNat, 0]
def k0_dev29 (v519 : BitVec 32) : Nat :=
  let c0_i32_378 : BitVec 32 := 0#32
  let c1_i32_377 : BitVec 32 := 1#32
  let v545 : BitVec 32 := Scalar.muli v519 c1_i32_377
  let v546 : BitVec 32 := Scalar.addi c0_i32_378 v545
  v546.toNat

def k0_chk40 (v519 : BitVec 32) : Prop :=
  (∀ a, (k0_off107 v519) a + S512x512.size a ≤ S8192x512.size a) ∧
  (∀ (hinb : ∀ a, (k0_off107 v519) a + S512x512.size a ≤ S8192x512.size a), (Rect.unit (s := S8192x512) (k0_off107 v519) S512x512.size hinb).PackedRows (EltTy.packing .bf16)) ∧
  (∀ a, (k0_off110 v519) a + S512x512.size a ≤ S8192x512.size a) ∧
  (∀ (hinb : ∀ a, (k0_off110 v519) a + S512x512.size a ≤ S8192x512.size a), (Rect.unit (s := S8192x512) (k0_off110 v519) S512x512.size hinb).WholeWords (EltTy.packing .bf16)) ∧
  ((k0_dev29 v519) < nD)
theorem k0_off107_inb : ∀ (v519 : BitVec 32) (k0_hw40 : k0_chk40 v519), ∀ a, (k0_off107 v519) a + S512x512.size a ≤ S8192x512.size a := fun v519 k0_hw40 => k0_hw40.1
theorem k0_off107_packedbf16 : ∀ (v519 : BitVec 32) (k0_hw40 : k0_chk40 v519), (Rect.unit (s := S8192x512) (k0_off107 v519) S512x512.size (k0_off107_inb v519 k0_hw40)).PackedRows (EltTy.packing .bf16) := fun v519 k0_hw40 => k0_hw40.2.1 (k0_off107_inb v519 k0_hw40)
theorem k0_off110_inb : ∀ (v519 : BitVec 32) (k0_hw40 : k0_chk40 v519), ∀ a, (k0_off110 v519) a + S512x512.size a ≤ S8192x512.size a := fun v519 k0_hw40 => k0_hw40.2.2.1
theorem k0_off110_wordsbf16 : ∀ (v519 : BitVec 32) (k0_hw40 : k0_chk40 v519), (Rect.unit (s := S8192x512) (k0_off110 v519) S512x512.size (k0_off110_inb v519 k0_hw40)).WholeWords (EltTy.packing .bf16) := fun v519 k0_hw40 => k0_hw40.2.2.2.1 (k0_off110_inb v519 k0_hw40)
theorem k0_dev29_lt : ∀ (v519 : BitVec 32) (k0_hw40 : k0_chk40 v519), (k0_dev29 v519) < nD := fun v519 k0_hw40 => k0_hw40.2.2.2.2

def k0_off111 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v554 : Index := Scalar.indexCast v2
  let c2_382 : Index := 2#32
  ![v554.toNat, 2]
def k0_off112 (v557 : BitVec 32) : Fin 2 → Nat :=
  let c512_i32_384 : BitVec 32 := 512#32
  let v558 : BitVec 32 := Scalar.muli v557 c512_i32_384
  let c0_i32_389 : BitVec 32 := 0#32
  ![v558.toNat, 0]

def k0_chk41 (v557 : BitVec 32) : Prop :=
  (∀ a, (k0_off112 v557) a + S512x512.size a ≤ S8192x512.size a)
theorem k0_off112_inb : ∀ (v557 : BitVec 32) (k0_hw41 : k0_chk41 v557), ∀ a, (k0_off112 v557) a + S512x512.size a ≤ S8192x512.size a := fun v557 k0_hw41 => k0_hw41

def k0_off113 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v564 : Index := Scalar.indexCast v2
  let c1_390 : Index := 1#32
  ![v564.toNat, 1]
def k0_off114 (v565 : BitVec 32) : Fin 2 → Nat :=
  let c512_i32_391 : BitVec 32 := 512#32
  let v566 : BitVec 32 := Scalar.muli v565 c512_i32_391
  let c0_i32_396 : BitVec 32 := 0#32
  ![v566.toNat, 0]

def k0_chk42 (v565 : BitVec 32) : Prop :=
  (∀ a, (k0_off114 v565) a + S512x512.size a ≤ S8192x512.size a)
theorem k0_off114_inb : ∀ (v565 : BitVec 32) (k0_hw42 : k0_chk42 v565), ∀ a, (k0_off114 v565) a + S512x512.size a ≤ S8192x512.size a := fun v565 k0_hw42 => k0_hw42

def k0_off115 (v555 : BitVec 32) : Fin 2 → Nat :=
  let c512_i32_400 : BitVec 32 := 512#32
  let v575 : BitVec 32 := Scalar.muli v555 c512_i32_400
  let v576 : Index := Scalar.indexCast v575
  let c0_401 : Index := 0#32
  ![v576.toNat, 0]

def k0_off116 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off117 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_406 : BitVec 32 := 0#32
  let c0_i32_407 : BitVec 32 := 0#32
  ![v2.toNat, 0, 0]
def k0_off118 (v555 : BitVec 32) : Fin 2 → Nat :=
  let c512_i32_402 : BitVec 32 := 512#32
  let v580 : BitVec 32 := Scalar.muli v555 c512_i32_402
  let c0_i32_408 : BitVec 32 := 0#32
  ![v580.toNat, 0]
def k0_dev30 (v555 : BitVec 32) : Nat :=
  let c0_i32_405 : BitVec 32 := 0#32
  let c1_i32_404 : BitVec 32 := 1#32
  let v581 : BitVec 32 := Scalar.muli v555 c1_i32_404
  let v582 : BitVec 32 := Scalar.addi c0_i32_405 v581
  v582.toNat

def k0_chk43 (v555 : BitVec 32) : Prop :=
  (∀ a, (k0_off115 v555) a + S512x512.size a ≤ S8192x512.size a) ∧
  (∀ (hinb : ∀ a, (k0_off115 v555) a + S512x512.size a ≤ S8192x512.size a), (Rect.unit (s := S8192x512) (k0_off115 v555) S512x512.size hinb).PackedRows (EltTy.packing .bf16)) ∧
  (∀ a, (k0_off118 v555) a + S512x512.size a ≤ S8192x512.size a) ∧
  (∀ (hinb : ∀ a, (k0_off118 v555) a + S512x512.size a ≤ S8192x512.size a), (Rect.unit (s := S8192x512) (k0_off118 v555) S512x512.size hinb).WholeWords (EltTy.packing .bf16)) ∧
  ((k0_dev30 v555) < nD)
theorem k0_off115_inb : ∀ (v555 : BitVec 32) (k0_hw43 : k0_chk43 v555), ∀ a, (k0_off115 v555) a + S512x512.size a ≤ S8192x512.size a := fun v555 k0_hw43 => k0_hw43.1
theorem k0_off115_packedbf16 : ∀ (v555 : BitVec 32) (k0_hw43 : k0_chk43 v555), (Rect.unit (s := S8192x512) (k0_off115 v555) S512x512.size (k0_off115_inb v555 k0_hw43)).PackedRows (EltTy.packing .bf16) := fun v555 k0_hw43 => k0_hw43.2.1 (k0_off115_inb v555 k0_hw43)
theorem k0_off118_inb : ∀ (v555 : BitVec 32) (k0_hw43 : k0_chk43 v555), ∀ a, (k0_off118 v555) a + S512x512.size a ≤ S8192x512.size a := fun v555 k0_hw43 => k0_hw43.2.2.1
theorem k0_off118_wordsbf16 : ∀ (v555 : BitVec 32) (k0_hw43 : k0_chk43 v555), (Rect.unit (s := S8192x512) (k0_off118 v555) S512x512.size (k0_off118_inb v555 k0_hw43)).WholeWords (EltTy.packing .bf16) := fun v555 k0_hw43 => k0_hw43.2.2.2.1 (k0_off118_inb v555 k0_hw43)
theorem k0_dev30_lt : ∀ (v555 : BitVec 32) (k0_hw43 : k0_chk43 v555), (k0_dev30 v555) < nD := fun v555 k0_hw43 => k0_hw43.2.2.2.2

def k0_off119 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v590 : Index := Scalar.indexCast v2
  let c1_409 : Index := 1#32
  ![v590.toNat, 1]
def k0_off120 (v593 : BitVec 32) : Fin 2 → Nat :=
  let c512_i32_411 : BitVec 32 := 512#32
  let v594 : BitVec 32 := Scalar.muli v593 c512_i32_411
  let c0_i32_416 : BitVec 32 := 0#32
  ![v594.toNat, 0]

def k0_chk44 (v593 : BitVec 32) : Prop :=
  (∀ a, (k0_off120 v593) a + S512x512.size a ≤ S8192x512.size a)
theorem k0_off120_inb : ∀ (v593 : BitVec 32) (k0_hw44 : k0_chk44 v593), ∀ a, (k0_off120 v593) a + S512x512.size a ≤ S8192x512.size a := fun v593 k0_hw44 => k0_hw44

def k0_off121 (v591 : BitVec 32) : Fin 2 → Nat :=
  let c512_i32_420 : BitVec 32 := 512#32
  let v603 : BitVec 32 := Scalar.muli v591 c512_i32_420
  let v604 : Index := Scalar.indexCast v603
  let c0_421 : Index := 0#32
  ![v604.toNat, 0]

def k0_off122 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off123 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_426 : BitVec 32 := 0#32
  let c0_i32_427 : BitVec 32 := 0#32
  ![v2.toNat, 0, 0]
def k0_off124 (v591 : BitVec 32) : Fin 2 → Nat :=
  let c512_i32_422 : BitVec 32 := 512#32
  let v608 : BitVec 32 := Scalar.muli v591 c512_i32_422
  let c0_i32_428 : BitVec 32 := 0#32
  ![v608.toNat, 0]
def k0_dev31 (v591 : BitVec 32) : Nat :=
  let c0_i32_425 : BitVec 32 := 0#32
  let c1_i32_424 : BitVec 32 := 1#32
  let v609 : BitVec 32 := Scalar.muli v591 c1_i32_424
  let v610 : BitVec 32 := Scalar.addi c0_i32_425 v609
  v610.toNat

def k0_chk45 (v591 : BitVec 32) : Prop :=
  (∀ a, (k0_off121 v591) a + S512x512.size a ≤ S8192x512.size a) ∧
  (∀ (hinb : ∀ a, (k0_off121 v591) a + S512x512.size a ≤ S8192x512.size a), (Rect.unit (s := S8192x512) (k0_off121 v591) S512x512.size hinb).PackedRows (EltTy.packing .bf16)) ∧
  (∀ a, (k0_off124 v591) a + S512x512.size a ≤ S8192x512.size a) ∧
  (∀ (hinb : ∀ a, (k0_off124 v591) a + S512x512.size a ≤ S8192x512.size a), (Rect.unit (s := S8192x512) (k0_off124 v591) S512x512.size hinb).WholeWords (EltTy.packing .bf16)) ∧
  ((k0_dev31 v591) < nD)
theorem k0_off121_inb : ∀ (v591 : BitVec 32) (k0_hw45 : k0_chk45 v591), ∀ a, (k0_off121 v591) a + S512x512.size a ≤ S8192x512.size a := fun v591 k0_hw45 => k0_hw45.1
theorem k0_off121_packedbf16 : ∀ (v591 : BitVec 32) (k0_hw45 : k0_chk45 v591), (Rect.unit (s := S8192x512) (k0_off121 v591) S512x512.size (k0_off121_inb v591 k0_hw45)).PackedRows (EltTy.packing .bf16) := fun v591 k0_hw45 => k0_hw45.2.1 (k0_off121_inb v591 k0_hw45)
theorem k0_off124_inb : ∀ (v591 : BitVec 32) (k0_hw45 : k0_chk45 v591), ∀ a, (k0_off124 v591) a + S512x512.size a ≤ S8192x512.size a := fun v591 k0_hw45 => k0_hw45.2.2.1
theorem k0_off124_wordsbf16 : ∀ (v591 : BitVec 32) (k0_hw45 : k0_chk45 v591), (Rect.unit (s := S8192x512) (k0_off124 v591) S512x512.size (k0_off124_inb v591 k0_hw45)).WholeWords (EltTy.packing .bf16) := fun v591 k0_hw45 => k0_hw45.2.2.2.1 (k0_off124_inb v591 k0_hw45)
theorem k0_dev31_lt : ∀ (v591 : BitVec 32) (k0_hw45 : k0_chk45 v591), (k0_dev31 v591) < nD := fun v591 k0_hw45 => k0_hw45.2.2.2.2

def k0_off125 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v618 : Index := Scalar.indexCast v2
  let c0_429 : Index := 0#32
  ![v618.toNat, 0]
def k0_off126 (v619 : BitVec 32) : Fin 2 → Nat :=
  let c512_i32_430 : BitVec 32 := 512#32
  let v620 : BitVec 32 := Scalar.muli v619 c512_i32_430
  let c0_i32_435 : BitVec 32 := 0#32
  ![v620.toNat, 0]

def k0_chk46 (v619 : BitVec 32) : Prop :=
  (∀ a, (k0_off126 v619) a + S512x4096.size a ≤ S8192x4096.size a)
theorem k0_off126_inb : ∀ (v619 : BitVec 32) (k0_hw46 : k0_chk46 v619), ∀ a, (k0_off126 v619) a + S512x4096.size a ≤ S8192x4096.size a := fun v619 k0_hw46 => k0_hw46

def k0_off127 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v626 : Index := Scalar.indexCast v2
  let c1_436 : Index := 1#32
  ![v626.toNat, 1]
def k0_off128 (v627 : BitVec 32) : Fin 2 → Nat :=
  let c512_i32_437 : BitVec 32 := 512#32
  let v628 : BitVec 32 := Scalar.muli v627 c512_i32_437
  let c0_i32_442 : BitVec 32 := 0#32
  ![v628.toNat, 0]

def k0_chk47 (v627 : BitVec 32) : Prop :=
  (∀ a, (k0_off128 v627) a + S512x4096.size a ≤ S8192x4096.size a)
theorem k0_off128_inb : ∀ (v627 : BitVec 32) (k0_hw47 : k0_chk47 v627), ∀ a, (k0_off128 v627) a + S512x4096.size a ≤ S8192x4096.size a := fun v627 k0_hw47 => k0_hw47

def k0_off129 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_443 : BitVec 32 := 512#32
  let v634 : BitVec 32 := Scalar.muli v2 c512_i32_443
  let v635 : Index := Scalar.indexCast v634
  let c0_444 : Index := 0#32
  ![v635.toNat, 0]
def k0_off130 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v641 : Index := Scalar.indexCast v2
  let c1_450 : Index := 1#32
  ![v641.toNat, 1]
def k0_off131 (v642 : BitVec 32) : Fin 2 → Nat :=
  let c512_i32_451 : BitVec 32 := 512#32
  let v643 : BitVec 32 := Scalar.muli v642 c512_i32_451
  let c0_i32_456 : BitVec 32 := 0#32
  ![v643.toNat, 0]

def k0_off132 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v649 : Index := Scalar.indexCast v2
  let c2_457 : Index := 2#32
  ![v649.toNat, 2]
def k0_off133 (v650 : BitVec 32) : Fin 2 → Nat :=
  let c512_i32_458 : BitVec 32 := 512#32
  let v651 : BitVec 32 := Scalar.muli v650 c512_i32_458
  let c0_i32_463 : BitVec 32 := 0#32
  ![v651.toNat, 0]

def k0_chk49 (v650 : BitVec 32) : Prop :=
  (∀ a, (k0_off133 v650) a + S512x4096.size a ≤ S8192x4096.size a)
theorem k0_off133_inb : ∀ (v650 : BitVec 32) (k0_hw49 : k0_chk49 v650), ∀ a, (k0_off133 v650) a + S512x4096.size a ≤ S8192x4096.size a := fun v650 k0_hw49 => k0_hw49

def k0_off134 (v642 : BitVec 32) : Fin 1 → Nat :=
  ![v642.toNat]
def k0_off135 (v642 : BitVec 32) : Fin 3 → Nat :=
  let c0_i32_467 : BitVec 32 := 0#32
  let c0_i32_468 : BitVec 32 := 0#32
  ![v642.toNat, 0, 0]
def k0_off136 (v642 : BitVec 32) : Fin 3 → Nat :=
  let v665 : Index := Scalar.indexCast v642
  let c0_471 : Index := 0#32
  let c0_472 : Index := 0#32
  ![v665.toNat, 0, 0]

def k0_chk48 (v642 : BitVec 32) : Prop :=
  (∀ a, (k0_off131 v642) a + S512x4096.size a ≤ S8192x4096.size a) ∧
  (∀ a, (k0_off134 v642) a + S1.size a ≤ S16.size a) ∧
  (∀ a, (k0_off135 v642) a + S1x512x512.size a ≤ S16x512x512.size a) ∧
  (∀ (hinb : ∀ a, (k0_off135 v642) a + S1x512x512.size a ≤ S16x512x512.size a), (Rect.unit (s := S16x512x512) (k0_off135 v642) S1x512x512.size hinb).WholeWords (EltTy.packing .bf16)) ∧
  (∀ a, (k0_off136 v642) a + S1x512x512.size a ≤ S16x512x512.size a)
theorem k0_off131_inb : ∀ (v642 : BitVec 32) (k0_hw48 : k0_chk48 v642), ∀ a, (k0_off131 v642) a + S512x4096.size a ≤ S8192x4096.size a := fun v642 k0_hw48 => k0_hw48.1
theorem k0_off134_inb : ∀ (v642 : BitVec 32) (k0_hw48 : k0_chk48 v642), ∀ a, (k0_off134 v642) a + S1.size a ≤ S16.size a := fun v642 k0_hw48 => k0_hw48.2.1
theorem k0_off135_inb : ∀ (v642 : BitVec 32) (k0_hw48 : k0_chk48 v642), ∀ a, (k0_off135 v642) a + S1x512x512.size a ≤ S16x512x512.size a := fun v642 k0_hw48 => k0_hw48.2.2.1
theorem k0_off135_wordsbf16 : ∀ (v642 : BitVec 32) (k0_hw48 : k0_chk48 v642), (Rect.unit (s := S16x512x512) (k0_off135 v642) S1x512x512.size (k0_off135_inb v642 k0_hw48)).WholeWords (EltTy.packing .bf16) := fun v642 k0_hw48 => k0_hw48.2.2.2.1 (k0_off135_inb v642 k0_hw48)
theorem k0_off136_inb : ∀ (v642 : BitVec 32) (k0_hw48 : k0_chk48 v642), ∀ a, (k0_off136 v642) a + S1x512x512.size a ≤ S16x512x512.size a := fun v642 k0_hw48 => k0_hw48.2.2.2.2

def k0_off137 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v675 : Index := Scalar.indexCast v2
  let c2_481 : Index := 2#32
  ![v675.toNat, 2]
def k0_off138 (v676 : BitVec 32) : Fin 2 → Nat :=
  let c512_i32_482 : BitVec 32 := 512#32
  let v677 : BitVec 32 := Scalar.muli v676 c512_i32_482
  let c0_i32_487 : BitVec 32 := 0#32
  ![v677.toNat, 0]

def k0_off139 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v683 : Index := Scalar.indexCast v2
  let c3_488 : Index := 3#32
  ![v683.toNat, 3]
def k0_off140 (v684 : BitVec 32) : Fin 2 → Nat :=
  let c512_i32_489 : BitVec 32 := 512#32
  let v685 : BitVec 32 := Scalar.muli v684 c512_i32_489
  let c0_i32_494 : BitVec 32 := 0#32
  ![v685.toNat, 0]

def k0_chk51 (v684 : BitVec 32) : Prop :=
  (∀ a, (k0_off140 v684) a + S512x4096.size a ≤ S8192x4096.size a)
theorem k0_off140_inb : ∀ (v684 : BitVec 32) (k0_hw51 : k0_chk51 v684), ∀ a, (k0_off140 v684) a + S512x4096.size a ≤ S8192x4096.size a := fun v684 k0_hw51 => k0_hw51

def k0_off141 (v676 : BitVec 32) : Fin 1 → Nat :=
  ![v676.toNat]
def k0_off142 (v676 : BitVec 32) : Fin 3 → Nat :=
  let c0_i32_498 : BitVec 32 := 0#32
  let c0_i32_499 : BitVec 32 := 0#32
  ![v676.toNat, 0, 0]
def k0_off143 (v676 : BitVec 32) : Fin 3 → Nat :=
  let v699 : Index := Scalar.indexCast v676
  let c0_502 : Index := 0#32
  let c0_503 : Index := 0#32
  ![v699.toNat, 0, 0]

def k0_chk50 (v676 : BitVec 32) : Prop :=
  (∀ a, (k0_off138 v676) a + S512x4096.size a ≤ S8192x4096.size a) ∧
  (∀ a, (k0_off141 v676) a + S1.size a ≤ S16.size a) ∧
  (∀ a, (k0_off142 v676) a + S1x512x512.size a ≤ S16x512x512.size a) ∧
  (∀ (hinb : ∀ a, (k0_off142 v676) a + S1x512x512.size a ≤ S16x512x512.size a), (Rect.unit (s := S16x512x512) (k0_off142 v676) S1x512x512.size hinb).WholeWords (EltTy.packing .bf16)) ∧
  (∀ a, (k0_off143 v676) a + S1x512x512.size a ≤ S16x512x512.size a)
theorem k0_off138_inb : ∀ (v676 : BitVec 32) (k0_hw50 : k0_chk50 v676), ∀ a, (k0_off138 v676) a + S512x4096.size a ≤ S8192x4096.size a := fun v676 k0_hw50 => k0_hw50.1
theorem k0_off141_inb : ∀ (v676 : BitVec 32) (k0_hw50 : k0_chk50 v676), ∀ a, (k0_off141 v676) a + S1.size a ≤ S16.size a := fun v676 k0_hw50 => k0_hw50.2.1
theorem k0_off142_inb : ∀ (v676 : BitVec 32) (k0_hw50 : k0_chk50 v676), ∀ a, (k0_off142 v676) a + S1x512x512.size a ≤ S16x512x512.size a := fun v676 k0_hw50 => k0_hw50.2.2.1
theorem k0_off142_wordsbf16 : ∀ (v676 : BitVec 32) (k0_hw50 : k0_chk50 v676), (Rect.unit (s := S16x512x512) (k0_off142 v676) S1x512x512.size (k0_off142_inb v676 k0_hw50)).WholeWords (EltTy.packing .bf16) := fun v676 k0_hw50 => k0_hw50.2.2.2.1 (k0_off142_inb v676 k0_hw50)
theorem k0_off143_inb : ∀ (v676 : BitVec 32) (k0_hw50 : k0_chk50 v676), ∀ a, (k0_off143 v676) a + S1x512x512.size a ≤ S16x512x512.size a := fun v676 k0_hw50 => k0_hw50.2.2.2.2

def k0_off144 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v709 : Index := Scalar.indexCast v2
  let c3_512 : Index := 3#32
  ![v709.toNat, 3]
def k0_off145 (v710 : BitVec 32) : Fin 2 → Nat :=
  let c512_i32_513 : BitVec 32 := 512#32
  let v711 : BitVec 32 := Scalar.muli v710 c512_i32_513
  let c0_i32_518 : BitVec 32 := 0#32
  ![v711.toNat, 0]

def k0_off146 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v717 : Index := Scalar.indexCast v2
  let c4_519 : Index := 4#32
  ![v717.toNat, 4]
def k0_off147 (v718 : BitVec 32) : Fin 2 → Nat :=
  let c512_i32_520 : BitVec 32 := 512#32
  let v719 : BitVec 32 := Scalar.muli v718 c512_i32_520
  let c0_i32_525 : BitVec 32 := 0#32
  ![v719.toNat, 0]

def k0_chk53 (v718 : BitVec 32) : Prop :=
  (∀ a, (k0_off147 v718) a + S512x4096.size a ≤ S8192x4096.size a)
theorem k0_off147_inb : ∀ (v718 : BitVec 32) (k0_hw53 : k0_chk53 v718), ∀ a, (k0_off147 v718) a + S512x4096.size a ≤ S8192x4096.size a := fun v718 k0_hw53 => k0_hw53

def k0_off148 (v710 : BitVec 32) : Fin 1 → Nat :=
  ![v710.toNat]
def k0_off149 (v710 : BitVec 32) : Fin 3 → Nat :=
  let c0_i32_529 : BitVec 32 := 0#32
  let c0_i32_530 : BitVec 32 := 0#32
  ![v710.toNat, 0, 0]
def k0_off150 (v710 : BitVec 32) : Fin 3 → Nat :=
  let v733 : Index := Scalar.indexCast v710
  let c0_533 : Index := 0#32
  let c0_534 : Index := 0#32
  ![v733.toNat, 0, 0]

def k0_chk52 (v710 : BitVec 32) : Prop :=
  (∀ a, (k0_off145 v710) a + S512x4096.size a ≤ S8192x4096.size a) ∧
  (∀ a, (k0_off148 v710) a + S1.size a ≤ S16.size a) ∧
  (∀ a, (k0_off149 v710) a + S1x512x512.size a ≤ S16x512x512.size a) ∧
  (∀ (hinb : ∀ a, (k0_off149 v710) a + S1x512x512.size a ≤ S16x512x512.size a), (Rect.unit (s := S16x512x512) (k0_off149 v710) S1x512x512.size hinb).WholeWords (EltTy.packing .bf16)) ∧
  (∀ a, (k0_off150 v710) a + S1x512x512.size a ≤ S16x512x512.size a)
theorem k0_off145_inb : ∀ (v710 : BitVec 32) (k0_hw52 : k0_chk52 v710), ∀ a, (k0_off145 v710) a + S512x4096.size a ≤ S8192x4096.size a := fun v710 k0_hw52 => k0_hw52.1
theorem k0_off148_inb : ∀ (v710 : BitVec 32) (k0_hw52 : k0_chk52 v710), ∀ a, (k0_off148 v710) a + S1.size a ≤ S16.size a := fun v710 k0_hw52 => k0_hw52.2.1
theorem k0_off149_inb : ∀ (v710 : BitVec 32) (k0_hw52 : k0_chk52 v710), ∀ a, (k0_off149 v710) a + S1x512x512.size a ≤ S16x512x512.size a := fun v710 k0_hw52 => k0_hw52.2.2.1
theorem k0_off149_wordsbf16 : ∀ (v710 : BitVec 32) (k0_hw52 : k0_chk52 v710), (Rect.unit (s := S16x512x512) (k0_off149 v710) S1x512x512.size (k0_off149_inb v710 k0_hw52)).WholeWords (EltTy.packing .bf16) := fun v710 k0_hw52 => k0_hw52.2.2.2.1 (k0_off149_inb v710 k0_hw52)
theorem k0_off150_inb : ∀ (v710 : BitVec 32) (k0_hw52 : k0_chk52 v710), ∀ a, (k0_off150 v710) a + S1x512x512.size a ≤ S16x512x512.size a := fun v710 k0_hw52 => k0_hw52.2.2.2.2

def k0_off151 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v743 : Index := Scalar.indexCast v2
  let c4_543 : Index := 4#32
  ![v743.toNat, 4]
def k0_off152 (v744 : BitVec 32) : Fin 2 → Nat :=
  let c512_i32_544 : BitVec 32 := 512#32
  let v745 : BitVec 32 := Scalar.muli v744 c512_i32_544
  let c0_i32_549 : BitVec 32 := 0#32
  ![v745.toNat, 0]

def k0_off153 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v751 : Index := Scalar.indexCast v2
  let c5_550 : Index := 5#32
  ![v751.toNat, 5]
def k0_off154 (v752 : BitVec 32) : Fin 2 → Nat :=
  let c512_i32_551 : BitVec 32 := 512#32
  let v753 : BitVec 32 := Scalar.muli v752 c512_i32_551
  let c0_i32_556 : BitVec 32 := 0#32
  ![v753.toNat, 0]

def k0_chk55 (v752 : BitVec 32) : Prop :=
  (∀ a, (k0_off154 v752) a + S512x4096.size a ≤ S8192x4096.size a)
theorem k0_off154_inb : ∀ (v752 : BitVec 32) (k0_hw55 : k0_chk55 v752), ∀ a, (k0_off154 v752) a + S512x4096.size a ≤ S8192x4096.size a := fun v752 k0_hw55 => k0_hw55

def k0_off155 (v744 : BitVec 32) : Fin 1 → Nat :=
  ![v744.toNat]
def k0_off156 (v744 : BitVec 32) : Fin 3 → Nat :=
  let c0_i32_560 : BitVec 32 := 0#32
  let c0_i32_561 : BitVec 32 := 0#32
  ![v744.toNat, 0, 0]
def k0_off157 (v744 : BitVec 32) : Fin 3 → Nat :=
  let v767 : Index := Scalar.indexCast v744
  let c0_564 : Index := 0#32
  let c0_565 : Index := 0#32
  ![v767.toNat, 0, 0]

def k0_chk54 (v744 : BitVec 32) : Prop :=
  (∀ a, (k0_off152 v744) a + S512x4096.size a ≤ S8192x4096.size a) ∧
  (∀ a, (k0_off155 v744) a + S1.size a ≤ S16.size a) ∧
  (∀ a, (k0_off156 v744) a + S1x512x512.size a ≤ S16x512x512.size a) ∧
  (∀ (hinb : ∀ a, (k0_off156 v744) a + S1x512x512.size a ≤ S16x512x512.size a), (Rect.unit (s := S16x512x512) (k0_off156 v744) S1x512x512.size hinb).WholeWords (EltTy.packing .bf16)) ∧
  (∀ a, (k0_off157 v744) a + S1x512x512.size a ≤ S16x512x512.size a)
theorem k0_off152_inb : ∀ (v744 : BitVec 32) (k0_hw54 : k0_chk54 v744), ∀ a, (k0_off152 v744) a + S512x4096.size a ≤ S8192x4096.size a := fun v744 k0_hw54 => k0_hw54.1
theorem k0_off155_inb : ∀ (v744 : BitVec 32) (k0_hw54 : k0_chk54 v744), ∀ a, (k0_off155 v744) a + S1.size a ≤ S16.size a := fun v744 k0_hw54 => k0_hw54.2.1
theorem k0_off156_inb : ∀ (v744 : BitVec 32) (k0_hw54 : k0_chk54 v744), ∀ a, (k0_off156 v744) a + S1x512x512.size a ≤ S16x512x512.size a := fun v744 k0_hw54 => k0_hw54.2.2.1
theorem k0_off156_wordsbf16 : ∀ (v744 : BitVec 32) (k0_hw54 : k0_chk54 v744), (Rect.unit (s := S16x512x512) (k0_off156 v744) S1x512x512.size (k0_off156_inb v744 k0_hw54)).WholeWords (EltTy.packing .bf16) := fun v744 k0_hw54 => k0_hw54.2.2.2.1 (k0_off156_inb v744 k0_hw54)
theorem k0_off157_inb : ∀ (v744 : BitVec 32) (k0_hw54 : k0_chk54 v744), ∀ a, (k0_off157 v744) a + S1x512x512.size a ≤ S16x512x512.size a := fun v744 k0_hw54 => k0_hw54.2.2.2.2

def k0_off158 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v777 : Index := Scalar.indexCast v2
  let c5_574 : Index := 5#32
  ![v777.toNat, 5]
def k0_off159 (v778 : BitVec 32) : Fin 2 → Nat :=
  let c512_i32_575 : BitVec 32 := 512#32
  let v779 : BitVec 32 := Scalar.muli v778 c512_i32_575
  let c0_i32_580 : BitVec 32 := 0#32
  ![v779.toNat, 0]

def k0_off160 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v785 : Index := Scalar.indexCast v2
  let c6_581 : Index := 6#32
  ![v785.toNat, 6]
def k0_off161 (v786 : BitVec 32) : Fin 2 → Nat :=
  let c512_i32_582 : BitVec 32 := 512#32
  let v787 : BitVec 32 := Scalar.muli v786 c512_i32_582
  let c0_i32_587 : BitVec 32 := 0#32
  ![v787.toNat, 0]

def k0_chk57 (v786 : BitVec 32) : Prop :=
  (∀ a, (k0_off161 v786) a + S512x4096.size a ≤ S8192x4096.size a)
theorem k0_off161_inb : ∀ (v786 : BitVec 32) (k0_hw57 : k0_chk57 v786), ∀ a, (k0_off161 v786) a + S512x4096.size a ≤ S8192x4096.size a := fun v786 k0_hw57 => k0_hw57

def k0_off162 (v778 : BitVec 32) : Fin 1 → Nat :=
  ![v778.toNat]
def k0_off163 (v778 : BitVec 32) : Fin 3 → Nat :=
  let c0_i32_591 : BitVec 32 := 0#32
  let c0_i32_592 : BitVec 32 := 0#32
  ![v778.toNat, 0, 0]
def k0_off164 (v778 : BitVec 32) : Fin 3 → Nat :=
  let v801 : Index := Scalar.indexCast v778
  let c0_595 : Index := 0#32
  let c0_596 : Index := 0#32
  ![v801.toNat, 0, 0]

def k0_chk56 (v778 : BitVec 32) : Prop :=
  (∀ a, (k0_off159 v778) a + S512x4096.size a ≤ S8192x4096.size a) ∧
  (∀ a, (k0_off162 v778) a + S1.size a ≤ S16.size a) ∧
  (∀ a, (k0_off163 v778) a + S1x512x512.size a ≤ S16x512x512.size a) ∧
  (∀ (hinb : ∀ a, (k0_off163 v778) a + S1x512x512.size a ≤ S16x512x512.size a), (Rect.unit (s := S16x512x512) (k0_off163 v778) S1x512x512.size hinb).WholeWords (EltTy.packing .bf16)) ∧
  (∀ a, (k0_off164 v778) a + S1x512x512.size a ≤ S16x512x512.size a)
theorem k0_off159_inb : ∀ (v778 : BitVec 32) (k0_hw56 : k0_chk56 v778), ∀ a, (k0_off159 v778) a + S512x4096.size a ≤ S8192x4096.size a := fun v778 k0_hw56 => k0_hw56.1
theorem k0_off162_inb : ∀ (v778 : BitVec 32) (k0_hw56 : k0_chk56 v778), ∀ a, (k0_off162 v778) a + S1.size a ≤ S16.size a := fun v778 k0_hw56 => k0_hw56.2.1
theorem k0_off163_inb : ∀ (v778 : BitVec 32) (k0_hw56 : k0_chk56 v778), ∀ a, (k0_off163 v778) a + S1x512x512.size a ≤ S16x512x512.size a := fun v778 k0_hw56 => k0_hw56.2.2.1
theorem k0_off163_wordsbf16 : ∀ (v778 : BitVec 32) (k0_hw56 : k0_chk56 v778), (Rect.unit (s := S16x512x512) (k0_off163 v778) S1x512x512.size (k0_off163_inb v778 k0_hw56)).WholeWords (EltTy.packing .bf16) := fun v778 k0_hw56 => k0_hw56.2.2.2.1 (k0_off163_inb v778 k0_hw56)
theorem k0_off164_inb : ∀ (v778 : BitVec 32) (k0_hw56 : k0_chk56 v778), ∀ a, (k0_off164 v778) a + S1x512x512.size a ≤ S16x512x512.size a := fun v778 k0_hw56 => k0_hw56.2.2.2.2

def k0_off165 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v811 : Index := Scalar.indexCast v2
  let c6_605 : Index := 6#32
  ![v811.toNat, 6]
def k0_off166 (v812 : BitVec 32) : Fin 2 → Nat :=
  let c512_i32_606 : BitVec 32 := 512#32
  let v813 : BitVec 32 := Scalar.muli v812 c512_i32_606
  let c0_i32_611 : BitVec 32 := 0#32
  ![v813.toNat, 0]

def k0_off167 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v819 : Index := Scalar.indexCast v2
  let c7_612 : Index := 7#32
  ![v819.toNat, 7]
def k0_off168 (v820 : BitVec 32) : Fin 2 → Nat :=
  let c512_i32_613 : BitVec 32 := 512#32
  let v821 : BitVec 32 := Scalar.muli v820 c512_i32_613
  let c0_i32_618 : BitVec 32 := 0#32
  ![v821.toNat, 0]

def k0_chk59 (v820 : BitVec 32) : Prop :=
  (∀ a, (k0_off168 v820) a + S512x4096.size a ≤ S8192x4096.size a)
theorem k0_off168_inb : ∀ (v820 : BitVec 32) (k0_hw59 : k0_chk59 v820), ∀ a, (k0_off168 v820) a + S512x4096.size a ≤ S8192x4096.size a := fun v820 k0_hw59 => k0_hw59

def k0_off169 (v812 : BitVec 32) : Fin 1 → Nat :=
  ![v812.toNat]
def k0_off170 (v812 : BitVec 32) : Fin 3 → Nat :=
  let c0_i32_622 : BitVec 32 := 0#32
  let c0_i32_623 : BitVec 32 := 0#32
  ![v812.toNat, 0, 0]
def k0_off171 (v812 : BitVec 32) : Fin 3 → Nat :=
  let v835 : Index := Scalar.indexCast v812
  let c0_626 : Index := 0#32
  let c0_627 : Index := 0#32
  ![v835.toNat, 0, 0]

def k0_chk58 (v812 : BitVec 32) : Prop :=
  (∀ a, (k0_off166 v812) a + S512x4096.size a ≤ S8192x4096.size a) ∧
  (∀ a, (k0_off169 v812) a + S1.size a ≤ S16.size a) ∧
  (∀ a, (k0_off170 v812) a + S1x512x512.size a ≤ S16x512x512.size a) ∧
  (∀ (hinb : ∀ a, (k0_off170 v812) a + S1x512x512.size a ≤ S16x512x512.size a), (Rect.unit (s := S16x512x512) (k0_off170 v812) S1x512x512.size hinb).WholeWords (EltTy.packing .bf16)) ∧
  (∀ a, (k0_off171 v812) a + S1x512x512.size a ≤ S16x512x512.size a)
theorem k0_off166_inb : ∀ (v812 : BitVec 32) (k0_hw58 : k0_chk58 v812), ∀ a, (k0_off166 v812) a + S512x4096.size a ≤ S8192x4096.size a := fun v812 k0_hw58 => k0_hw58.1
theorem k0_off169_inb : ∀ (v812 : BitVec 32) (k0_hw58 : k0_chk58 v812), ∀ a, (k0_off169 v812) a + S1.size a ≤ S16.size a := fun v812 k0_hw58 => k0_hw58.2.1
theorem k0_off170_inb : ∀ (v812 : BitVec 32) (k0_hw58 : k0_chk58 v812), ∀ a, (k0_off170 v812) a + S1x512x512.size a ≤ S16x512x512.size a := fun v812 k0_hw58 => k0_hw58.2.2.1
theorem k0_off170_wordsbf16 : ∀ (v812 : BitVec 32) (k0_hw58 : k0_chk58 v812), (Rect.unit (s := S16x512x512) (k0_off170 v812) S1x512x512.size (k0_off170_inb v812 k0_hw58)).WholeWords (EltTy.packing .bf16) := fun v812 k0_hw58 => k0_hw58.2.2.2.1 (k0_off170_inb v812 k0_hw58)
theorem k0_off171_inb : ∀ (v812 : BitVec 32) (k0_hw58 : k0_chk58 v812), ∀ a, (k0_off171 v812) a + S1x512x512.size a ≤ S16x512x512.size a := fun v812 k0_hw58 => k0_hw58.2.2.2.2

def k0_off172 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v845 : Index := Scalar.indexCast v2
  let c7_636 : Index := 7#32
  ![v845.toNat, 7]
def k0_off173 (v846 : BitVec 32) : Fin 2 → Nat :=
  let c512_i32_637 : BitVec 32 := 512#32
  let v847 : BitVec 32 := Scalar.muli v846 c512_i32_637
  let c0_i32_642 : BitVec 32 := 0#32
  ![v847.toNat, 0]

def k0_off174 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v853 : Index := Scalar.indexCast v2
  let c8_643 : Index := 8#32
  ![v853.toNat, 8]
def k0_off175 (v854 : BitVec 32) : Fin 2 → Nat :=
  let c512_i32_644 : BitVec 32 := 512#32
  let v855 : BitVec 32 := Scalar.muli v854 c512_i32_644
  let c0_i32_649 : BitVec 32 := 0#32
  ![v855.toNat, 0]

def k0_chk61 (v854 : BitVec 32) : Prop :=
  (∀ a, (k0_off175 v854) a + S512x4096.size a ≤ S8192x4096.size a)
theorem k0_off175_inb : ∀ (v854 : BitVec 32) (k0_hw61 : k0_chk61 v854), ∀ a, (k0_off175 v854) a + S512x4096.size a ≤ S8192x4096.size a := fun v854 k0_hw61 => k0_hw61

def k0_off176 (v846 : BitVec 32) : Fin 1 → Nat :=
  ![v846.toNat]
def k0_off177 (v846 : BitVec 32) : Fin 3 → Nat :=
  let c0_i32_653 : BitVec 32 := 0#32
  let c0_i32_654 : BitVec 32 := 0#32
  ![v846.toNat, 0, 0]
def k0_off178 (v846 : BitVec 32) : Fin 3 → Nat :=
  let v869 : Index := Scalar.indexCast v846
  let c0_657 : Index := 0#32
  let c0_658 : Index := 0#32
  ![v869.toNat, 0, 0]

def k0_chk60 (v846 : BitVec 32) : Prop :=
  (∀ a, (k0_off173 v846) a + S512x4096.size a ≤ S8192x4096.size a) ∧
  (∀ a, (k0_off176 v846) a + S1.size a ≤ S16.size a) ∧
  (∀ a, (k0_off177 v846) a + S1x512x512.size a ≤ S16x512x512.size a) ∧
  (∀ (hinb : ∀ a, (k0_off177 v846) a + S1x512x512.size a ≤ S16x512x512.size a), (Rect.unit (s := S16x512x512) (k0_off177 v846) S1x512x512.size hinb).WholeWords (EltTy.packing .bf16)) ∧
  (∀ a, (k0_off178 v846) a + S1x512x512.size a ≤ S16x512x512.size a)
theorem k0_off173_inb : ∀ (v846 : BitVec 32) (k0_hw60 : k0_chk60 v846), ∀ a, (k0_off173 v846) a + S512x4096.size a ≤ S8192x4096.size a := fun v846 k0_hw60 => k0_hw60.1
theorem k0_off176_inb : ∀ (v846 : BitVec 32) (k0_hw60 : k0_chk60 v846), ∀ a, (k0_off176 v846) a + S1.size a ≤ S16.size a := fun v846 k0_hw60 => k0_hw60.2.1
theorem k0_off177_inb : ∀ (v846 : BitVec 32) (k0_hw60 : k0_chk60 v846), ∀ a, (k0_off177 v846) a + S1x512x512.size a ≤ S16x512x512.size a := fun v846 k0_hw60 => k0_hw60.2.2.1
theorem k0_off177_wordsbf16 : ∀ (v846 : BitVec 32) (k0_hw60 : k0_chk60 v846), (Rect.unit (s := S16x512x512) (k0_off177 v846) S1x512x512.size (k0_off177_inb v846 k0_hw60)).WholeWords (EltTy.packing .bf16) := fun v846 k0_hw60 => k0_hw60.2.2.2.1 (k0_off177_inb v846 k0_hw60)
theorem k0_off178_inb : ∀ (v846 : BitVec 32) (k0_hw60 : k0_chk60 v846), ∀ a, (k0_off178 v846) a + S1x512x512.size a ≤ S16x512x512.size a := fun v846 k0_hw60 => k0_hw60.2.2.2.2

def k0_off179 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v879 : Index := Scalar.indexCast v2
  let c8_667 : Index := 8#32
  ![v879.toNat, 8]
def k0_off180 (v880 : BitVec 32) : Fin 2 → Nat :=
  let c512_i32_668 : BitVec 32 := 512#32
  let v881 : BitVec 32 := Scalar.muli v880 c512_i32_668
  let c0_i32_673 : BitVec 32 := 0#32
  ![v881.toNat, 0]

def k0_off181 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v887 : Index := Scalar.indexCast v2
  let c9_674 : Index := 9#32
  ![v887.toNat, 9]
def k0_off182 (v888 : BitVec 32) : Fin 2 → Nat :=
  let c512_i32_675 : BitVec 32 := 512#32
  let v889 : BitVec 32 := Scalar.muli v888 c512_i32_675
  let c0_i32_680 : BitVec 32 := 0#32
  ![v889.toNat, 0]

def k0_chk63 (v888 : BitVec 32) : Prop :=
  (∀ a, (k0_off182 v888) a + S512x4096.size a ≤ S8192x4096.size a)
theorem k0_off182_inb : ∀ (v888 : BitVec 32) (k0_hw63 : k0_chk63 v888), ∀ a, (k0_off182 v888) a + S512x4096.size a ≤ S8192x4096.size a := fun v888 k0_hw63 => k0_hw63

def k0_off183 (v880 : BitVec 32) : Fin 1 → Nat :=
  ![v880.toNat]
def k0_off184 (v880 : BitVec 32) : Fin 3 → Nat :=
  let c0_i32_684 : BitVec 32 := 0#32
  let c0_i32_685 : BitVec 32 := 0#32
  ![v880.toNat, 0, 0]
def k0_off185 (v880 : BitVec 32) : Fin 3 → Nat :=
  let v903 : Index := Scalar.indexCast v880
  let c0_688 : Index := 0#32
  let c0_689 : Index := 0#32
  ![v903.toNat, 0, 0]

def k0_chk62 (v880 : BitVec 32) : Prop :=
  (∀ a, (k0_off180 v880) a + S512x4096.size a ≤ S8192x4096.size a) ∧
  (∀ a, (k0_off183 v880) a + S1.size a ≤ S16.size a) ∧
  (∀ a, (k0_off184 v880) a + S1x512x512.size a ≤ S16x512x512.size a) ∧
  (∀ (hinb : ∀ a, (k0_off184 v880) a + S1x512x512.size a ≤ S16x512x512.size a), (Rect.unit (s := S16x512x512) (k0_off184 v880) S1x512x512.size hinb).WholeWords (EltTy.packing .bf16)) ∧
  (∀ a, (k0_off185 v880) a + S1x512x512.size a ≤ S16x512x512.size a)
theorem k0_off180_inb : ∀ (v880 : BitVec 32) (k0_hw62 : k0_chk62 v880), ∀ a, (k0_off180 v880) a + S512x4096.size a ≤ S8192x4096.size a := fun v880 k0_hw62 => k0_hw62.1
theorem k0_off183_inb : ∀ (v880 : BitVec 32) (k0_hw62 : k0_chk62 v880), ∀ a, (k0_off183 v880) a + S1.size a ≤ S16.size a := fun v880 k0_hw62 => k0_hw62.2.1
theorem k0_off184_inb : ∀ (v880 : BitVec 32) (k0_hw62 : k0_chk62 v880), ∀ a, (k0_off184 v880) a + S1x512x512.size a ≤ S16x512x512.size a := fun v880 k0_hw62 => k0_hw62.2.2.1
theorem k0_off184_wordsbf16 : ∀ (v880 : BitVec 32) (k0_hw62 : k0_chk62 v880), (Rect.unit (s := S16x512x512) (k0_off184 v880) S1x512x512.size (k0_off184_inb v880 k0_hw62)).WholeWords (EltTy.packing .bf16) := fun v880 k0_hw62 => k0_hw62.2.2.2.1 (k0_off184_inb v880 k0_hw62)
theorem k0_off185_inb : ∀ (v880 : BitVec 32) (k0_hw62 : k0_chk62 v880), ∀ a, (k0_off185 v880) a + S1x512x512.size a ≤ S16x512x512.size a := fun v880 k0_hw62 => k0_hw62.2.2.2.2

def k0_off186 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v913 : Index := Scalar.indexCast v2
  let c9_698 : Index := 9#32
  ![v913.toNat, 9]
def k0_off187 (v914 : BitVec 32) : Fin 2 → Nat :=
  let c512_i32_699 : BitVec 32 := 512#32
  let v915 : BitVec 32 := Scalar.muli v914 c512_i32_699
  let c0_i32_704 : BitVec 32 := 0#32
  ![v915.toNat, 0]

def k0_off188 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v921 : Index := Scalar.indexCast v2
  let c10_705 : Index := 10#32
  ![v921.toNat, 10]
def k0_off189 (v922 : BitVec 32) : Fin 2 → Nat :=
  let c512_i32_706 : BitVec 32 := 512#32
  let v923 : BitVec 32 := Scalar.muli v922 c512_i32_706
  let c0_i32_711 : BitVec 32 := 0#32
  ![v923.toNat, 0]

def k0_chk65 (v922 : BitVec 32) : Prop :=
  (∀ a, (k0_off189 v922) a + S512x4096.size a ≤ S8192x4096.size a)
theorem k0_off189_inb : ∀ (v922 : BitVec 32) (k0_hw65 : k0_chk65 v922), ∀ a, (k0_off189 v922) a + S512x4096.size a ≤ S8192x4096.size a := fun v922 k0_hw65 => k0_hw65

def k0_off190 (v914 : BitVec 32) : Fin 1 → Nat :=
  ![v914.toNat]
def k0_off191 (v914 : BitVec 32) : Fin 3 → Nat :=
  let c0_i32_715 : BitVec 32 := 0#32
  let c0_i32_716 : BitVec 32 := 0#32
  ![v914.toNat, 0, 0]
def k0_off192 (v914 : BitVec 32) : Fin 3 → Nat :=
  let v937 : Index := Scalar.indexCast v914
  let c0_719 : Index := 0#32
  let c0_720 : Index := 0#32
  ![v937.toNat, 0, 0]

def k0_chk64 (v914 : BitVec 32) : Prop :=
  (∀ a, (k0_off187 v914) a + S512x4096.size a ≤ S8192x4096.size a) ∧
  (∀ a, (k0_off190 v914) a + S1.size a ≤ S16.size a) ∧
  (∀ a, (k0_off191 v914) a + S1x512x512.size a ≤ S16x512x512.size a) ∧
  (∀ (hinb : ∀ a, (k0_off191 v914) a + S1x512x512.size a ≤ S16x512x512.size a), (Rect.unit (s := S16x512x512) (k0_off191 v914) S1x512x512.size hinb).WholeWords (EltTy.packing .bf16)) ∧
  (∀ a, (k0_off192 v914) a + S1x512x512.size a ≤ S16x512x512.size a)
theorem k0_off187_inb : ∀ (v914 : BitVec 32) (k0_hw64 : k0_chk64 v914), ∀ a, (k0_off187 v914) a + S512x4096.size a ≤ S8192x4096.size a := fun v914 k0_hw64 => k0_hw64.1
theorem k0_off190_inb : ∀ (v914 : BitVec 32) (k0_hw64 : k0_chk64 v914), ∀ a, (k0_off190 v914) a + S1.size a ≤ S16.size a := fun v914 k0_hw64 => k0_hw64.2.1
theorem k0_off191_inb : ∀ (v914 : BitVec 32) (k0_hw64 : k0_chk64 v914), ∀ a, (k0_off191 v914) a + S1x512x512.size a ≤ S16x512x512.size a := fun v914 k0_hw64 => k0_hw64.2.2.1
theorem k0_off191_wordsbf16 : ∀ (v914 : BitVec 32) (k0_hw64 : k0_chk64 v914), (Rect.unit (s := S16x512x512) (k0_off191 v914) S1x512x512.size (k0_off191_inb v914 k0_hw64)).WholeWords (EltTy.packing .bf16) := fun v914 k0_hw64 => k0_hw64.2.2.2.1 (k0_off191_inb v914 k0_hw64)
theorem k0_off192_inb : ∀ (v914 : BitVec 32) (k0_hw64 : k0_chk64 v914), ∀ a, (k0_off192 v914) a + S1x512x512.size a ≤ S16x512x512.size a := fun v914 k0_hw64 => k0_hw64.2.2.2.2

def k0_off193 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v947 : Index := Scalar.indexCast v2
  let c10_729 : Index := 10#32
  ![v947.toNat, 10]
def k0_off194 (v948 : BitVec 32) : Fin 2 → Nat :=
  let c512_i32_730 : BitVec 32 := 512#32
  let v949 : BitVec 32 := Scalar.muli v948 c512_i32_730
  let c0_i32_735 : BitVec 32 := 0#32
  ![v949.toNat, 0]

def k0_off195 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v955 : Index := Scalar.indexCast v2
  let c11_736 : Index := 11#32
  ![v955.toNat, 11]
def k0_off196 (v956 : BitVec 32) : Fin 2 → Nat :=
  let c512_i32_737 : BitVec 32 := 512#32
  let v957 : BitVec 32 := Scalar.muli v956 c512_i32_737
  let c0_i32_742 : BitVec 32 := 0#32
  ![v957.toNat, 0]

def k0_chk67 (v956 : BitVec 32) : Prop :=
  (∀ a, (k0_off196 v956) a + S512x4096.size a ≤ S8192x4096.size a)
theorem k0_off196_inb : ∀ (v956 : BitVec 32) (k0_hw67 : k0_chk67 v956), ∀ a, (k0_off196 v956) a + S512x4096.size a ≤ S8192x4096.size a := fun v956 k0_hw67 => k0_hw67

def k0_off197 (v948 : BitVec 32) : Fin 1 → Nat :=
  ![v948.toNat]
def k0_off198 (v948 : BitVec 32) : Fin 3 → Nat :=
  let c0_i32_746 : BitVec 32 := 0#32
  let c0_i32_747 : BitVec 32 := 0#32
  ![v948.toNat, 0, 0]
def k0_off199 (v948 : BitVec 32) : Fin 3 → Nat :=
  let v971 : Index := Scalar.indexCast v948
  let c0_750 : Index := 0#32
  let c0_751 : Index := 0#32
  ![v971.toNat, 0, 0]

def k0_chk66 (v948 : BitVec 32) : Prop :=
  (∀ a, (k0_off194 v948) a + S512x4096.size a ≤ S8192x4096.size a) ∧
  (∀ a, (k0_off197 v948) a + S1.size a ≤ S16.size a) ∧
  (∀ a, (k0_off198 v948) a + S1x512x512.size a ≤ S16x512x512.size a) ∧
  (∀ (hinb : ∀ a, (k0_off198 v948) a + S1x512x512.size a ≤ S16x512x512.size a), (Rect.unit (s := S16x512x512) (k0_off198 v948) S1x512x512.size hinb).WholeWords (EltTy.packing .bf16)) ∧
  (∀ a, (k0_off199 v948) a + S1x512x512.size a ≤ S16x512x512.size a)
theorem k0_off194_inb : ∀ (v948 : BitVec 32) (k0_hw66 : k0_chk66 v948), ∀ a, (k0_off194 v948) a + S512x4096.size a ≤ S8192x4096.size a := fun v948 k0_hw66 => k0_hw66.1
theorem k0_off197_inb : ∀ (v948 : BitVec 32) (k0_hw66 : k0_chk66 v948), ∀ a, (k0_off197 v948) a + S1.size a ≤ S16.size a := fun v948 k0_hw66 => k0_hw66.2.1
theorem k0_off198_inb : ∀ (v948 : BitVec 32) (k0_hw66 : k0_chk66 v948), ∀ a, (k0_off198 v948) a + S1x512x512.size a ≤ S16x512x512.size a := fun v948 k0_hw66 => k0_hw66.2.2.1
theorem k0_off198_wordsbf16 : ∀ (v948 : BitVec 32) (k0_hw66 : k0_chk66 v948), (Rect.unit (s := S16x512x512) (k0_off198 v948) S1x512x512.size (k0_off198_inb v948 k0_hw66)).WholeWords (EltTy.packing .bf16) := fun v948 k0_hw66 => k0_hw66.2.2.2.1 (k0_off198_inb v948 k0_hw66)
theorem k0_off199_inb : ∀ (v948 : BitVec 32) (k0_hw66 : k0_chk66 v948), ∀ a, (k0_off199 v948) a + S1x512x512.size a ≤ S16x512x512.size a := fun v948 k0_hw66 => k0_hw66.2.2.2.2

def k0_off200 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v981 : Index := Scalar.indexCast v2
  let c11_760 : Index := 11#32
  ![v981.toNat, 11]
def k0_off201 (v982 : BitVec 32) : Fin 2 → Nat :=
  let c512_i32_761 : BitVec 32 := 512#32
  let v983 : BitVec 32 := Scalar.muli v982 c512_i32_761
  let c0_i32_766 : BitVec 32 := 0#32
  ![v983.toNat, 0]

def k0_off202 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v989 : Index := Scalar.indexCast v2
  let c12_767 : Index := 12#32
  ![v989.toNat, 12]
def k0_off203 (v990 : BitVec 32) : Fin 2 → Nat :=
  let c512_i32_768 : BitVec 32 := 512#32
  let v991 : BitVec 32 := Scalar.muli v990 c512_i32_768
  let c0_i32_773 : BitVec 32 := 0#32
  ![v991.toNat, 0]

def k0_chk69 (v990 : BitVec 32) : Prop :=
  (∀ a, (k0_off203 v990) a + S512x4096.size a ≤ S8192x4096.size a)
theorem k0_off203_inb : ∀ (v990 : BitVec 32) (k0_hw69 : k0_chk69 v990), ∀ a, (k0_off203 v990) a + S512x4096.size a ≤ S8192x4096.size a := fun v990 k0_hw69 => k0_hw69

def k0_off204 (v982 : BitVec 32) : Fin 1 → Nat :=
  ![v982.toNat]
def k0_off205 (v982 : BitVec 32) : Fin 3 → Nat :=
  let c0_i32_777 : BitVec 32 := 0#32
  let c0_i32_778 : BitVec 32 := 0#32
  ![v982.toNat, 0, 0]
def k0_off206 (v982 : BitVec 32) : Fin 3 → Nat :=
  let v1005 : Index := Scalar.indexCast v982
  let c0_781 : Index := 0#32
  let c0_782 : Index := 0#32
  ![v1005.toNat, 0, 0]

def k0_chk68 (v982 : BitVec 32) : Prop :=
  (∀ a, (k0_off201 v982) a + S512x4096.size a ≤ S8192x4096.size a) ∧
  (∀ a, (k0_off204 v982) a + S1.size a ≤ S16.size a) ∧
  (∀ a, (k0_off205 v982) a + S1x512x512.size a ≤ S16x512x512.size a) ∧
  (∀ (hinb : ∀ a, (k0_off205 v982) a + S1x512x512.size a ≤ S16x512x512.size a), (Rect.unit (s := S16x512x512) (k0_off205 v982) S1x512x512.size hinb).WholeWords (EltTy.packing .bf16)) ∧
  (∀ a, (k0_off206 v982) a + S1x512x512.size a ≤ S16x512x512.size a)
theorem k0_off201_inb : ∀ (v982 : BitVec 32) (k0_hw68 : k0_chk68 v982), ∀ a, (k0_off201 v982) a + S512x4096.size a ≤ S8192x4096.size a := fun v982 k0_hw68 => k0_hw68.1
theorem k0_off204_inb : ∀ (v982 : BitVec 32) (k0_hw68 : k0_chk68 v982), ∀ a, (k0_off204 v982) a + S1.size a ≤ S16.size a := fun v982 k0_hw68 => k0_hw68.2.1
theorem k0_off205_inb : ∀ (v982 : BitVec 32) (k0_hw68 : k0_chk68 v982), ∀ a, (k0_off205 v982) a + S1x512x512.size a ≤ S16x512x512.size a := fun v982 k0_hw68 => k0_hw68.2.2.1
theorem k0_off205_wordsbf16 : ∀ (v982 : BitVec 32) (k0_hw68 : k0_chk68 v982), (Rect.unit (s := S16x512x512) (k0_off205 v982) S1x512x512.size (k0_off205_inb v982 k0_hw68)).WholeWords (EltTy.packing .bf16) := fun v982 k0_hw68 => k0_hw68.2.2.2.1 (k0_off205_inb v982 k0_hw68)
theorem k0_off206_inb : ∀ (v982 : BitVec 32) (k0_hw68 : k0_chk68 v982), ∀ a, (k0_off206 v982) a + S1x512x512.size a ≤ S16x512x512.size a := fun v982 k0_hw68 => k0_hw68.2.2.2.2

def k0_off207 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1015 : Index := Scalar.indexCast v2
  let c12_791 : Index := 12#32
  ![v1015.toNat, 12]
def k0_off208 (v1016 : BitVec 32) : Fin 2 → Nat :=
  let c512_i32_792 : BitVec 32 := 512#32
  let v1017 : BitVec 32 := Scalar.muli v1016 c512_i32_792
  let c0_i32_797 : BitVec 32 := 0#32
  ![v1017.toNat, 0]

def k0_off209 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1023 : Index := Scalar.indexCast v2
  let c13_798 : Index := 13#32
  ![v1023.toNat, 13]
def k0_off210 (v1024 : BitVec 32) : Fin 2 → Nat :=
  let c512_i32_799 : BitVec 32 := 512#32
  let v1025 : BitVec 32 := Scalar.muli v1024 c512_i32_799
  let c0_i32_804 : BitVec 32 := 0#32
  ![v1025.toNat, 0]

def k0_chk71 (v1024 : BitVec 32) : Prop :=
  (∀ a, (k0_off210 v1024) a + S512x4096.size a ≤ S8192x4096.size a)
theorem k0_off210_inb : ∀ (v1024 : BitVec 32) (k0_hw71 : k0_chk71 v1024), ∀ a, (k0_off210 v1024) a + S512x4096.size a ≤ S8192x4096.size a := fun v1024 k0_hw71 => k0_hw71

def k0_off211 (v1016 : BitVec 32) : Fin 1 → Nat :=
  ![v1016.toNat]
def k0_off212 (v1016 : BitVec 32) : Fin 3 → Nat :=
  let c0_i32_808 : BitVec 32 := 0#32
  let c0_i32_809 : BitVec 32 := 0#32
  ![v1016.toNat, 0, 0]
def k0_off213 (v1016 : BitVec 32) : Fin 3 → Nat :=
  let v1039 : Index := Scalar.indexCast v1016
  let c0_812 : Index := 0#32
  let c0_813 : Index := 0#32
  ![v1039.toNat, 0, 0]

def k0_chk70 (v1016 : BitVec 32) : Prop :=
  (∀ a, (k0_off208 v1016) a + S512x4096.size a ≤ S8192x4096.size a) ∧
  (∀ a, (k0_off211 v1016) a + S1.size a ≤ S16.size a) ∧
  (∀ a, (k0_off212 v1016) a + S1x512x512.size a ≤ S16x512x512.size a) ∧
  (∀ (hinb : ∀ a, (k0_off212 v1016) a + S1x512x512.size a ≤ S16x512x512.size a), (Rect.unit (s := S16x512x512) (k0_off212 v1016) S1x512x512.size hinb).WholeWords (EltTy.packing .bf16)) ∧
  (∀ a, (k0_off213 v1016) a + S1x512x512.size a ≤ S16x512x512.size a)
theorem k0_off208_inb : ∀ (v1016 : BitVec 32) (k0_hw70 : k0_chk70 v1016), ∀ a, (k0_off208 v1016) a + S512x4096.size a ≤ S8192x4096.size a := fun v1016 k0_hw70 => k0_hw70.1
theorem k0_off211_inb : ∀ (v1016 : BitVec 32) (k0_hw70 : k0_chk70 v1016), ∀ a, (k0_off211 v1016) a + S1.size a ≤ S16.size a := fun v1016 k0_hw70 => k0_hw70.2.1
theorem k0_off212_inb : ∀ (v1016 : BitVec 32) (k0_hw70 : k0_chk70 v1016), ∀ a, (k0_off212 v1016) a + S1x512x512.size a ≤ S16x512x512.size a := fun v1016 k0_hw70 => k0_hw70.2.2.1
theorem k0_off212_wordsbf16 : ∀ (v1016 : BitVec 32) (k0_hw70 : k0_chk70 v1016), (Rect.unit (s := S16x512x512) (k0_off212 v1016) S1x512x512.size (k0_off212_inb v1016 k0_hw70)).WholeWords (EltTy.packing .bf16) := fun v1016 k0_hw70 => k0_hw70.2.2.2.1 (k0_off212_inb v1016 k0_hw70)
theorem k0_off213_inb : ∀ (v1016 : BitVec 32) (k0_hw70 : k0_chk70 v1016), ∀ a, (k0_off213 v1016) a + S1x512x512.size a ≤ S16x512x512.size a := fun v1016 k0_hw70 => k0_hw70.2.2.2.2

def k0_off214 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1049 : Index := Scalar.indexCast v2
  let c13_822 : Index := 13#32
  ![v1049.toNat, 13]
def k0_off215 (v1050 : BitVec 32) : Fin 2 → Nat :=
  let c512_i32_823 : BitVec 32 := 512#32
  let v1051 : BitVec 32 := Scalar.muli v1050 c512_i32_823
  let c0_i32_828 : BitVec 32 := 0#32
  ![v1051.toNat, 0]

def k0_off216 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1057 : Index := Scalar.indexCast v2
  let c14_829 : Index := 14#32
  ![v1057.toNat, 14]
def k0_off217 (v1058 : BitVec 32) : Fin 2 → Nat :=
  let c512_i32_830 : BitVec 32 := 512#32
  let v1059 : BitVec 32 := Scalar.muli v1058 c512_i32_830
  let c0_i32_835 : BitVec 32 := 0#32
  ![v1059.toNat, 0]

def k0_chk73 (v1058 : BitVec 32) : Prop :=
  (∀ a, (k0_off217 v1058) a + S512x4096.size a ≤ S8192x4096.size a)
theorem k0_off217_inb : ∀ (v1058 : BitVec 32) (k0_hw73 : k0_chk73 v1058), ∀ a, (k0_off217 v1058) a + S512x4096.size a ≤ S8192x4096.size a := fun v1058 k0_hw73 => k0_hw73

def k0_off218 (v1050 : BitVec 32) : Fin 1 → Nat :=
  ![v1050.toNat]
def k0_off219 (v1050 : BitVec 32) : Fin 3 → Nat :=
  let c0_i32_839 : BitVec 32 := 0#32
  let c0_i32_840 : BitVec 32 := 0#32
  ![v1050.toNat, 0, 0]
def k0_off220 (v1050 : BitVec 32) : Fin 3 → Nat :=
  let v1073 : Index := Scalar.indexCast v1050
  let c0_843 : Index := 0#32
  let c0_844 : Index := 0#32
  ![v1073.toNat, 0, 0]

def k0_chk72 (v1050 : BitVec 32) : Prop :=
  (∀ a, (k0_off215 v1050) a + S512x4096.size a ≤ S8192x4096.size a) ∧
  (∀ a, (k0_off218 v1050) a + S1.size a ≤ S16.size a) ∧
  (∀ a, (k0_off219 v1050) a + S1x512x512.size a ≤ S16x512x512.size a) ∧
  (∀ (hinb : ∀ a, (k0_off219 v1050) a + S1x512x512.size a ≤ S16x512x512.size a), (Rect.unit (s := S16x512x512) (k0_off219 v1050) S1x512x512.size hinb).WholeWords (EltTy.packing .bf16)) ∧
  (∀ a, (k0_off220 v1050) a + S1x512x512.size a ≤ S16x512x512.size a)
theorem k0_off215_inb : ∀ (v1050 : BitVec 32) (k0_hw72 : k0_chk72 v1050), ∀ a, (k0_off215 v1050) a + S512x4096.size a ≤ S8192x4096.size a := fun v1050 k0_hw72 => k0_hw72.1
theorem k0_off218_inb : ∀ (v1050 : BitVec 32) (k0_hw72 : k0_chk72 v1050), ∀ a, (k0_off218 v1050) a + S1.size a ≤ S16.size a := fun v1050 k0_hw72 => k0_hw72.2.1
theorem k0_off219_inb : ∀ (v1050 : BitVec 32) (k0_hw72 : k0_chk72 v1050), ∀ a, (k0_off219 v1050) a + S1x512x512.size a ≤ S16x512x512.size a := fun v1050 k0_hw72 => k0_hw72.2.2.1
theorem k0_off219_wordsbf16 : ∀ (v1050 : BitVec 32) (k0_hw72 : k0_chk72 v1050), (Rect.unit (s := S16x512x512) (k0_off219 v1050) S1x512x512.size (k0_off219_inb v1050 k0_hw72)).WholeWords (EltTy.packing .bf16) := fun v1050 k0_hw72 => k0_hw72.2.2.2.1 (k0_off219_inb v1050 k0_hw72)
theorem k0_off220_inb : ∀ (v1050 : BitVec 32) (k0_hw72 : k0_chk72 v1050), ∀ a, (k0_off220 v1050) a + S1x512x512.size a ≤ S16x512x512.size a := fun v1050 k0_hw72 => k0_hw72.2.2.2.2

def k0_off221 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1083 : Index := Scalar.indexCast v2
  let c14_853 : Index := 14#32
  ![v1083.toNat, 14]
def k0_off222 (v1084 : BitVec 32) : Fin 2 → Nat :=
  let c512_i32_854 : BitVec 32 := 512#32
  let v1085 : BitVec 32 := Scalar.muli v1084 c512_i32_854
  let c0_i32_859 : BitVec 32 := 0#32
  ![v1085.toNat, 0]

def k0_off223 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c15_860 : Index := 15#32
  ![v1091.toNat, 15]
def k0_off224 (v1092 : BitVec 32) : Fin 2 → Nat :=
  let c512_i32_861 : BitVec 32 := 512#32
  let v1093 : BitVec 32 := Scalar.muli v1092 c512_i32_861
  let c0_i32_866 : BitVec 32 := 0#32
  ![v1093.toNat, 0]

def k0_chk75 (v1092 : BitVec 32) : Prop :=
  (∀ a, (k0_off224 v1092) a + S512x4096.size a ≤ S8192x4096.size a)
theorem k0_off224_inb : ∀ (v1092 : BitVec 32) (k0_hw75 : k0_chk75 v1092), ∀ a, (k0_off224 v1092) a + S512x4096.size a ≤ S8192x4096.size a := fun v1092 k0_hw75 => k0_hw75

def k0_off225 (v1084 : BitVec 32) : Fin 1 → Nat :=
  ![v1084.toNat]
def k0_off226 (v1084 : BitVec 32) : Fin 3 → Nat :=
  let c0_i32_870 : BitVec 32 := 0#32
  let c0_i32_871 : BitVec 32 := 0#32
  ![v1084.toNat, 0, 0]
def k0_off227 (v1084 : BitVec 32) : Fin 3 → Nat :=
  let v1107 : Index := Scalar.indexCast v1084
  let c0_874 : Index := 0#32
  let c0_875 : Index := 0#32
  ![v1107.toNat, 0, 0]

def k0_chk74 (v1084 : BitVec 32) : Prop :=
  (∀ a, (k0_off222 v1084) a + S512x4096.size a ≤ S8192x4096.size a) ∧
  (∀ a, (k0_off225 v1084) a + S1.size a ≤ S16.size a) ∧
  (∀ a, (k0_off226 v1084) a + S1x512x512.size a ≤ S16x512x512.size a) ∧
  (∀ (hinb : ∀ a, (k0_off226 v1084) a + S1x512x512.size a ≤ S16x512x512.size a), (Rect.unit (s := S16x512x512) (k0_off226 v1084) S1x512x512.size hinb).WholeWords (EltTy.packing .bf16)) ∧
  (∀ a, (k0_off227 v1084) a + S1x512x512.size a ≤ S16x512x512.size a)
theorem k0_off222_inb : ∀ (v1084 : BitVec 32) (k0_hw74 : k0_chk74 v1084), ∀ a, (k0_off222 v1084) a + S512x4096.size a ≤ S8192x4096.size a := fun v1084 k0_hw74 => k0_hw74.1
theorem k0_off225_inb : ∀ (v1084 : BitVec 32) (k0_hw74 : k0_chk74 v1084), ∀ a, (k0_off225 v1084) a + S1.size a ≤ S16.size a := fun v1084 k0_hw74 => k0_hw74.2.1
theorem k0_off226_inb : ∀ (v1084 : BitVec 32) (k0_hw74 : k0_chk74 v1084), ∀ a, (k0_off226 v1084) a + S1x512x512.size a ≤ S16x512x512.size a := fun v1084 k0_hw74 => k0_hw74.2.2.1
theorem k0_off226_wordsbf16 : ∀ (v1084 : BitVec 32) (k0_hw74 : k0_chk74 v1084), (Rect.unit (s := S16x512x512) (k0_off226 v1084) S1x512x512.size (k0_off226_inb v1084 k0_hw74)).WholeWords (EltTy.packing .bf16) := fun v1084 k0_hw74 => k0_hw74.2.2.2.1 (k0_off226_inb v1084 k0_hw74)
theorem k0_off227_inb : ∀ (v1084 : BitVec 32) (k0_hw74 : k0_chk74 v1084), ∀ a, (k0_off227 v1084) a + S1x512x512.size a ≤ S16x512x512.size a := fun v1084 k0_hw74 => k0_hw74.2.2.2.2

def k0_off228 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1117 : Index := Scalar.indexCast v2
  let c15_884 : Index := 15#32
  ![v1117.toNat, 15]
def k0_off229 (v1118 : BitVec 32) : Fin 2 → Nat :=
  let c512_i32_885 : BitVec 32 := 512#32
  let v1119 : BitVec 32 := Scalar.muli v1118 c512_i32_885
  let c0_i32_890 : BitVec 32 := 0#32
  ![v1119.toNat, 0]

def k0_off230 (v1118 : BitVec 32) : Fin 1 → Nat :=
  ![v1118.toNat]
def k0_off231 (v1118 : BitVec 32) : Fin 3 → Nat :=
  let c0_i32_894 : BitVec 32 := 0#32
  let c0_i32_895 : BitVec 32 := 0#32
  ![v1118.toNat, 0, 0]
def k0_off232 (v1118 : BitVec 32) : Fin 3 → Nat :=
  let v1133 : Index := Scalar.indexCast v1118
  let c0_898 : Index := 0#32
  let c0_899 : Index := 0#32
  ![v1133.toNat, 0, 0]

def k0_chk76 (v1118 : BitVec 32) : Prop :=
  (∀ a, (k0_off229 v1118) a + S512x4096.size a ≤ S8192x4096.size a) ∧
  (∀ a, (k0_off230 v1118) a + S1.size a ≤ S16.size a) ∧
  (∀ a, (k0_off231 v1118) a + S1x512x512.size a ≤ S16x512x512.size a) ∧
  (∀ (hinb : ∀ a, (k0_off231 v1118) a + S1x512x512.size a ≤ S16x512x512.size a), (Rect.unit (s := S16x512x512) (k0_off231 v1118) S1x512x512.size hinb).WholeWords (EltTy.packing .bf16)) ∧
  (∀ a, (k0_off232 v1118) a + S1x512x512.size a ≤ S16x512x512.size a)
theorem k0_off229_inb : ∀ (v1118 : BitVec 32) (k0_hw76 : k0_chk76 v1118), ∀ a, (k0_off229 v1118) a + S512x4096.size a ≤ S8192x4096.size a := fun v1118 k0_hw76 => k0_hw76.1
theorem k0_off230_inb : ∀ (v1118 : BitVec 32) (k0_hw76 : k0_chk76 v1118), ∀ a, (k0_off230 v1118) a + S1.size a ≤ S16.size a := fun v1118 k0_hw76 => k0_hw76.2.1
theorem k0_off231_inb : ∀ (v1118 : BitVec 32) (k0_hw76 : k0_chk76 v1118), ∀ a, (k0_off231 v1118) a + S1x512x512.size a ≤ S16x512x512.size a := fun v1118 k0_hw76 => k0_hw76.2.2.1
theorem k0_off231_wordsbf16 : ∀ (v1118 : BitVec 32) (k0_hw76 : k0_chk76 v1118), (Rect.unit (s := S16x512x512) (k0_off231 v1118) S1x512x512.size (k0_off231_inb v1118 k0_hw76)).WholeWords (EltTy.packing .bf16) := fun v1118 k0_hw76 => k0_hw76.2.2.2.1 (k0_off231_inb v1118 k0_hw76)
theorem k0_off232_inb : ∀ (v1118 : BitVec 32) (k0_hw76 : k0_chk76 v1118), ∀ a, (k0_off232 v1118) a + S1x512x512.size a ≤ S16x512x512.size a := fun v1118 k0_hw76 => k0_hw76.2.2.2.2

def k0_off233 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1143 : Index := Scalar.indexCast v2
  let c1_908 : Index := 1#32
  ![v1143.toNat, 1]
def k0_off234 (v1144 : BitVec 32) : Fin 2 → Nat :=
  let c512_i32_909 : BitVec 32 := 512#32
  let v1145 : BitVec 32 := Scalar.muli v1144 c512_i32_909
  let c0_i32_912 : BitVec 32 := 0#32
  ![v1145.toNat, 0]

def k0_off235 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_913 : BitVec 32 := 0#32
  let c0_i32_914 : BitVec 32 := 0#32
  ![v2.toNat, 0, 0]

def k0_chk77 (v1144 : BitVec 32) : Prop :=
  (∀ a, (k0_off234 v1144) a + S512x512.size a ≤ S8192x512.size a) ∧
  (∀ (hinb : ∀ a, (k0_off234 v1144) a + S512x512.size a ≤ S8192x512.size a), (Rect.unit (s := S8192x512) (k0_off234 v1144) S512x512.size hinb).WholeWords (EltTy.packing .bf16))
theorem k0_off234_inb : ∀ (v1144 : BitVec 32) (k0_hw77 : k0_chk77 v1144), ∀ a, (k0_off234 v1144) a + S512x512.size a ≤ S8192x512.size a := fun v1144 k0_hw77 => k0_hw77.1
theorem k0_off234_wordsbf16 : ∀ (v1144 : BitVec 32) (k0_hw77 : k0_chk77 v1144), (Rect.unit (s := S8192x512) (k0_off234 v1144) S512x512.size (k0_off234_inb v1144 k0_hw77)).WholeWords (EltTy.packing .bf16) := fun v1144 k0_hw77 => k0_hw77.2 (k0_off234_inb v1144 k0_hw77)

def k0_off236 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1151 : Index := Scalar.indexCast v2
  let c2_915 : Index := 2#32
  ![v1151.toNat, 2]
def k0_off237 (v1152 : BitVec 32) : Fin 2 → Nat :=
  let c512_i32_916 : BitVec 32 := 512#32
  let v1153 : BitVec 32 := Scalar.muli v1152 c512_i32_916
  let c0_i32_919 : BitVec 32 := 0#32
  ![v1153.toNat, 0]

def k0_off238 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_920 : BitVec 32 := 0#32
  let c0_i32_921 : BitVec 32 := 0#32
  ![v2.toNat, 0, 0]

def k0_chk78 (v1152 : BitVec 32) : Prop :=
  (∀ a, (k0_off237 v1152) a + S512x512.size a ≤ S8192x512.size a) ∧
  (∀ (hinb : ∀ a, (k0_off237 v1152) a + S512x512.size a ≤ S8192x512.size a), (Rect.unit (s := S8192x512) (k0_off237 v1152) S512x512.size hinb).WholeWords (EltTy.packing .bf16))
theorem k0_off237_inb : ∀ (v1152 : BitVec 32) (k0_hw78 : k0_chk78 v1152), ∀ a, (k0_off237 v1152) a + S512x512.size a ≤ S8192x512.size a := fun v1152 k0_hw78 => k0_hw78.1
theorem k0_off237_wordsbf16 : ∀ (v1152 : BitVec 32) (k0_hw78 : k0_chk78 v1152), (Rect.unit (s := S8192x512) (k0_off237 v1152) S512x512.size (k0_off237_inb v1152 k0_hw78)).WholeWords (EltTy.packing .bf16) := fun v1152 k0_hw78 => k0_hw78.2 (k0_off237_inb v1152 k0_hw78)

def k0_off239 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1159 : Index := Scalar.indexCast v2
  let c3_922 : Index := 3#32
  ![v1159.toNat, 3]
def k0_off240 (v1160 : BitVec 32) : Fin 2 → Nat :=
  let c512_i32_923 : BitVec 32 := 512#32
  let v1161 : BitVec 32 := Scalar.muli v1160 c512_i32_923
  let c0_i32_926 : BitVec 32 := 0#32
  ![v1161.toNat, 0]

def k0_off241 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_927 : BitVec 32 := 0#32
  let c0_i32_928 : BitVec 32 := 0#32
  ![v2.toNat, 0, 0]

def k0_chk79 (v1160 : BitVec 32) : Prop :=
  (∀ a, (k0_off240 v1160) a + S512x512.size a ≤ S8192x512.size a) ∧
  (∀ (hinb : ∀ a, (k0_off240 v1160) a + S512x512.size a ≤ S8192x512.size a), (Rect.unit (s := S8192x512) (k0_off240 v1160) S512x512.size hinb).WholeWords (EltTy.packing .bf16))
theorem k0_off240_inb : ∀ (v1160 : BitVec 32) (k0_hw79 : k0_chk79 v1160), ∀ a, (k0_off240 v1160) a + S512x512.size a ≤ S8192x512.size a := fun v1160 k0_hw79 => k0_hw79.1
theorem k0_off240_wordsbf16 : ∀ (v1160 : BitVec 32) (k0_hw79 : k0_chk79 v1160), (Rect.unit (s := S8192x512) (k0_off240 v1160) S512x512.size (k0_off240_inb v1160 k0_hw79)).WholeWords (EltTy.packing .bf16) := fun v1160 k0_hw79 => k0_hw79.2 (k0_off240_inb v1160 k0_hw79)

def k0_off242 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1167 : Index := Scalar.indexCast v2
  let c4_929 : Index := 4#32
  ![v1167.toNat, 4]
def k0_off243 (v1168 : BitVec 32) : Fin 2 → Nat :=
  let c512_i32_930 : BitVec 32 := 512#32
  let v1169 : BitVec 32 := Scalar.muli v1168 c512_i32_930
  let c0_i32_933 : BitVec 32 := 0#32
  ![v1169.toNat, 0]

def k0_off244 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_934 : BitVec 32 := 0#32
  let c0_i32_935 : BitVec 32 := 0#32
  ![v2.toNat, 0, 0]

def k0_chk80 (v1168 : BitVec 32) : Prop :=
  (∀ a, (k0_off243 v1168) a + S512x512.size a ≤ S8192x512.size a) ∧
  (∀ (hinb : ∀ a, (k0_off243 v1168) a + S512x512.size a ≤ S8192x512.size a), (Rect.unit (s := S8192x512) (k0_off243 v1168) S512x512.size hinb).WholeWords (EltTy.packing .bf16))
theorem k0_off243_inb : ∀ (v1168 : BitVec 32) (k0_hw80 : k0_chk80 v1168), ∀ a, (k0_off243 v1168) a + S512x512.size a ≤ S8192x512.size a := fun v1168 k0_hw80 => k0_hw80.1
theorem k0_off243_wordsbf16 : ∀ (v1168 : BitVec 32) (k0_hw80 : k0_chk80 v1168), (Rect.unit (s := S8192x512) (k0_off243 v1168) S512x512.size (k0_off243_inb v1168 k0_hw80)).WholeWords (EltTy.packing .bf16) := fun v1168 k0_hw80 => k0_hw80.2 (k0_off243_inb v1168 k0_hw80)

def k0_off245 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1175 : Index := Scalar.indexCast v2
  let c5_936 : Index := 5#32
  ![v1175.toNat, 5]
def k0_off246 (v1176 : BitVec 32) : Fin 2 → Nat :=
  let c512_i32_937 : BitVec 32 := 512#32
  let v1177 : BitVec 32 := Scalar.muli v1176 c512_i32_937
  let c0_i32_940 : BitVec 32 := 0#32
  ![v1177.toNat, 0]

def k0_off247 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_941 : BitVec 32 := 0#32
  let c0_i32_942 : BitVec 32 := 0#32
  ![v2.toNat, 0, 0]

def k0_chk81 (v1176 : BitVec 32) : Prop :=
  (∀ a, (k0_off246 v1176) a + S512x512.size a ≤ S8192x512.size a) ∧
  (∀ (hinb : ∀ a, (k0_off246 v1176) a + S512x512.size a ≤ S8192x512.size a), (Rect.unit (s := S8192x512) (k0_off246 v1176) S512x512.size hinb).WholeWords (EltTy.packing .bf16))
theorem k0_off246_inb : ∀ (v1176 : BitVec 32) (k0_hw81 : k0_chk81 v1176), ∀ a, (k0_off246 v1176) a + S512x512.size a ≤ S8192x512.size a := fun v1176 k0_hw81 => k0_hw81.1
theorem k0_off246_wordsbf16 : ∀ (v1176 : BitVec 32) (k0_hw81 : k0_chk81 v1176), (Rect.unit (s := S8192x512) (k0_off246 v1176) S512x512.size (k0_off246_inb v1176 k0_hw81)).WholeWords (EltTy.packing .bf16) := fun v1176 k0_hw81 => k0_hw81.2 (k0_off246_inb v1176 k0_hw81)

def k0_off248 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1183 : Index := Scalar.indexCast v2
  let c6_943 : Index := 6#32
  ![v1183.toNat, 6]
def k0_off249 (v1184 : BitVec 32) : Fin 2 → Nat :=
  let c512_i32_944 : BitVec 32 := 512#32
  let v1185 : BitVec 32 := Scalar.muli v1184 c512_i32_944
  let c0_i32_947 : BitVec 32 := 0#32
  ![v1185.toNat, 0]

def k0_off250 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]

def k0_chk82 (v1184 : BitVec 32) : Prop :=
  (∀ a, (k0_off249 v1184) a + S512x512.size a ≤ S8192x512.size a) ∧
  (∀ (hinb : ∀ a, (k0_off249 v1184) a + S512x512.size a ≤ S8192x512.size a), (Rect.unit (s := S8192x512) (k0_off249 v1184) S512x512.size hinb).WholeWords (EltTy.packing .bf16))
theorem k0_off249_inb : ∀ (v1184 : BitVec 32) (k0_hw82 : k0_chk82 v1184), ∀ a, (k0_off249 v1184) a + S512x512.size a ≤ S8192x512.size a := fun v1184 k0_hw82 => k0_hw82.1
theorem k0_off249_wordsbf16 : ∀ (v1184 : BitVec 32) (k0_hw82 : k0_chk82 v1184), (Rect.unit (s := S8192x512) (k0_off249 v1184) S512x512.size (k0_off249_inb v1184 k0_hw82)).WholeWords (EltTy.packing .bf16) := fun v1184 k0_hw82 => k0_hw82.2 (k0_off249_inb v1184 k0_hw82)

def k0_off251 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1191 : Index := Scalar.indexCast v2
  let c7_950 : Index := 7#32
  ![v1191.toNat, 7]
def k0_off252 (v1192 : BitVec 32) : Fin 2 → Nat :=
  let c512_i32_951 : BitVec 32 := 512#32
  let v1193 : BitVec 32 := Scalar.muli v1192 c512_i32_951
  let c0_i32_954 : BitVec 32 := 0#32
  ![v1193.toNat, 0]

def k0_off253 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_955 : BitVec 32 := 0#32
  let c0_i32_956 : BitVec 32 := 0#32
  ![v2.toNat, 0, 0]

def k0_chk83 (v1192 : BitVec 32) : Prop :=
  (∀ a, (k0_off252 v1192) a + S512x512.size a ≤ S8192x512.size a) ∧
  (∀ (hinb : ∀ a, (k0_off252 v1192) a + S512x512.size a ≤ S8192x512.size a), (Rect.unit (s := S8192x512) (k0_off252 v1192) S512x512.size hinb).WholeWords (EltTy.packing .bf16))
theorem k0_off252_inb : ∀ (v1192 : BitVec 32) (k0_hw83 : k0_chk83 v1192), ∀ a, (k0_off252 v1192) a + S512x512.size a ≤ S8192x512.size a := fun v1192 k0_hw83 => k0_hw83.1
theorem k0_off252_wordsbf16 : ∀ (v1192 : BitVec 32) (k0_hw83 : k0_chk83 v1192), (Rect.unit (s := S8192x512) (k0_off252 v1192) S512x512.size (k0_off252_inb v1192 k0_hw83)).WholeWords (EltTy.packing .bf16) := fun v1192 k0_hw83 => k0_hw83.2 (k0_off252_inb v1192 k0_hw83)

def k0_off254 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1199 : Index := Scalar.indexCast v2
  let c8_957 : Index := 8#32
  ![v1199.toNat, 8]
def k0_off255 (v1200 : BitVec 32) : Fin 2 → Nat :=
  let c512_i32_958 : BitVec 32 := 512#32
  let v1201 : BitVec 32 := Scalar.muli v1200 c512_i32_958
  let c0_i32_961 : BitVec 32 := 0#32
  ![v1201.toNat, 0]

def k0_off256 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_962 : BitVec 32 := 0#32
  let c0_i32_963 : BitVec 32 := 0#32
  ![v2.toNat, 0, 0]

def k0_chk84 (v1200 : BitVec 32) : Prop :=
  (∀ a, (k0_off255 v1200) a + S512x512.size a ≤ S8192x512.size a) ∧
  (∀ (hinb : ∀ a, (k0_off255 v1200) a + S512x512.size a ≤ S8192x512.size a), (Rect.unit (s := S8192x512) (k0_off255 v1200) S512x512.size hinb).WholeWords (EltTy.packing .bf16))
theorem k0_off255_inb : ∀ (v1200 : BitVec 32) (k0_hw84 : k0_chk84 v1200), ∀ a, (k0_off255 v1200) a + S512x512.size a ≤ S8192x512.size a := fun v1200 k0_hw84 => k0_hw84.1
theorem k0_off255_wordsbf16 : ∀ (v1200 : BitVec 32) (k0_hw84 : k0_chk84 v1200), (Rect.unit (s := S8192x512) (k0_off255 v1200) S512x512.size (k0_off255_inb v1200 k0_hw84)).WholeWords (EltTy.packing .bf16) := fun v1200 k0_hw84 => k0_hw84.2 (k0_off255_inb v1200 k0_hw84)

def k0_off257 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1207 : Index := Scalar.indexCast v2
  let c9_964 : Index := 9#32
  ![v1207.toNat, 9]
def k0_off258 (v1208 : BitVec 32) : Fin 2 → Nat :=
  let c512_i32_965 : BitVec 32 := 512#32
  let v1209 : BitVec 32 := Scalar.muli v1208 c512_i32_965
  let c0_i32_968 : BitVec 32 := 0#32
  ![v1209.toNat, 0]

def k0_off259 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_969 : BitVec 32 := 0#32
  let c0_i32_970 : BitVec 32 := 0#32
  ![v2.toNat, 0, 0]

def k0_chk85 (v1208 : BitVec 32) : Prop :=
  (∀ a, (k0_off258 v1208) a + S512x512.size a ≤ S8192x512.size a) ∧
  (∀ (hinb : ∀ a, (k0_off258 v1208) a + S512x512.size a ≤ S8192x512.size a), (Rect.unit (s := S8192x512) (k0_off258 v1208) S512x512.size hinb).WholeWords (EltTy.packing .bf16))
theorem k0_off258_inb : ∀ (v1208 : BitVec 32) (k0_hw85 : k0_chk85 v1208), ∀ a, (k0_off258 v1208) a + S512x512.size a ≤ S8192x512.size a := fun v1208 k0_hw85 => k0_hw85.1
theorem k0_off258_wordsbf16 : ∀ (v1208 : BitVec 32) (k0_hw85 : k0_chk85 v1208), (Rect.unit (s := S8192x512) (k0_off258 v1208) S512x512.size (k0_off258_inb v1208 k0_hw85)).WholeWords (EltTy.packing .bf16) := fun v1208 k0_hw85 => k0_hw85.2 (k0_off258_inb v1208 k0_hw85)

def k0_off260 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1215 : Index := Scalar.indexCast v2
  let c10_971 : Index := 10#32
  ![v1215.toNat, 10]
def k0_off261 (v1216 : BitVec 32) : Fin 2 → Nat :=
  let c512_i32_972 : BitVec 32 := 512#32
  let v1217 : BitVec 32 := Scalar.muli v1216 c512_i32_972
  let c0_i32_975 : BitVec 32 := 0#32
  ![v1217.toNat, 0]

def k0_off262 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_976 : BitVec 32 := 0#32
  let c0_i32_977 : BitVec 32 := 0#32
  ![v2.toNat, 0, 0]

def k0_chk86 (v1216 : BitVec 32) : Prop :=
  (∀ a, (k0_off261 v1216) a + S512x512.size a ≤ S8192x512.size a) ∧
  (∀ (hinb : ∀ a, (k0_off261 v1216) a + S512x512.size a ≤ S8192x512.size a), (Rect.unit (s := S8192x512) (k0_off261 v1216) S512x512.size hinb).WholeWords (EltTy.packing .bf16))
theorem k0_off261_inb : ∀ (v1216 : BitVec 32) (k0_hw86 : k0_chk86 v1216), ∀ a, (k0_off261 v1216) a + S512x512.size a ≤ S8192x512.size a := fun v1216 k0_hw86 => k0_hw86.1
theorem k0_off261_wordsbf16 : ∀ (v1216 : BitVec 32) (k0_hw86 : k0_chk86 v1216), (Rect.unit (s := S8192x512) (k0_off261 v1216) S512x512.size (k0_off261_inb v1216 k0_hw86)).WholeWords (EltTy.packing .bf16) := fun v1216 k0_hw86 => k0_hw86.2 (k0_off261_inb v1216 k0_hw86)

def k0_off263 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1223 : Index := Scalar.indexCast v2
  let c11_978 : Index := 11#32
  ![v1223.toNat, 11]
def k0_off264 (v1224 : BitVec 32) : Fin 2 → Nat :=
  let c512_i32_979 : BitVec 32 := 512#32
  let v1225 : BitVec 32 := Scalar.muli v1224 c512_i32_979
  let c0_i32_982 : BitVec 32 := 0#32
  ![v1225.toNat, 0]

def k0_off265 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_983 : BitVec 32 := 0#32
  let c0_i32_984 : BitVec 32 := 0#32
  ![v2.toNat, 0, 0]

def k0_chk87 (v1224 : BitVec 32) : Prop :=
  (∀ a, (k0_off264 v1224) a + S512x512.size a ≤ S8192x512.size a) ∧
  (∀ (hinb : ∀ a, (k0_off264 v1224) a + S512x512.size a ≤ S8192x512.size a), (Rect.unit (s := S8192x512) (k0_off264 v1224) S512x512.size hinb).WholeWords (EltTy.packing .bf16))
theorem k0_off264_inb : ∀ (v1224 : BitVec 32) (k0_hw87 : k0_chk87 v1224), ∀ a, (k0_off264 v1224) a + S512x512.size a ≤ S8192x512.size a := fun v1224 k0_hw87 => k0_hw87.1
theorem k0_off264_wordsbf16 : ∀ (v1224 : BitVec 32) (k0_hw87 : k0_chk87 v1224), (Rect.unit (s := S8192x512) (k0_off264 v1224) S512x512.size (k0_off264_inb v1224 k0_hw87)).WholeWords (EltTy.packing .bf16) := fun v1224 k0_hw87 => k0_hw87.2 (k0_off264_inb v1224 k0_hw87)

def k0_off266 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1231 : Index := Scalar.indexCast v2
  let c12_985 : Index := 12#32
  ![v1231.toNat, 12]
def k0_off267 (v1232 : BitVec 32) : Fin 2 → Nat :=
  let c512_i32_986 : BitVec 32 := 512#32
  let v1233 : BitVec 32 := Scalar.muli v1232 c512_i32_986
  let c0_i32_989 : BitVec 32 := 0#32
  ![v1233.toNat, 0]

def k0_off268 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_990 : BitVec 32 := 0#32
  let c0_i32_991 : BitVec 32 := 0#32
  ![v2.toNat, 0, 0]

def k0_chk88 (v1232 : BitVec 32) : Prop :=
  (∀ a, (k0_off267 v1232) a + S512x512.size a ≤ S8192x512.size a) ∧
  (∀ (hinb : ∀ a, (k0_off267 v1232) a + S512x512.size a ≤ S8192x512.size a), (Rect.unit (s := S8192x512) (k0_off267 v1232) S512x512.size hinb).WholeWords (EltTy.packing .bf16))
theorem k0_off267_inb : ∀ (v1232 : BitVec 32) (k0_hw88 : k0_chk88 v1232), ∀ a, (k0_off267 v1232) a + S512x512.size a ≤ S8192x512.size a := fun v1232 k0_hw88 => k0_hw88.1
theorem k0_off267_wordsbf16 : ∀ (v1232 : BitVec 32) (k0_hw88 : k0_chk88 v1232), (Rect.unit (s := S8192x512) (k0_off267 v1232) S512x512.size (k0_off267_inb v1232 k0_hw88)).WholeWords (EltTy.packing .bf16) := fun v1232 k0_hw88 => k0_hw88.2 (k0_off267_inb v1232 k0_hw88)

def k0_off269 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1239 : Index := Scalar.indexCast v2
  let c13_992 : Index := 13#32
  ![v1239.toNat, 13]
def k0_off270 (v1240 : BitVec 32) : Fin 2 → Nat :=
  let c512_i32_993 : BitVec 32 := 512#32
  let v1241 : BitVec 32 := Scalar.muli v1240 c512_i32_993
  let c0_i32_996 : BitVec 32 := 0#32
  ![v1241.toNat, 0]

def k0_off271 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_997 : BitVec 32 := 0#32
  let c0_i32_998 : BitVec 32 := 0#32
  ![v2.toNat, 0, 0]

def k0_chk89 (v1240 : BitVec 32) : Prop :=
  (∀ a, (k0_off270 v1240) a + S512x512.size a ≤ S8192x512.size a) ∧
  (∀ (hinb : ∀ a, (k0_off270 v1240) a + S512x512.size a ≤ S8192x512.size a), (Rect.unit (s := S8192x512) (k0_off270 v1240) S512x512.size hinb).WholeWords (EltTy.packing .bf16))
theorem k0_off270_inb : ∀ (v1240 : BitVec 32) (k0_hw89 : k0_chk89 v1240), ∀ a, (k0_off270 v1240) a + S512x512.size a ≤ S8192x512.size a := fun v1240 k0_hw89 => k0_hw89.1
theorem k0_off270_wordsbf16 : ∀ (v1240 : BitVec 32) (k0_hw89 : k0_chk89 v1240), (Rect.unit (s := S8192x512) (k0_off270 v1240) S512x512.size (k0_off270_inb v1240 k0_hw89)).WholeWords (EltTy.packing .bf16) := fun v1240 k0_hw89 => k0_hw89.2 (k0_off270_inb v1240 k0_hw89)

def k0_off272 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1247 : Index := Scalar.indexCast v2
  let c14_999 : Index := 14#32
  ![v1247.toNat, 14]
def k0_off273 (v1248 : BitVec 32) : Fin 2 → Nat :=
  let c512_i32_1000 : BitVec 32 := 512#32
  let v1249 : BitVec 32 := Scalar.muli v1248 c512_i32_1000
  let c0_i32_1003 : BitVec 32 := 0#32
  ![v1249.toNat, 0]

def k0_off274 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1004 : BitVec 32 := 0#32
  let c0_i32_1005 : BitVec 32 := 0#32
  ![v2.toNat, 0, 0]

def k0_chk90 (v1248 : BitVec 32) : Prop :=
  (∀ a, (k0_off273 v1248) a + S512x512.size a ≤ S8192x512.size a) ∧
  (∀ (hinb : ∀ a, (k0_off273 v1248) a + S512x512.size a ≤ S8192x512.size a), (Rect.unit (s := S8192x512) (k0_off273 v1248) S512x512.size hinb).WholeWords (EltTy.packing .bf16))
theorem k0_off273_inb : ∀ (v1248 : BitVec 32) (k0_hw90 : k0_chk90 v1248), ∀ a, (k0_off273 v1248) a + S512x512.size a ≤ S8192x512.size a := fun v1248 k0_hw90 => k0_hw90.1
theorem k0_off273_wordsbf16 : ∀ (v1248 : BitVec 32) (k0_hw90 : k0_chk90 v1248), (Rect.unit (s := S8192x512) (k0_off273 v1248) S512x512.size (k0_off273_inb v1248 k0_hw90)).WholeWords (EltTy.packing .bf16) := fun v1248 k0_hw90 => k0_hw90.2 (k0_off273_inb v1248 k0_hw90)

def k0_off275 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1255 : Index := Scalar.indexCast v2
  let c15_1006 : Index := 15#32
  ![v1255.toNat, 15]
def k0_off276 (v1256 : BitVec 32) : Fin 2 → Nat :=
  let c512_i32_1007 : BitVec 32 := 512#32
  let v1257 : BitVec 32 := Scalar.muli v1256 c512_i32_1007
  let c0_i32_1010 : BitVec 32 := 0#32
  ![v1257.toNat, 0]

def k0_off277 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1011 : BitVec 32 := 0#32
  let c0_i32_1012 : BitVec 32 := 0#32
  ![v2.toNat, 0, 0]

def k0_chk91 (v1256 : BitVec 32) : Prop :=
  (∀ a, (k0_off276 v1256) a + S512x512.size a ≤ S8192x512.size a) ∧
  (∀ (hinb : ∀ a, (k0_off276 v1256) a + S512x512.size a ≤ S8192x512.size a), (Rect.unit (s := S8192x512) (k0_off276 v1256) S512x512.size hinb).WholeWords (EltTy.packing .bf16))
theorem k0_off276_inb : ∀ (v1256 : BitVec 32) (k0_hw91 : k0_chk91 v1256), ∀ a, (k0_off276 v1256) a + S512x512.size a ≤ S8192x512.size a := fun v1256 k0_hw91 => k0_hw91.1
theorem k0_off276_wordsbf16 : ∀ (v1256 : BitVec 32) (k0_hw91 : k0_chk91 v1256), (Rect.unit (s := S8192x512) (k0_off276 v1256) S512x512.size (k0_off276_inb v1256 k0_hw91)).WholeWords (EltTy.packing .bf16) := fun v1256 k0_hw91 => k0_hw91.2 (k0_off276_inb v1256 k0_hw91)

abbrev stage0_0 : Fin 1 → Memref sig .tc .smem S16x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/- The kernel's body as a regular program: an entry that starts the first copies, the signals to the
   fifteen others, one send trip per rank of the order table from the last down to the first, one
   multiply trip per rank from the first up to the last, and the waits on the sends. Each trip is
   written once, at its rank. -/
module

public import proofs.«01_k».proof.Proof.Gen.KernelIdeal.Skeleton
public import proofs.«01_k».proof.Proof.Gen.KernelIdeal.Points

@[expose] public section

set_option maxRecDepth 16384

noncomputable section

namespace Cert.Proof.Body

open Idealize.ShloMosaic Idealize.ShloMosaic.TcCoe Idealize.SL.Sem
open Cert.KernelIdeal Cert.KernelIdeal.Gen

variable {F : FTy → Type} [FloatOps F]

/-! ## Words and places -/

/-- The place of device `d` on the ring, as the kernel computes it. -/
def place (d : Dev nD) : BitVec 32 := Scalar.remsi (Scalar.divsi (Dev.word d) 1#32) 16#32

theorem place_toNat : ∀ d : Dev nD, (place d).toNat = d.val := by decide

/-- The corner of row block `w` of an array cut in row blocks of 512. -/
def rowOff (w : BitVec 32) : Fin 2 → ℕ := ![(Scalar.muli w 512#32).toNat, 0]

/-- The place of entry `j` of row `d` of the order table. -/
def tabOff (d : Dev nD) (j : ℕ) : Fin 2 → ℕ := ![(Scalar.indexCast (place d)).toNat, j]

/-- The corner of slot `w` of the sixteen block slots. -/
def slotOff (w : BitVec 32) : Fin 3 → ℕ := ![w.toNat, 0, 0]

/-- The place of semaphore `w` of sixteen. -/
def semOff (w : BitVec 32) : Fin 1 → ℕ := ![w.toNat]

/-- The device a block is sent to. -/
def devOf (w : BitVec 32) : ℕ := (Scalar.addi 0#32 (Scalar.muli w 1#32)).toNat

/-- What the kernel assumes of a word that names a row block of `x`. -/
def RowIn (w : BitVec 32) : Prop := ∀ a, (rowOff w) a + S512x512.size a ≤ S8192x512.size a
instance RowIn.dec : ∀ w : BitVec 32, Decidable (RowIn w) :=
  fun w => decidable_of_iff' _ (Iff.of_eq (RowIn.eq_1 w))

/-- What it assumes of a word that names a row block of `w_mat`. -/
def WideIn (w : BitVec 32) : Prop := ∀ a, (rowOff w) a + S512x4096.size a ≤ S8192x4096.size a
instance WideIn.dec : ∀ w : BitVec 32, Decidable (WideIn w) :=
  fun w => decidable_of_iff' _ (Iff.of_eq (WideIn.eq_1 w))

/-- What it assumes of the word that names a send's row block and device. -/
def SendOK (w : BitVec 32) : Prop :=
  (∀ a, (rowOff w) a + S512x512.size a ≤ S8192x512.size a) ∧
  (∀ (hinb : ∀ a, (rowOff w) a + S512x512.size a ≤ S8192x512.size a), (Rect.unit (s := S8192x512) (rowOff w) S512x512.size hinb).PackedRows (EltTy.packing .bf16)) ∧
  (∀ a, (rowOff w) a + S512x512.size a ≤ S8192x512.size a) ∧
  (∀ (hinb : ∀ a, (rowOff w) a + S512x512.size a ≤ S8192x512.size a), (Rect.unit (s := S8192x512) (rowOff w) S512x512.size hinb).WholeWords (EltTy.packing .bf16)) ∧
  ((devOf w) < nD)
instance SendOK.dec : ∀ w : BitVec 32, Decidable (SendOK w) :=
  fun w => decidable_of_iff' _ (Iff.of_eq (SendOK.eq_1 w))

/-- What it assumes of the word that names a received block. -/
def RecvOK (w : BitVec 32) : Prop :=
  (∀ a, (rowOff w) a + S512x4096.size a ≤ S8192x4096.size a) ∧
  (∀ a, (semOff w) a + S1.size a ≤ S16.size a) ∧
  (∀ a, (slotOff w) a + S1x512x512.size a ≤ S16x512x512.size a) ∧
  (∀ (hinb : ∀ a, (slotOff w) a + S1x512x512.size a ≤ S16x512x512.size a), (Rect.unit (s := S16x512x512) (slotOff w) S1x512x512.size hinb).WholeWords (EltTy.packing .bf16)) ∧
  (∀ a, (slotOff w) a + S1x512x512.size a ≤ S16x512x512.size a)
instance RecvOK.dec : ∀ w : BitVec 32, Decidable (RecvOK w) :=
  fun w => decidable_of_iff' _ (Iff.of_eq (RecvOK.eq_1 w))

/-- What it assumes of the word that names the row block a drained send read. -/
def DrainOK (w : BitVec 32) : Prop :=
  (∀ a, (rowOff w) a + S512x512.size a ≤ S8192x512.size a) ∧
  (∀ (hinb : ∀ a, (rowOff w) a + S512x512.size a ≤ S8192x512.size a), (Rect.unit (s := S8192x512) (rowOff w) S512x512.size hinb).WholeWords (EltTy.packing .bf16))
instance DrainOK.dec : ∀ w : BitVec 32, Decidable (DrainOK w) :=
  fun w => decidable_of_iff' _ (Iff.of_eq (DrainOK.eq_1 w))

theorem rowOff_place_inb : ∀ d : Dev nD, RowIn (place d) := k0_off2_inb
theorem wideOff_place_inb : ∀ d : Dev nD, WideIn (place d) := k0_off1_inb
theorem rowOff_place_packed : ∀ d : Dev nD, (Rect.unit (s := S8192x512) (rowOff (place d)) S512x512.size (rowOff_place_inb d)).PackedRows (EltTy.packing .bf16) := k0_off6_packedbf16
theorem slotOff_place_inb : ∀ d : Dev nD, ∀ a, (slotOff (place d)) a + S1x512x512.size a ≤ S16x512x512.size a := k0_off13_inb
theorem slotOff_place_words : ∀ d : Dev nD, (Rect.unit (s := S16x512x512) (slotOff (place d)) S1x512x512.size (slotOff_place_inb d)).WholeWords (EltTy.packing .bf16) := k0_off13_wordsbf16
theorem semOff_place_inb : ∀ d : Dev nD, ∀ a, (semOff (place d)) a + S1.size a ≤ S16.size a := k0_off12_inb

theorem tabOff_inb (d : Dev nD) (j : ℕ) (hj : j < 16) : ∀ a, (tabOff d j) a + S1x1.size a ≤ S16x16.size a := by
  intro a
  have h := place_toNat d
  have hd := d.isLt
  match a with
  | 0 => show (place d).toNat + 1 ≤ 16; rw [h]; exact hd
  | 1 => show j + 1 ≤ 16; omega

theorem semOff_nat_inb (n : ℕ) (h : n < 16) : ∀ a, (![n] : Fin 1 → ℕ) a + S1.size a ≤ S16.size a := by
  intro a
  match a with
  | 0 => show n + 1 ≤ 16; omega

theorem pairSem_inb (p : ℕ) (h : p < 2) : ∀ a, (![p] : Fin 1 → ℕ) a + S1.size a ≤ S2.size a := by
  intro a
  match a with
  | 0 => show p + 1 ≤ 2; omega

theorem stageOff_inb (p : ℕ) (h : p < 2) : ∀ a, (![p, 0, 0] : Fin 3 → ℕ) a + S1x512x512.size a ≤ S2x512x512.size a := by
  intro a
  match a with
  | 0 => show p + 1 ≤ 2; omega
  | 1 => exact le_refl 512
  | 2 => exact le_refl 512

theorem wideOff_inb (p : ℕ) (h : p < 2) : ∀ a, (![p, 0, 0] : Fin 3 → ℕ) a + S1x512x4096.size a ≤ S2x512x4096.size a := by
  intro a
  match a with
  | 0 => show p + 1 ≤ 2; omega
  | 1 => exact le_refl 512
  | 2 => exact le_refl 4096

/-! ## The buffers, semaphores and blocks by name -/

/-- The device's column block of `x`. -/
abbrev xArr : Memref sig .tc .hbm S8192x512 .f32 := Memref.whole main_arg0
/-- The weights, whole on every device. -/
abbrev wArr : Memref sig .tc .hbm S8192x4096 .f32 := Memref.whole main_arg1
/-- The order table. -/
abbrev tab : Memref sig .tc .smem S16x16 .i32 := Memref.whole cc0_stg0_0
/-- The output's staging buffer. -/
abbrev outB : Memref sig .tc .vmem S512x4096 .f32 := Memref.whole cc0_stg1_0
/-- The device's column block of `x`, narrowed. -/
abbrev xBf : Memref sig .tc .vmem S8192x512 .bf16 := Memref.whole cc0_scratch0
/-- Two stages for row blocks of `x`. -/
abbrev stageB : Memref sig .tc .vmem S2x512x512 .f32 := Memref.whole cc0_scratch1
/-- Sixteen slots for the blocks that arrive. -/
abbrev commB : Memref sig .tc .vmem S16x512x512 .bf16 := Memref.whole cc0_scratch2
/-- Two stages for row blocks of the weights. -/
abbrev wideB : Memref sig .tc .vmem S2x512x4096 .f32 := Memref.whole cc0_scratch3

/-- Row block `w` of `x`, in HBM. -/
abbrev xRow (w : BitVec 32) (h : RowIn w) : Memref sig .tc .hbm S512x512 .f32 :=
  xArr.slice (Rect.unit (s := S8192x512) (rowOff w) S512x512.size h) (fun _ => rfl)
/-- Row block `w` of the weights, in HBM. -/
abbrev wRow (w : BitVec 32) (h : WideIn w) : Memref sig .tc .hbm S512x4096 .f32 :=
  wArr.slice (Rect.unit (s := S8192x4096) (rowOff w) S512x4096.size h) (fun _ => rfl)
/-- Stage `p` of the row blocks of `x`. -/
abbrev stageSlot (p : ℕ) (h : p < 2) : Memref sig .tc .vmem S512x512 .f32 :=
  (stageB.slice (Rect.unit (s := S2x512x512) ![p, 0, 0] S1x512x512.size (stageOff_inb p h)) (fun _ => rfl)).squeeze
    S512x512 squeezes_S1x512x512_S512x512
/-- Stage `p` of the row blocks of the weights. -/
abbrev wideSlot (p : ℕ) (h : p < 2) : Memref sig .tc .vmem S512x4096 .f32 :=
  (wideB.slice (Rect.unit (s := S2x512x4096) ![p, 0, 0] S1x512x4096.size (wideOff_inb p h)) (fun _ => rfl)).squeeze
    S512x4096 squeezes_S1x512x4096_S512x4096
/-- Row block `w` of the narrowed column block. -/
abbrev bfRow (w : BitVec 32) (h : RowIn w) : Memref sig .tc .vmem S512x512 .bf16 :=
  xBf.slice (Rect.unit (s := S8192x512) (rowOff w) S512x512.size h) (fun _ => rfl)
/-- Slot `w` of the blocks that arrive. -/
abbrev commSlot (w : BitVec 32) (h : ∀ a, (slotOff w) a + S1x512x512.size a ≤ S16x512x512.size a) :
    Memref sig .tc .vmem S512x512 .bf16 :=
  (commB.slice (Rect.unit (s := S16x512x512) (slotOff w) S1x512x512.size h) (fun _ => rfl)).squeeze
    S512x512 squeezes_S1x512x512_S512x512

/-- The semaphore of stage `p` of `x`. -/
abbrev stageSem (p : ℕ) (h : p < 2) : DmaSem sig :=
  ((cc0_scratch6.slice (Rect.unit (s := S2) ![p] S1.size (pairSem_inb p h))).squeeze S_ squeezes_S1_S_).sem
/-- The semaphore of stage `p` of the weights. -/
abbrev wideSem (p : ℕ) (h : p < 2) : DmaSem sig :=
  ((cc0_scratch7.slice (Rect.unit (s := S2) ![p] S1.size (pairSem_inb p h))).squeeze S_ squeezes_S1_S_).sem
/-- The semaphore the send of rank `n` credits. -/
abbrev sendSem (n : ℕ) (h : n < 16) : DmaSem sig :=
  ((cc0_scratch4.slice (Rect.unit (s := S16) ![n] S1.size (semOff_nat_inb n h))).squeeze S_ squeezes_S1_S_).sem
/-- The semaphore a block from device `w` credits. -/
abbrev recvSem (w : BitVec 32) (h : ∀ a, (semOff w) a + S1.size a ≤ S16.size a) : DmaSem sig :=
  ((cc0_scratch5.slice (Rect.unit (s := S16) (semOff w) S1.size h)).squeeze S_ squeezes_S1_S_).sem
/-- The barrier semaphore. -/
abbrev barSem : Sem sig := (SemArray.scalar (sig.barrier 0 rfl) : Sems sig S_).sem

/-! ## The trips -/

/-- A block of `x` narrowed, as it is stored. -/
def narrow (v : Vec F S1x512x512 .f32) : FVec F S512x512 .bf16 := k0_pay1 v

/-- The product of the device's own block. -/
def prodOwn (a : Vec F S512x512 .bf16) (b : Vec F S1x512x4096 .f32) : FVec F S512x4096 .f32 := k0_pay19 a b

/-- The product of an arrived block added to what is there. -/
def prodAdd (a : Vec F S1x512x512 .bf16) (b : Vec F S1x512x4096 .f32) (o : Vec F S512x4096 .f32) :
    FVec F S512x4096 .f32 := k0_pay23 a b o

/-- Reads entry `j` of the device's row of the order table. -/
def word (d : Dev nD) (j : ℕ) (hj : j < 16) : Prog (TpuEff nD τ sig (Elt F) Λ₀ .tc) (Elt F .i32) :=
  smemLoad tab (Rect.unit (s := S16x16) (tabOff d j) S1x1.size (tabOff_inb d j hj)) numel1_S1x1 rfl

/-- Starts the copy of row block `w` of `x` into stage `p`. -/
def stageStart (p : ℕ) (hp : p < 2) (w : BitVec 32) (hw : RowIn w) : Prog (TpuEff nD τ sig (Elt F) Λ₀ .tc) PUnit :=
  Prog.lift (.enqueueDma (xRow w hw) (.here (stageSlot p hp)) (.dma (stageSem p hp)) (View.wordExact_bits rfl)
    ((View.wordExact_bits rfl).reshape _ _) ⟨Or.inl rfl, trivial⟩)

/-- Waits for it. -/
def stageWait (p : ℕ) (hp : p < 2) (w : BitVec 32) (hw : RowIn w) : Prog (TpuEff nD τ sig (Elt F) Λ₀ .tc) PUnit :=
  Prog.lift (.waitDma2 (stageSem p hp) (xRow w hw) (stageSlot p hp) (View.wordExact_bits rfl)
    ((View.wordExact_bits rfl).reshape _ _))

/-- Starts the copy of row block `w` of the weights into stage `p`. -/
def wideStart (p : ℕ) (hp : p < 2) (w : BitVec 32) (hw : WideIn w) : Prog (TpuEff nD τ sig (Elt F) Λ₀ .tc) PUnit :=
  Prog.lift (.enqueueDma (wRow w hw) (.here (wideSlot p hp)) (.dma (wideSem p hp)) (View.wordExact_bits rfl)
    ((View.wordExact_bits rfl).reshape _ _) ⟨Or.inl rfl, trivial⟩)

/-- Waits for it. -/
def wideWait (p : ℕ) (hp : p < 2) (w : BitVec 32) (hw : WideIn w) : Prog (TpuEff nD τ sig (Elt F) Λ₀ .tc) PUnit :=
  Prog.lift (.waitDma2 (wideSem p hp) (wRow w hw) (wideSlot p hp) (View.wordExact_bits rfl)
    ((View.wordExact_bits rfl).reshape _ _))

/-- Starts the copy of the block the send of rank `n` will narrow. -/
def stageNext (d : Dev nD) (n : ℕ) (hn : n < 16) : Prog (TpuEff nD τ sig (Elt F) Λ₀ .tc) PUnit := do
  let w ← word d n hn
  have hw : RowIn w := (← Prog.lift (TpuEff.assume (RowIn w) (RowIn.dec w))).down
  stageStart (n % 2) (Nat.mod_lt _ (by decide)) w hw

/-- Starts the copy of the weights' block the multiply of rank `n` will read. -/
def wideNext (d : Dev nD) (n : ℕ) (hn : n < 16) : Prog (TpuEff nD τ sig (Elt F) Λ₀ .tc) PUnit := do
  let w ← word d n hn
  have hw : WideIn w := (← Prog.lift (TpuEff.assume (WideIn w) (WideIn.dec w))).down
  wideStart (n % 2) (Nat.mod_lt _ (by decide)) w hw

/-- Narrows the block in stage `p` into row block `w` of the narrowed column block. -/
def narrowInto (p : ℕ) (hp : p < 2) (w : BitVec 32) (hw : RowIn w)
    (hpk : (Rect.unit (s := S8192x512) (rowOff w) S512x512.size hw).PackedRows (EltTy.packing .bf16)) :
    Prog (TpuEff nD τ sig (Elt F) Λ₀ .tc) PUnit := do
  let v : Vec F S1x512x512 .f32 ← Prog.lift (.load stageB (Rect.unit (s := S2x512x512) ![p, 0, 0] S1x512x512.size (stageOff_inb p hp)).toLoadRect (View.loadsAt_vmem h_S1x512x512))
  let _u : Vec F S512x512 .bf16 ← Prog.lift (.load xBf (Rect.unit (s := S8192x512) (rowOff w) S512x512.size hw).toLoadRect (View.loadsAt_vmem h_S512x512))
  Prog.lift (.store xBf (Rect.unit (s := S8192x512) (rowOff w) S512x512.size hw) (narrow v) Finset.univ (View.stores_vmem h_S512x512 ((Memref.isWhole_whole _).storeExact_slice rfl _ hpk) (fun _ => rfl)) (.inl rfl))

/-- Sends row block `w` of the narrowed column block to device `w`, into its slot for this device. -/
def sendRow (d : Dev nD) (n : ℕ) (hn : n < 16) (w : BitVec 32) (hw : SendOK w) :
    Prog (TpuEff nD τ sig (Elt F) Λ₀ .tc) PUnit :=
  Prog.lift (.enqueueDma (bfRow w hw.2.2.1)
    (.remote (Dev.tc (⟨devOf w, hw.2.2.2.2⟩ : Dev nD)) (commSlot (place d) (slotOff_place_inb d)) (.dma (sendSem n hn)))
    (.dma (recvSem (place d) (semOff_place_inb d)))
    ((Memref.isWhole_whole _).wordExact_slice rfl _ (hw.2.2.2.1 hw.2.2.1))
    (((Memref.isWhole_whole _).wordExact_slice rfl _ (slotOff_place_words d)).reshape _ _) ⟨⟨rfl, Or.inl rfl⟩, trivial⟩)

/-- The send trip of rank `n`: its block is staged, the next copy is started by `next`, the block is
    narrowed and sent. -/
def sendTrip (d : Dev nD) (n : ℕ) (hn : n < 16) (next : Prog (TpuEff nD τ sig (Elt F) Λ₀ .tc) PUnit) :
    Prog (TpuEff nD τ sig (Elt F) Λ₀ .tc) PUnit := do
  let w ← word d n hn
  have hw : SendOK w := (← Prog.lift (TpuEff.assume (SendOK w) (SendOK.dec w))).down
  let u ← word d n hn
  have hu : RowIn u := (← Prog.lift (TpuEff.assume (RowIn u) (RowIn.dec u))).down
  stageWait (n % 2) (Nat.mod_lt _ (by decide)) u hu
  next
  narrowInto (n % 2) (Nat.mod_lt _ (by decide)) w hw.1 (hw.2.1 hw.1)
  sendRow d n hn w hw

/-- The send trips of ranks `n`, `n - 1`, …, `1`. -/
def sends (d : Dev nD) : (n : ℕ) → n < 16 → Prog (TpuEff nD τ sig (Elt F) Λ₀ .tc) PUnit
  | 0, _ => pure ⟨⟩
  | 1, h => sendTrip d 1 h (pure ⟨⟩)
  | n + 2, h => do
    sendTrip d (n + 2) h (stageNext d (n + 1) (by omega))
    sends d (n + 1) (by omega)

/-- The output with the loads the stores are preceded by. -/
def outStore (v : FVec F S512x4096 .f32) : Prog (TpuEff nD τ sig (Elt F) Λ₀ .tc) PUnit := do
  let _u : Vec F S512x4096 .f32 ← Prog.lift (.load outB (Rect.unit (s := S512x4096) ![0, 0] S512x4096.size inb_S512x4096_S512x4096_0_0).toLoadRect (View.loadsAt_vmem h_S512x4096))
  Prog.lift (.store outB (Rect.unit (s := S512x4096) ![0, 0] S512x4096.size inb_S512x4096_S512x4096_0_0) v Finset.univ (View.stores_vmem_bits_univ h_S512x4096 rfl) (.inl rfl))

/-- The multiply trip of rank `0`: the device's own block. -/
def mulOwn (d : Dev nD) : Prog (TpuEff nD τ sig (Elt F) Λ₀ .tc) PUnit := do
  let w ← word d 0 (by decide)
  have hw : WideIn w := (← Prog.lift (TpuEff.assume (WideIn w) (WideIn.dec w))).down
  wideWait 0 (by decide) w hw
  wideNext d 1 (by decide)
  let a : Vec F S512x512 .bf16 ← Prog.lift (.load xBf (Rect.unit (s := S8192x512) (rowOff (place d)) S512x512.size (rowOff_place_inb d)).toLoadRect (View.loadsAt_vmem h_S512x512))
  let b : Vec F S1x512x4096 .f32 ← Prog.lift (.load wideB (Rect.unit (s := S2x512x4096) ![0, 0, 0] S1x512x4096.size (wideOff_inb 0 (by decide))).toLoadRect (View.loadsAt_vmem h_S1x512x4096))
  outStore (prodOwn a b)

/-- The multiply trip of rank `n`: the weights' block and the arrived block are awaited, the next
    copy is started by `next`, the product is added to the output. -/
def mulTrip (d : Dev nD) (n : ℕ) (hn : n < 16) (next : Prog (TpuEff nD τ sig (Elt F) Λ₀ .tc) PUnit) :
    Prog (TpuEff nD τ sig (Elt F) Λ₀ .tc) PUnit := do
  let w ← word d n hn
  have hw : RecvOK w := (← Prog.lift (TpuEff.assume (RecvOK w) (RecvOK.dec w))).down
  wideWait (n % 2) (Nat.mod_lt _ (by decide)) w hw.1
  next
  Prog.lift (.waitDma2 (recvSem w hw.2.1) (commSlot w hw.2.2.1) (commSlot w hw.2.2.1)
    (((Memref.isWhole_whole _).wordExact_slice rfl _ (hw.2.2.2.1 hw.2.2.1)).reshape _ _)
    (((Memref.isWhole_whole _).wordExact_slice rfl _ (hw.2.2.2.1 hw.2.2.1)).reshape _ _))
  let a : Vec F S1x512x512 .bf16 ← Prog.lift (.load commB (Rect.unit (s := S16x512x512) (slotOff w) S1x512x512.size hw.2.2.2.2).toLoadRect (View.loadsAt_vmem h_S1x512x512))
  let b : Vec F S1x512x4096 .f32 ← Prog.lift (.load wideB (Rect.unit (s := S2x512x4096) ![n % 2, 0, 0] S1x512x4096.size (wideOff_inb (n % 2) (Nat.mod_lt _ (by decide)))).toLoadRect (View.loadsAt_vmem h_S1x512x4096))
  let o : Vec F S512x4096 .f32 ← Prog.lift (.load outB (Rect.unit (s := S512x4096) ![0, 0] S512x4096.size inb_S512x4096_S512x4096_0_0).toLoadRect (View.loadsAt_vmem h_S512x4096))
  outStore (prodAdd a b o)

/-- The last `n` multiply trips: ranks `16 - n`, …, `15`. -/
def muls (d : Dev nD) : (n : ℕ) → n < 16 → Prog (TpuEff nD τ sig (Elt F) Λ₀ .tc) PUnit
  | 0, _ => pure ⟨⟩
  | 1, _ => mulTrip d 15 (by decide) (pure ⟨⟩)
  | n + 2, h => do
    mulTrip d (14 - n) (by omega) (wideNext d (15 - n) (by omega))
    muls d (n + 1) (by omega)

/-- Waits until the send of rank `n` has read its block. -/
def drain (d : Dev nD) (n : ℕ) (hn : n < 16) : Prog (TpuEff nD τ sig (Elt F) Λ₀ .tc) PUnit := do
  let w ← word d n hn
  have hw : DrainOK w := (← Prog.lift (TpuEff.assume (DrainOK w) (DrainOK.dec w))).down
  Prog.lift (.waitDma2 (sendSem n hn) (commSlot (place d) (slotOff_place_inb d)) (bfRow w hw.1)
    (((Memref.isWhole_whole _).wordExact_slice rfl _ (slotOff_place_words d)).reshape _ _)
    ((Memref.isWhole_whole _).wordExact_slice rfl _ (hw.2 hw.1)))

/-- The last `n` of these waits: ranks `16 - n`, …, `15`. -/
def drains (d : Dev nD) : (n : ℕ) → n < 16 → Prog (TpuEff nD τ sig (Elt F) Λ₀ .tc) PUnit
  | 0, _ => pure ⟨⟩
  | n + 1, h => do
    drain d (15 - n) (by omega)
    drains d n (by omega)

/-- Whether device `d` is not the `j`-th, as the kernel computes it. -/
def other (d : Dev nD) (j : ℕ) : BitVec 1 :=
  Scalar.cmpi .ne (Scalar.extui (Scalar.cmpi .ne (place d) (BitVec.ofNat 32 j)) : BitVec 32) 0#32

/-- Tells device `j` that this one has entered, unless it is device `j`. -/
def tell (d : Dev nD) (j : ℕ) (hj : j < 16) : Prog (TpuEff nD τ sig (Elt F) Λ₀ .tc) PUnit :=
  if _h : other d j = 1#1 then semSignalWord (⟨j, hj⟩ : Dev nD) barSem 1#32 else pure ⟨⟩

/-- The last `n` signals: devices `16 - n`, …, `15`. -/
def tells (d : Dev nD) : (n : ℕ) → n ≤ 16 → Prog (TpuEff nD τ sig (Elt F) Λ₀ .tc) PUnit
  | 0, _ => pure ⟨⟩
  | n + 1, h => do
    tell d (15 - n) (by omega)
    tells d n (by omega)

/-- The entry: the device's place, then the first copies. -/
def entry (d : Dev nD) : Prog (TpuEff nD τ sig (Elt F) Λ₀ .tc) PUnit := do
  wideStart 0 (by decide) (place d) (wideOff_place_inb d)
  stageStart 0 (by decide) (place d) (rowOff_place_inb d)
  stageNext d 15 (by decide)

/-- The device's own block is narrowed. -/
def ownBlock (d : Dev nD) : Prog (TpuEff nD τ sig (Elt F) Λ₀ .tc) PUnit := do
  stageWait 0 (by decide) (place d) (rowOff_place_inb d)
  narrowInto 0 (by decide) (place d) (rowOff_place_inb d) (rowOff_place_packed d)

/-- What follows the signals. -/
def afterTells (d : Dev nD) : Prog (TpuEff nD τ sig (Elt F) Λ₀ .tc) PUnit := do
  ownBlock d
  semWaitWord barSem 15#32
  sends d 15 (by decide)
  mulOwn d
  muls d 15 (by decide)
  drains d 15 (by decide)

/-- The body. -/
def body : Prog (TpuEff nD τ sig (Elt F) Λ₀ .tc) PUnit := do
  let d ← Prog.lift .deviceId
  entry d
  tells d 16 (by decide)
  afterTells d

end Cert.Proof.Body

end
-- ==== Proof.Order.lean ====
/- The order table: device `c` takes its partners in the order `ord c 0`, …, `ord c 15`, itself first.
   The words of the table are places of devices, so what the kernel assumes of a word holds. -/
module

public import proofs.«01_k».proof.Proof.Program

@[expose] public section

set_option maxRecDepth 16384

noncomputable section

namespace Cert.Proof.Body

open Idealize.ShloMosaic Idealize.ShloMosaic.TcCoe Idealize.SL.Sem
open Cert.KernelIdeal Cert.KernelIdeal.Gen

variable {F : FTy → Type} [FloatOps F]

/-- The `j`-th partner of device `c` (`j` taken below 16). -/
def ord (c : Dev nD) (j : ℕ) : Dev nD :=
  ⟨(lit0 ⟨16 * c.val + j % 16, by have := c.isLt; have : nD = 16 := rfl; omega⟩).toNat % 16, Nat.mod_lt _ (by decide)⟩

theorem ord_zero : ∀ c : Dev nD, ord c 0 = c := by decide +kernel

theorem ord_inj_fin : ∀ (c : Dev nD) (i j : Fin 16), ord c i.val = ord c j.val → i = j := by decide +kernel

theorem ord_inj (c : Dev nD) {i j : ℕ} (hi : i < 16) (hj : j < 16) (h : ord c i = ord c j) : i = j :=
  congrArg Fin.val (ord_inj_fin c ⟨i, hi⟩ ⟨j, hj⟩ h)

theorem ord_ne_self (c : Dev nD) {j : ℕ} (hj : j < 16) (h0 : 0 < j) : ord c j ≠ c := fun h => by
  have := ord_inj c hj (by decide : 0 < 16) (h.trans (ord_zero c).symm); omega

/-- The order of device `c` as a permutation of the devices. -/
def ordEquiv (c : Dev nD) : Fin 16 ≃ Dev nD :=
  Equiv.ofBijective (fun j : Fin 16 => ord c j.val)
    ((Fintype.bijective_iff_injective_and_card _).mpr ⟨fun i j h => ord_inj_fin c i j h, rfl⟩)

/-- The table's contents. -/
def tabF : (cc0_stg0_0 : Ref sig .tc).ty.Contents (Elt F) := fun i => lit0 (S16x16.rowMajor i)

theorem lit0_place : ∀ (c : Dev nD) (j : Fin 16),
    lit0 (S16x16.rowMajor ((Rect.unit (s := S16x16) (tabOff c j.val) S1x1.size (tabOff_inb c j.val j.isLt)).emb
      (Shape.Idx.first (numel1_S1x1 ▸ Nat.one_pos)))) = place (ord c j.val) := by decide +kernel

/-- Entry `j` of device `c`'s row names its `j`-th partner. -/
theorem tab_read (c : Dev nD) (j : ℕ) (hj : j < 16) (x : S1x1.Idx) :
    (tab.access (Rect.unit (s := S16x16) (tabOff c j) S1x1.size (tabOff_inb c j hj))).read (Elt F) tabF x = place (ord c j) := by
  have hx : x = Shape.Idx.first (numel1_S1x1 ▸ Nat.one_pos) := by
    funext a; apply Fin.ext; have := (x a).isLt
    match a with
    | 0 => have h1 : (x 0).val < 1 := (x 0).isLt; have h2 : ((Shape.Idx.first (s := S1x1) (numel1_S1x1 ▸ Nat.one_pos)) 0).val < 1 := Fin.isLt _; omega
    | 1 => have h1 : (x 1).val < 1 := (x 1).isLt; have h2 : ((Shape.Idx.first (s := S1x1) (numel1_S1x1 ▸ Nat.one_pos)) 1).val < 1 := Fin.isLt _; omega
  subst hx
  exact lit0_place c ⟨j, hj⟩

theorem rowWords : ∀ d : Dev nD, (Rect.unit (s := S8192x512) (rowOff (place d)) S512x512.size (rowOff_place_inb d)).WholeWords (EltTy.packing .bf16) :=
  fun d => (rowOff_place_packed d).wholeWords

theorem devOf_place : ∀ d : Dev nD, devOf (place d) = d.val := by decide +kernel

theorem sendOK (d : Dev nD) : SendOK (place d) :=
  ⟨rowOff_place_inb d, fun _ => rowOff_place_packed d, rowOff_place_inb d, fun _ => rowWords d, by rw [devOf_place]; exact d.isLt⟩

theorem recvOK (d : Dev nD) : RecvOK (place d) :=
  ⟨wideOff_place_inb d, semOff_place_inb d, slotOff_place_inb d, fun _ => slotOff_place_words d, slotOff_place_inb d⟩

theorem drainOK (d : Dev nD) : DrainOK (place d) := ⟨rowOff_place_inb d, fun _ => rowWords d⟩

theorem other_eq : ∀ (d : Dev nD) (j : Fin 16), other d j.val = if (d : ℕ) = j.val then 0#1 else 1#1 := by decide +kernel

/-! ## Blocks, slots and semaphores by device -/

/-- Row block `s` of `x`. -/
abbrev xR (s : Dev nD) : Memref sig .tc .hbm S512x512 .f32 := xRow (place s) (rowOff_place_inb s)
/-- Row block `s` of the weights. -/
abbrev wR (s : Dev nD) : Memref sig .tc .hbm S512x4096 .f32 := wRow (place s) (wideOff_place_inb s)
/-- Row block `s` of the narrowed column block. -/
abbrev bR (s : Dev nD) : Memref sig .tc .vmem S512x512 .bf16 := bfRow (place s) (rowOff_place_inb s)
/-- The slot for the block of device `s`. -/
abbrev cS (s : Dev nD) : Memref sig .tc .vmem S512x512 .bf16 := commSlot (place s) (slotOff_place_inb s)
/-- The semaphore a block from device `s` credits. -/
abbrev rSem (s : Dev nD) : DmaSem sig := recvSem (place s) (semOff_place_inb s)

theorem rSem_val : ∀ s : Dev nD, (rSem s).val = 18 + s.val := by decide +kernel
theorem sendSem_val : ∀ j : Fin 16, (sendSem j.val j.isLt).val = 2 + j.val := by decide +kernel
theorem stageSem_val : ∀ p : Fin 2, (stageSem p.val p.isLt).val = 34 + p.val := by decide +kernel
theorem wideSem_val : ∀ p : Fin 2, (wideSem p.val p.isLt).val = 36 + p.val := by decide +kernel

/-- What one block's copy credits. -/
def N : ℕ := (cS 0).view.dmaCredit
theorem N_pos : 0 < N := View.dmaCredit_pos _ (by decide)
theorem cS_credit (s : Dev nD) : (cS s).view.dmaCredit = N := rfl
theorem bR_credit (s : Dev nD) : (bR s).view.dmaCredit = N := rfl

end Cert.Proof.Body

end
-- ==== Proof.Schedule.lean ====
/- The talk between the devices, cell by cell.

   * Barrier cell of device `c`: every other device `q` pays one unit, and with it hands over its slot
     for `c`'s block and that `q`'s cell for that block is open. `c` waits for all fifteen.
   * Receive cell `(c, s)`: device `s` pays one block's credit when its copy has landed, and with it the
     slot for `s` on `c` comes back holding the block `s` narrowed for `c`.
   * Send cell `(c, j)`: device `c` pays itself one block's credit when the copy of rank `j` has left, and
     with it the block it was read from comes back.

   Each cell has one round. A device owes the barrier units and the blocks' credits at launch. -/
module

public import proofs.«01_k».proof.Proof.Order
public import proofs.«01_k».proof.Proof.Gen.KernelIdeal.Frame
public import Idealize.ShloMosaic.Lib.Pipeline.RegionTalk

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

abbrev UT : Type := URounds (GSem nD τ sig) (Dev nD)
abbrev UU : Type := UR sig nD τ × (UT × Counters)

local notation "𝕄" => MT nD τ sig Unit (Elt F) ℕ UU ℕ

abbrev EP : Emb (UR sig nD τ) (MT nD τ sig Unit (Elt F) ℕ UU ℕ) := embL
/-- The talk's rounds. -/
def ER : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb
instance ER_landsIn : (ER : Emb UT 𝕄).LandsIn (upEmb : UEmb _ 𝕄) := by unfold ER; infer_instance
/-- The counters the local copies draw on. -/
abbrev EC : UEmb Counters (MT nD τ sig Unit (Elt F) ℕ UU ℕ) := countersEmb (U := UU)

/-! ## Contents -/

variable (m : (ℓ : Loc nD τ sig) → Buf (Elt F) ℓ)

/-- Device `s`'s column block of `x`. -/
abbrev xOf (s : Dev nD) : (main_arg0 : Ref sig .tc).ty.Contents (Elt F) := m ((s : Thread nD τ).loc main_arg0)
/-- The weights on device `s`. -/
abbrev wOf (s : Dev nD) : (main_arg1 : Ref sig .tc).ty.Contents (Elt F) := m ((s : Thread nD τ).loc main_arg1)

/-- A block as a load through one of several stages gives it. -/
def lead {e : EltTy} (v : Vec F S512x512 e) : Vec F S1x512x512 e :=
  fun i => v ((Shape.reshapeEquiv (squeezes_S1x512x512_S512x512.numel_eq)).symm i)
def leadW {e : EltTy} (v : Vec F S512x4096 e) : Vec F S1x512x4096 e :=
  fun i => v ((Shape.reshapeEquiv (squeezes_S1x512x4096_S512x4096.numel_eq)).symm i)

/-- Row block `c` of device `s`'s column block, in HBM. -/
def xBlk (s c : Dev nD) : Vec F S512x512 .f32 := (xR c).view.read (Elt F) (xOf m s)
/-- Row block `s` of the weights on device `c`. -/
def wBlk (c s : Dev nD) : Vec F S512x4096 .f32 := (wR s).view.read (Elt F) (wOf m c)
/-- Row block `c` of device `s`'s column block, narrowed. -/
def nar (s c : Dev nD) : Vec F S512x512 .bf16 := narrow (lead (xBlk m s c))

/-- The output of device `c` after `n` ranks. -/
def acc (c : Dev nD) : ℕ → Vec F S512x4096 .f32
  | 0 => prodOwn (nar m c c) (leadW (wBlk m c c))
  | n + 1 => prodAdd (lead (nar m (ord c (n + 1)) c)) (leadW (wBlk m c (ord c (n + 1)))) (acc c n)

/-! ## Cells -/

abbrev barCell (c : Dev nD) : GSem nD τ sig := ((c : Thread nD τ), .reg barSem)
abbrev sendCell (c : Dev nD) (j : Fin 16) : GSem nD τ sig := ((c : Thread nD τ), .dma (sendSem j.val j.isLt))
abbrev recvCell (c s : Dev nD) : GSem nD τ sig := ((c : Thread nD τ), .dma (rSem s))

inductive Role where
  | bar
  | send (j : Fin 16)
  | recv (s : Dev nD)
  | none
  deriving DecidableEq

/-- What a semaphore is for. -/
def role : SemLoc sig → Role
  | .reg _ => .bar
  | .dma k =>
    if h : 2 ≤ k.val ∧ k.val < 18 then .send ⟨k.val - 2, by omega⟩
    else if h : 18 ≤ k.val ∧ k.val < 34 then .recv ⟨k.val - 18, by have : nD = 16 := rfl; omega⟩
    else .none

theorem role_bar : role (.reg barSem) = .bar := rfl
theorem role_send : ∀ j : Fin 16, role (.dma (sendSem j.val j.isLt)) = .send j := by decide +kernel
theorem role_recv : ∀ s : Dev nD, role (.dma (rSem s)) = .recv s := by decide +kernel
theorem role_stage : ∀ p : Fin 2, role (.dma (stageSem p.val p.isLt)) = .none := by decide +kernel
theorem role_wide : ∀ p : Fin 2, role (.dma (wideSem p.val p.isLt)) = .none := by decide +kernel

/-- A memref's elements at contents not chosen. -/
abbrev any (c : Dev nD) {sp : Space} {s : Shape} {e : EltTy} (M : Memref sig .tc sp s e) : sProp 𝕄 :=
  iprop(∃ f, M.view.loc (c : Thread nD τ) ↦[M.view.set]{fullShare} f)

/-! ## The schedule -/

/-- Paid to device `c`'s barrier cell by device `q`. -/
def barPay (c q : Dev nD) : sProp 𝕄 := iprop(any q (cS c) ∗ reached ER (recvCell q c) 0)
/-- Paid to device `c`'s send cell of rank `j`. -/
def sendPay (c : Dev nD) (j : Fin 16) : sProp 𝕄 := any c (bR (ord c j.val))
/-- Paid to device `c`'s receive cell by device `s`. -/
def recvPay (c s : Dev nD) : sProp 𝕄 := ownsTc c (cS s) fullShare (nar m s c)

def payOf (c : Dev nD) : Role → Dev nD → sProp 𝕄
  | .bar, q => barPay c q
  | .send j, _ => sendPay c j
  | .recv s, _ => recvPay m c s
  | .none, _ => iprop(emp)

def dutiesOf (c : Dev nD) : Role → Finset (Dev nD)
  | .bar => Finset.univ.erase c
  | .send j => if j = 0 then ∅ else {c}
  | .recv s => if s = c then ∅ else {s}
  | .none => ∅

def rd : Rounds.Schedule (GSem nD τ sig) (Dev nD) 𝕄 where
  duties g r := if r = 0 ∧ g.1.2 = .tc then dutiesOf g.1.1 (role g.2) else ∅
  unitless _ := False
  amount g _ _ := if role g.2 = .bar then 1 else N
  payload g _ d := payOf m g.1.1 (role g.2) d
  amount_pos g _ _ _ := by
    by_cases h : role g.2 = .bar
    · rw [if_pos h]; exact Nat.one_pos
    · rw [if_neg h]; exact N_pos

instance rd_storable (g : GSem nD τ sig) (r : ℕ) (d : Dev nD) :
    BI.Storable (upEmb : UEmb _ 𝕄) ((rd (F := F) m).payload g r d) := by
  show BI.Storable upEmb (payOf m g.1.1 (role g.2) d)
  cases role g.2 <;> (unfold payOf; dsimp only; first | (unfold barPay any; infer_instance) | (unfold sendPay any; infer_instance) | (unfold recvPay; infer_instance) | infer_instance)

section Sched

variable (c : Dev nD)

theorem duties_bar : (rd (F := F) m).duties (barCell c) 0 = Finset.univ.erase c := by
  dsimp only [rd]; rw [if_pos ⟨rfl, rfl⟩]; rfl
theorem duties_send (j : Fin 16) (hj : j ≠ 0) : (rd (F := F) m).duties (sendCell c j) 0 = {c} := by
  dsimp only [rd]; rw [if_pos ⟨rfl, rfl⟩, role_send]; exact if_neg hj
theorem duties_recv (s : Dev nD) (hs : s ≠ c) : (rd (F := F) m).duties (recvCell c s) 0 = {s} := by
  dsimp only [rd]; rw [if_pos ⟨rfl, rfl⟩, role_recv]; exact if_neg hs
theorem duties_later (g : GSem nD τ sig) : ∀ r, 1 ≤ r → (rd (F := F) m).duties g r = ∅ :=
  fun r hr => by dsimp only [rd]; rw [if_neg (fun h => by omega)]

theorem amount_bar (d : Dev nD) : (rd (F := F) m).amount (barCell c) 0 d = 1 := rfl
theorem amount_send (j : Fin 16) (d : Dev nD) : (rd (F := F) m).amount (sendCell c j) 0 d = N := by
  dsimp only [rd]; rw [role_send]; exact if_neg (fun h => by cases h)
theorem amount_recv (s d : Dev nD) : (rd (F := F) m).amount (recvCell c s) 0 d = N := by
  dsimp only [rd]; rw [role_recv]; exact if_neg (fun h => by cases h)

theorem expect_bar : (rd (F := F) m).expect (barCell c) 0 = 15 := by
  unfold Schedule.expect Schedule.amountOf
  rw [duties_bar, Finset.sum_congr rfl fun d _ => amount_bar m c d, Finset.sum_const, Finset.card_erase_of_mem (Finset.mem_univ _)]
  rfl
theorem expect_send (j : Fin 16) (hj : j ≠ 0) : (rd (F := F) m).expect (sendCell c j) 0 = N := by
  unfold Schedule.expect Schedule.amountOf; rw [duties_send m c j hj, Finset.sum_singleton, amount_send]
theorem expect_recv (s : Dev nD) (hs : s ≠ c) : (rd (F := F) m).expect (recvCell c s) 0 = N := by
  unfold Schedule.expect Schedule.amountOf; rw [duties_recv m c s hs, Finset.sum_singleton, amount_recv]

theorem payload_bar (d : Dev nD) : (rd (F := F) m).payload (barCell c) 0 d = barPay c d := rfl
theorem payload_send (j : Fin 16) (d : Dev nD) : (rd (F := F) m).payload (sendCell c j) 0 d = sendPay c j := by
  dsimp only [rd]; rw [role_send]; rfl
theorem payload_recv (s d : Dev nD) : (rd (F := F) m).payload (recvCell c s) 0 d = recvPay m c s := by
  dsimp only [rd]; rw [role_recv]; rfl

theorem rest_bar : bigSep ((rd (F := F) m).duties (barCell c) 0 \ ∅) (fun u => (rd (F := F) m).payload (barCell c) 0 u)
    = bigSep (Finset.univ.erase c) fun q => barPay c q := by
  rw [Finset.sdiff_empty, duties_bar]; rfl
theorem rest_send (j : Fin 16) (hj : j ≠ 0) :
    bigSep ((rd (F := F) m).duties (sendCell c j) 0 \ ∅) (fun u => (rd (F := F) m).payload (sendCell c j) 0 u) = sendPay c j := by
  rw [Finset.sdiff_empty, duties_send m c j hj, bigSep_singleton, payload_send]
theorem rest_recv (s : Dev nD) (hs : s ≠ c) :
    bigSep ((rd (F := F) m).duties (recvCell c s) 0 \ ∅) (fun u => (rd (F := F) m).payload (recvCell c s) 0 u) = recvPay m c s := by
  rw [Finset.sdiff_empty, duties_recv m c s hs, bigSep_singleton, payload_recv]

end Sched

/-! ## What each device owes at launch; the levels -/

/-- The blocks' credits device `c` owes from rank 1 up to rank `n`. -/
def owedSends (c : Dev nD) : ℕ → CellTallies nD τ sig Unit
  | 0 => 0
  | n + 1 => owedSends c n + tallyAt (recvCell (ord c (n + 1)) c) () N

/-- The barrier units device `c` owes to the last `n` devices. -/
def owedTells (c : Dev nD) : ℕ → CellTallies nD τ sig Unit
  | 0 => 0
  | n + 1 => owedTells c n + if c.val = (15 - n) % 16 then 0 else tallyAt (barCell ⟨(15 - n) % 16, Nat.mod_lt _ (by decide)⟩) () 1

/-- What device `c` owes at launch. -/
def O₀ (c : Dev nD) : CellTallies nD τ sig Unit := owedSends c 15 + owedTells c 16

def L (g : GSem nD τ sig) : Finset Unit := if g.1.2 = .tc then {()} else ∅
/-- Barrier cells at 1, receive cells at 2, the rest at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- A device that owes only at cells of levels above `n`, on TensorCores. -/
def Above (n : ℕ) (O : CellTallies nD τ sig Unit) : Prop := ∀ g u, 0 < O g u → () ∈ L g ∧ n < lv g u

theorem above_zero (n : ℕ) : Above n 0 := fun _ _ h => absurd h (Nat.lt_irrefl 0)
theorem above_add {n : ℕ} {A B : CellTallies nD τ sig Unit} (hA : Above n A) (hB : Above n B) : Above n (A + B) := fun g u h => by
  have h' : 0 < A g u + B g u := h
  rcases Nat.eq_zero_or_pos (A g u) with h0 | h0
  · exact hB g u (by omega)
  · exact hA g u h0
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1, L_tc]; exact ⟨Finset.mem_singleton_self _, h⟩
  · rw [if_neg h'] at hg; exact absurd hg (Nat.lt_irrefl 0)

theorem lv_recv (c s : Dev nD) : lv (recvCell c s) () = 2 := by unfold lv; rw [role_recv]
theorem lv_bar (c : Dev nD) : lv (barCell c) () = 1 := rfl

theorem owedSends_above (c : Dev nD) (n : ℕ) : Above 1 (owedSends c n) := by
  induction n with
  | zero => exact above_zero 1
  | succ n ih => exact above_add ih (above_tally _ _ _ (by rw [lv_recv]; decide))
theorem owedTells_above (c : Dev nD) (n : ℕ) : Above 0 (owedTells c n) := by
  induction n with
  | zero => exact above_zero 0
  | succ n ih =>
    refine above_add ih ?_
    split
    · exact above_zero 0
    · exact above_tally _ _ _ (by rw [lv_bar]; decide)
theorem Above.mono {n k : ℕ} (h : k ≤ n) {O : CellTallies nD τ sig Unit} (hO : Above n O) : Above k O :=
  fun g u hg => ⟨(hO g u hg).1, lt_of_le_of_lt h (hO g u hg).2⟩

/-- A device may wait at a cell of level at most `n` while it owes only above `n`. -/
theorem mayWait (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

end Cert.Proof.Body

end
-- ==== Proof.Steps.lean ====
/- The steps of the body, one at a time: what each needs and what it leaves. -/
module

public import proofs.«01_k».proof.Proof.Schedule

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : GSem nD τ sig → ℕ)

/-- The table on device `c`. -/
abbrev tabP (c : Dev nD) : sProp 𝕄 := tab.view.loc (c : Thread nD τ) ↦[tab.view.set]{fullShare} tabF (F := F)
/-- Row block `s` of device `c`'s `x`. -/
abbrev xP (c s : Dev nD) : sProp 𝕄 := (xR s).view.loc (c : Thread nD τ) ↦[(xR s).view.set]{fullShare} xOf m c
/-- Row block `s` of device `c`'s weights. -/
abbrev wP (c s : Dev nD) : sProp 𝕄 := (wR s).view.loc (c : Thread nD τ) ↦[(wR s).view.set]{fullShare} wOf m c
/-- What device `c` owes, whatever it has waited for. -/
abbrev ow (c : Dev nD) (O : CellTallies nD τ sig Unit) : sProp 𝕄 := iprop(∃ W, owes (c : Thread nD τ) O W)

/-- What one block of `x`'s copy credits, and one of the weights'. -/
def Nx : ℕ := (stageSlot 0 (by decide)).view.dmaCredit
def Nw : ℕ := (wideSlot 0 (by decide)).view.dmaCredit
theorem Nx_pos : 0 < Nx := View.dmaCredit_pos _ (by decide)
theorem Nw_pos : 0 < Nw := View.dmaCredit_pos _ (by decide)

section Steps

variable (c : Dev nD)

theorem run_word (j : ℕ) (hj : j < 16) (Q : Elt F .i32 → sProp 𝕄) :
    iprop(tabP c ∗ (tabP c -∗ Q (place (ord c j)))) ⊢ run c (word (F := F) c j hj) Q := by
  unfold word smemLoad
  iintro ⟨Ht, Hk⟩
  iapply (wp_load_rect 𝒱₀ (c : Thread nD τ) none Set.univ (m := tab)
    (r := Rect.unit (s := S16x16) (tabOff c j) S1x1.size (tabOff_inb c j hj)) (S := tab.view.set) (q := fullShare) (f := tabF)
    (tab.view.set_slice_subset (Rect.unit (s := S16x16) (tabOff c j) S1x1.size (tabOff_inb c j hj)))) $$ Ht
  iintro Ht
  rw [wp_ret]
  imodintro
  rw [tab_read c j hj]
  iapply Hk $$ Ht

/-- A local copy of row block `s` of `x` into stage `p` under way. -/
def xFly (p : ℕ) (hp : p < 2) (s : Dev nD) : sProp 𝕄 :=
  Transfers.Flight EC (c : Thread nD τ) (.dma (stageSem p hp)) () Nx iprop(ownsTc c (stageSlot p hp) fullShare (xBlk m c s) ∗ xP m c s)
def wFly (p : ℕ) (hp : p < 2) (s : Dev nD) : sProp 𝕄 :=
  Transfers.Flight EC (c : Thread nD τ) (.dma (wideSem p hp)) () Nw iprop(ownsTc c (wideSlot p hp) fullShare (wBlk m c s) ∗ wP m c s)

/-- Stage `p` of `x` free; of the weights. -/
def xFree (p : ℕ) (hp : p < 2) : sProp 𝕄 := iprop(any c (stageSlot p hp) ∗ semVal ((c : Thread nD τ), .dma (stageSem p hp)) 0)
def wFree (p : ℕ) (hp : p < 2) : sProp 𝕄 := iprop(any c (wideSlot p hp) ∗ semVal ((c : Thread nD τ), .dma (wideSem p hp)) 0)

theorem run_stageStart (p : ℕ) (hp : p < 2) (s : Dev nD) (Q : PUnit → sProp 𝕄) :
    iprop(xP m c s ∗ xFree c p hp ∗ (xFly m c p hp s -∗ Q ⟨⟩)) ⊢ run c (stageStart (F := F) p hp (place s) (rowOff_place_inb s)) Q := by
  unfold stageStart xFree
  iintro ⟨Hx, ⟨⟨%f, Hs⟩, Hv⟩, Hk⟩
  iapply (Transfers.wp_dmaLocal EC 𝒱₀ (c : Thread nD τ) none (src := xR s) (dst := stageSlot p hp) () Nx rfl Nx_pos subset_rfl) $$ [Hx Hs Hv]
  · isplitl [Hx]; · iexact Hx
    isplitl [Hs]; · iexact Hs
    iexact Hv
  iintro Hf
  rw [wp_ret]
  imodintro
  iapply Hk
  unfold xFly
  iapply (Transfers.Flight_mono EC (c : Thread nD τ) ?_) $$ Hf
  iintro ⟨Hd, Hx⟩
  isplitl [Hd]
  · unfold ownsTc owns; iexists _
    isplitr
    swap
    · iexact Hd
    · ipureintro
      rw [View.read_write_univ]
      rfl
  · iexact Hx

theorem run_wideStart (p : ℕ) (hp : p < 2) (s : Dev nD) (Q : PUnit → sProp 𝕄) :
    iprop(wP m c s ∗ wFree c p hp ∗ (wFly m c p hp s -∗ Q ⟨⟩)) ⊢ run c (wideStart (F := F) p hp (place s) (wideOff_place_inb s)) Q := by
  unfold wideStart wFree
  iintro ⟨Hx, ⟨⟨%f, Hs⟩, Hv⟩, Hk⟩
  iapply (Transfers.wp_dmaLocal EC 𝒱₀ (c : Thread nD τ) none (src := wR s) (dst := wideSlot p hp) () Nw rfl Nw_pos subset_rfl) $$ [Hx Hs Hv]
  · isplitl [Hx]; · iexact Hx
    isplitl [Hs]; · iexact Hs
    iexact Hv
  iintro Hf
  rw [wp_ret]
  imodintro
  iapply Hk
  unfold wFly
  iapply (Transfers.Flight_mono EC (c : Thread nD τ) ?_) $$ Hf
  iintro ⟨Hd, Hx⟩
  isplitl [Hd]
  · unfold ownsTc owns; iexists _
    isplitr
    swap
    · iexact Hd
    · ipureintro
      rw [View.read_write_univ]
      rfl
  · iexact Hx

theorem lv_none (sm : SemLoc sig) (h : role sm = .none) : lv ((c : Thread nD τ), sm) () ≤ 0 := by
  unfold lv; rw [h]

theorem run_stageWait (p : ℕ) (hp : p < 2) (s : Dev nD) (O : CellTallies nD τ sig Unit) (hO : Above 0 O) (Q : PUnit → sProp 𝕄) :
    iprop(xFly m c p hp s ∗ ow c O ∗ levAts L lv
        ∗ ((ownsTc c (stageSlot p hp) fullShare (xBlk m c s) ∗ xP m c s ∗ semVal ((c : Thread nD τ), .dma (stageSem p hp)) 0 ∗ ow c O) -∗ Q ⟨⟩))
      ⊢ run c (stageWait (F := F) p hp (place s) (rowOff_place_inb s)) Q := by
  unfold stageWait xFly
  iintro ⟨Hf, ⟨%W, HO⟩, #Hl, Hk⟩
  iapply (Transfers.wp_waitLocalO EC 𝒱₀ (c : Thread nD τ) none () rfl) $$ [Hf HO]
  · isplitl [Hf]; · iexact Hf
    isplitl [HO]; · iexact HO
    iapply (mayWait c _ 0 (lv_none c _ (role_stage ⟨p, hp⟩)) hO); iexact Hl
  iintro ⟨⟨Hs, Hx⟩, Hv, HO⟩
  rw [wp_ret]
  imodintro
  iapply Hk
  isplitl [Hs]; · iexact Hs
  isplitl [Hx]; · iexact Hx
  isplitl [Hv]; · iexact Hv
  iexists _; iexact HO

theorem run_wideWait (p : ℕ) (hp : p < 2) (s : Dev nD) (O : CellTallies nD τ sig Unit) (hO : Above 0 O) (Q : PUnit → sProp 𝕄) :
    iprop(wFly m c p hp s ∗ ow c O ∗ levAts L lv
        ∗ ((ownsTc c (wideSlot p hp) fullShare (wBlk m c s) ∗ wP m c s ∗ semVal ((c : Thread nD τ), .dma (wideSem p hp)) 0 ∗ ow c O) -∗ Q ⟨⟩))
      ⊢ run c (wideWait (F := F) p hp (place s) (wideOff_place_inb s)) Q := by
  unfold wideWait wFly
  iintro ⟨Hf, ⟨%W, HO⟩, #Hl, Hk⟩
  iapply (Transfers.wp_waitLocalO EC 𝒱₀ (c : Thread nD τ) none () rfl) $$ [Hf HO]
  · isplitl [Hf]; · iexact Hf
    isplitl [HO]; · iexact HO
    iapply (mayWait c _ 0 (lv_none c _ (role_wide ⟨p, hp⟩)) hO); iexact Hl
  iintro ⟨⟨Hs, Hx⟩, Hv, HO⟩
  rw [wp_ret]
  imodintro
  iapply Hk
  isplitl [Hs]; · iexact Hs
  isplitl [Hx]; · iexact Hx
  isplitl [Hv]; · iexact Hv
  iexists _; iexact HO

end Steps

end Cert.Proof.Body

end
-- ==== Proof.Talk.lean ====
/- The steps of the body that talk with the other devices, and those that compute. -/
module

public import proofs.«01_k».proof.Proof.Steps
public import Idealize.ShloMosaic.Lib.VecWindow

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## The invariants of all cells -/

abbrev cellI (g : GSem nD τ sig) : sProp 𝕄 := cellInv ER (rd m) (K g) g

def invs : sProp 𝕄 :=
  iprop((bigSep Finset.univ fun c : Dev nD => cellI m K (barCell c))
    ∗ (bigSep Finset.univ fun p : Dev nD × Fin 16 => cellI m K (sendCell p.1 p.2))
    ∗ bigSep Finset.univ fun p : Dev nD × Dev nD => cellI m K (recvCell p.1 p.2))

instance invs_persistent : BI.Persistent (invs m K) := by unfold invs; infer_instance

theorem bigSep_at {I : Type} [Fintype I] [DecidableEq I] (Φ : I → sProp 𝕄) (i : I) : bigSep Finset.univ Φ ⊢ Φ i := by
  rw [BI.bigSep_erase (Finset.mem_univ i)]
  exact sep_elim_left

theorem inv_bar (c : Dev nD) : invs m K ⊢ cellI m K (barCell c) := by
  unfold invs
  iintro ⟨H, -, -⟩
  iapply (bigSep_at (fun c : Dev nD => cellI m K (barCell c)) c) $$ H
theorem inv_send (c : Dev nD) (j : Fin 16) : invs m K ⊢ cellI m K (sendCell c j) := by
  unfold invs
  iintro ⟨-, H, -⟩
  iapply (bigSep_at (fun p : Dev nD × Fin 16 => cellI m K (sendCell p.1 p.2)) (c, j)) $$ H
theorem inv_recv (c s : Dev nD) : invs m K ⊢ cellI m K (recvCell c s) := by
  unfold invs
  iintro ⟨-, -, H⟩
  iapply (bigSep_at (fun p : Dev nD × Dev nD => cellI m K (recvCell p.1 p.2)) (c, s)) $$ H

section Steps

variable (c : Dev nD)

theorem run_bind {α β : Type} (p : Prog (TpuEff nD τ sig (Elt F) Λ₀ .tc) α) (k : α → Prog (TpuEff nD τ sig (Elt F) Λ₀ .tc) β) (Q : β → sProp 𝕄) :
    run c (p >>= k) Q = run c p fun a => run c (k a) Q := wp_bind ..

theorem run_pure (Q : PUnit → sProp 𝕄) : Q ⟨⟩ ⊢ run (F := F) c (pure ⟨⟩) Q := by
  show _ ⊢ wp _ _ _ (.ret ⟨⟩) Q
  rw [wp_ret]
  iintro H
  imodintro
  iexact H

theorem run_assume {P : Prop} {d : Decidable P} (h : P) (Q : PLift P → sProp 𝕄) :
    Q ⟨h⟩ ⊢ run (F := F) c (Prog.lift (TpuEff.assume P d)) Q := by
  iintro H
  iapply (wp_assume 𝒱₀ (c : Thread nD τ) none Set.univ h)
  rw [wp_ret]
  imodintro
  iexact H

/-- What a signal to device `j` needs: the duty, that the cell stands at its first round, the slot for
    `j`'s block and that its cell is open. -/
def tellIn (j : Dev nD) : sProp 𝕄 :=
  if j = c then iprop(emp)
  else iprop(dutyTok ER (barCell j) 0 c ∗ reached ER (barCell j) 0 ∗ any c (cS j) ∗ reached ER (recvCell c j) 0)

/-- The unit a device owes to the barrier cell of device `j`. -/
def owedTell (j : Dev nD) : CellTallies nD τ sig Unit := if c.val = j.val then 0 else tallyAt (barCell j) () 1

theorem run_tell (j : Dev nD) (O : CellTallies nD τ sig Unit) (Q : PUnit → sProp 𝕄) :
    iprop(invs m K ∗ tellIn c j ∗ ow c (O + owedTell c j) ∗ (ow c O -∗ Q ⟨⟩)) ⊢ run c (tell (F := F) c j.val j.isLt) Q := by
  unfold tell tellIn owedTell
  have hoth := other_eq c ⟨j.val, j.isLt⟩
  by_cases h : c.val = j.val
  · rw [if_pos h] at hoth
    rw [dif_neg (by rw [hoth]; decide), if_pos (Fin.ext h.symm), if_pos h, add_zero]
    iintro ⟨#HI, -, HO, Hk⟩
    iapply run_pure
    iapply Hk $$ HO
  · rw [if_neg h] at hoth
    have hj : ¬ j = c := fun e => h (congrArg Fin.val e.symm)
    rw [dif_pos hoth, if_neg hj, if_neg h]
    iintro ⟨#HI, ⟨Ht, #Hr, Hs, #Hv⟩, ⟨%W, HO⟩, Hk⟩
    iapply (Rounds.wp_signal 𝒱₀ ER (rd m) (c : Thread nD τ) none (dst := (j : Thread nD τ)) (sem := barSem) (r := 0) (d := c) (κ := K (barCell j))
      (by rw [duties_bar]; exact Finset.mem_erase.mpr ⟨fun e => hj e.symm, Finset.mem_univ _⟩) (amount_bar m j c) () O rfl)
      $$ [HO Ht Hs]
    · isplitr; · iapply (inv_bar m K j); iexact HI
      isplitl [HO]; · iexact HO
      isplitl [Ht]; · iexact Ht
      isplitl [Hs]
      · rw [payload_bar]; unfold barPay
        isplitl [Hs]; · iexact Hs
        iexact Hv
      · iexact Hr
    iintro HO
    rw [wp_ret]
    imodintro
    iapply Hk
    iexists _; iexact HO

theorem run_barWait (O : CellTallies nD τ sig Unit) (hO : Above 1 O) (Q : PUnit → sProp 𝕄) :
    iprop(invs m K ∗ levAts L lv ∗ cred (tallyAt (barCell c) () 15) ∗ atPos ER (barCell c) 0 ∅ 0 ∗ ow c O
        ∗ ((ow c O ∗ atPos ER (barCell c) (0 + 1) ∅ 0 ∗ bigSep (Finset.univ.erase c) fun q => barPay c q) -∗ Q ⟨⟩))
      ⊢ run c (semWaitWord barSem 15#32) Q := by
  unfold semWaitWord
  iintro ⟨#HI, #Hl, Hc, Hat, ⟨%W, HO⟩, Hk⟩
  iapply (Rounds.wp_wait_rest_token 𝒱₀ ER (rd m) (c : Thread nD τ) none (κ := K (barCell c))
      (wpE_semWait_eq 𝒱₀ (c : Thread nD τ) none Set.univ) (Set.mem_univ _) () (O := O) (W := W) (R := 0) (m := 0) (T := ∅)
      ((Nat.zero_add 15).trans (expect_bar m c).symm)) $$ [Hc HO Hat]
  · isplitr; · iapply (inv_bar m K c); iexact HI
    isplitl [Hc]; · iexact Hc
    isplitl [HO]; · iexact HO
    isplitr; · iapply (mayWait c _ 1 (le_of_eq (lv_bar c)) hO); iexact Hl
    iexact Hat
  iintro ⟨HO, Hat, -, Hpay⟩
  ihave Hp := (Entails.of_eq (rest_bar m c)) $$ Hpay
  rw [wp_ret]
  imodintro
  iapply Hk
  isplitl [HO]; · iexists _; iexact HO
  isplitl [Hat]; · iexact Hat
  iexact Hp

/-- What the send of rank `n` needs besides its block. -/
def sendIn (n : Fin 16) : sProp 𝕄 :=
  iprop(dutyTok ER (sendCell c n) 0 c ∗ reached ER (sendCell c n) 0 ∗ dutyTok ER (recvCell (ord c n.val) c) 0 c ∗ barPay c (ord c n.val))

/-- A send to device `e`, named apart from the word it is computed from. -/
def sendTo (d : Dev nD) (n : ℕ) (hn : n < 16) (w : BitVec 32) (hw : SendOK w) (e : Dev nD) :
    Prog (TpuEff nD τ sig (Elt F) Λ₀ .tc) PUnit :=
  Prog.lift (.enqueueDma (bfRow w hw.2.2.1)
    (.remote (Dev.tc e) (commSlot (place d) (slotOff_place_inb d)) (.dma (sendSem n hn)))
    (.dma (recvSem (place d) (semOff_place_inb d)))
    ((Memref.isWhole_whole _).wordExact_slice rfl _ (hw.2.2.2.1 hw.2.2.1))
    (((Memref.isWhole_whole _).wordExact_slice rfl _ (slotOff_place_words d)).reshape _ _) ⟨⟨rfl, Or.inl rfl⟩, trivial⟩)

theorem arrived {s : Dev nD} (f : ((bR s).view.ty).Contents (Elt F)) (fd : ((cS c).view.ty).Contents (Elt F)) :
    ((cS c).view.loc (s : Thread nD τ) ↦[(cS c).view.set]{fullShare} ((cS c).view.write (Elt F) fd ((bR s).view.read (Elt F) f) Finset.univ) : sProp 𝕄)
      ⊢ ownsTc s (cS c) fullShare ((bR s).view.read (Elt F) f) := by
  unfold ownsTc owns
  iintro H
  iexists _
  isplitr
  swap
  · iexact H
  · ipureintro; exact View.read_write_univ ..

theorem run_sendRow (n : Fin 16) (hn : n ≠ 0) (O : CellTallies nD τ sig Unit) (Q : PUnit → sProp 𝕄) :
    iprop(invs m K ∗ ownsTc c (bR (ord c n.val)) fullShare (nar m c (ord c n.val)) ∗ sendIn c n
        ∗ ow c (O + tallyAt (recvCell (ord c n.val) c) () N)
        ∗ ((cred (tallyAt (sendCell c n) () N) ∗ ow c O) -∗ Q ⟨⟩))
      ⊢ run c (sendRow (F := F) c n.val n.isLt (place (ord c n.val)) (sendOK _)) Q := by
  have hne : c ≠ ord c n.val := fun e => ord_ne_self c n.isLt (Nat.pos_of_ne_zero fun h => hn (Fin.ext h)) e.symm
  have hdev : (⟨devOf (place (ord c n.val)), (sendOK (ord c n.val)).2.2.2.2⟩ : Dev nD) = ord c n.val := Fin.ext (devOf_place _)
  have he : sendRow (F := F) c n.val n.isLt (place (ord c n.val)) (sendOK _)
      = sendTo c n.val n.isLt (place (ord c n.val)) (sendOK _) (ord c n.val) :=
    (show _ = sendTo c n.val n.isLt (place (ord c n.val)) (sendOK _) _ from rfl).trans (congrArg _ hdev)
  rw [he]
  unfold sendTo sendIn barPay
  unfold ownsTc owns
  iintro ⟨#HI, ⟨%f, %hf, Hb⟩, ⟨Ht, #Hr, Ht', ⟨%fd, Hs⟩, #Hr'⟩, ⟨%W, HO⟩, Hk⟩
  iapply (Rounds.wp_send_pointsTo 𝒱₀ ER (rd m) (c : Thread nD τ) none (c' := (ord c n.val : Thread nD τ)) (src := bR (ord c n.val)) (dst := cS c)
      (sS := .dma (sendSem n.val n.isLt)) (sem := .dma (rSem c)) (q := fullShare) (fs := f) (κ₁ := K (sendCell c n)) (κ₂ := K (recvCell (ord c n.val) c))
      (r₁ := 0) (r₂ := 0) (d₁ := c) (d₂ := c) (fd := fd)
      (by rw [duties_send m c n hn]; exact Finset.mem_singleton_self _) (by rw [duties_recv m _ _ hne]; exact Finset.mem_singleton_self _)
      () () N rfl (amount_send m c n c) (amount_recv m _ _ _) O rfl (W := W)
      (by rw [payload_send]; unfold sendPay any; iintro H; iexists _; iexact H)
      (by rw [payload_recv]; unfold recvPay; rw [← hf]; exact arrived c f fd)) $$ [Hb Hs HO Ht Ht']
  · isplitr; · iapply (inv_send m K c n); iexact HI
    isplitr; · iapply (inv_recv m K (ord c n.val) c); iexact HI
    isplitl [Hb]; · iexact Hb
    isplitl [Hs]; · iexact Hs
    isplitl [HO]; · iexact HO
    isplitl [Ht]; · iexact Ht
    isplitr; · iexact Hr
    isplitl [Ht']; · iexact Ht'
    iexact Hr'
  iintro ⟨Hc, HO⟩
  rw [wp_ret]
  imodintro
  iapply Hk
  isplitl [Hc]; · iexact Hc
  iexists _; iexact HO

/-! ## Computing -/

theorem stage_lead (p : ℕ) (hp : p < 2) (f : (stageB.view.ty).Contents (Elt F)) :
    (stageB.access (Rect.unit (s := S2x512x512) ![p, 0, 0] S1x512x512.size (stageOff_inb p hp))).read (Elt F) f
      = lead ((stageSlot p hp).view.read (Elt F) f) := by
  funext i
  exact congrArg ((stageB.access (Rect.unit (s := S2x512x512) ![p, 0, 0] S1x512x512.size (stageOff_inb p hp))).read (Elt F) f)
    (Equiv.apply_symm_apply (Shape.reshapeEquiv (squeezes_S1x512x512_S512x512.numel_eq)) i).symm

theorem wide_lead (p : ℕ) (hp : p < 2) (f : (wideB.view.ty).Contents (Elt F)) :
    (wideB.access (Rect.unit (s := S2x512x4096) ![p, 0, 0] S1x512x4096.size (wideOff_inb p hp))).read (Elt F) f
      = leadW ((wideSlot p hp).view.read (Elt F) f) := by
  funext i
  exact congrArg ((wideB.access (Rect.unit (s := S2x512x4096) ![p, 0, 0] S1x512x4096.size (wideOff_inb p hp))).read (Elt F) f)
    (Equiv.apply_symm_apply (Shape.reshapeEquiv (squeezes_S1x512x4096_S512x4096.numel_eq)) i).symm

theorem comm_lead (w : BitVec 32) (hw : ∀ a, (slotOff w) a + S1x512x512.size a ≤ S16x512x512.size a) (f : (commB.view.ty).Contents (Elt F)) :
    (commB.access (Rect.unit (s := S16x512x512) (slotOff w) S1x512x512.size hw)).read (Elt F) f
      = lead ((commSlot w hw).view.read (Elt F) f) := by
  funext i
  exact congrArg ((commB.access (Rect.unit (s := S16x512x512) (slotOff w) S1x512x512.size hw)).read (Elt F) f)
    (Equiv.apply_symm_apply (Shape.reshapeEquiv (squeezes_S1x512x512_S512x512.numel_eq)) i).symm

theorem run_loadStage (p : ℕ) (hp : p < 2) (v : Vec F S512x512 .f32) (Q : Vec F S1x512x512 .f32 → sProp 𝕄) :
    iprop(ownsTc c (stageSlot p hp) fullShare v ∗ (ownsTc c (stageSlot p hp) fullShare v -∗ Q (lead v)))
      ⊢ run (F := F) c (Prog.lift (.load stageB (Rect.unit (s := S2x512x512) ![p, 0, 0] S1x512x512.size (stageOff_inb p hp)).toLoadRect (View.loadsAt_vmem h_S1x512x512))) Q := by
  unfold ownsTc owns
  iintro ⟨⟨%f, %hf, Hb⟩, Hk⟩
  iapply (wp_load_rect 𝒱₀ (c : Thread nD τ) none Set.univ (m := stageB)
    (r := Rect.unit (s := S2x512x512) ![p, 0, 0] S1x512x512.size (stageOff_inb p hp)) (S := (stageSlot p hp).view.set) (q := fullShare) (f := f)
    (le_of_eq (View.set_reshape _ _).symm)) $$ Hb
  iintro Hb
  rw [wp_ret]
  imodintro
  rw [stage_lead p hp, hf]
  iapply Hk
  iexists f
  isplitr
  · ipureintro; exact hf
  · iexact Hb

theorem run_loadWide (p : ℕ) (hp : p < 2) (v : Vec F S512x4096 .f32) (Q : Vec F S1x512x4096 .f32 → sProp 𝕄) :
    iprop(ownsTc c (wideSlot p hp) fullShare v ∗ (ownsTc c (wideSlot p hp) fullShare v -∗ Q (leadW v)))
      ⊢ run (F := F) c (Prog.lift (.load wideB (Rect.unit (s := S2x512x4096) ![p, 0, 0] S1x512x4096.size (wideOff_inb p hp)).toLoadRect (View.loadsAt_vmem h_S1x512x4096))) Q := by
  unfold ownsTc owns
  iintro ⟨⟨%f, %hf, Hb⟩, Hk⟩
  iapply (wp_load_rect 𝒱₀ (c : Thread nD τ) none Set.univ (m := wideB)
    (r := Rect.unit (s := S2x512x4096) ![p, 0, 0] S1x512x4096.size (wideOff_inb p hp)) (S := (wideSlot p hp).view.set) (q := fullShare) (f := f)
    (le_of_eq (View.set_reshape _ _).symm)) $$ Hb
  iintro Hb
  rw [wp_ret]
  imodintro
  rw [wide_lead p hp, hf]
  iapply Hk
  iexists f
  isplitr
  · ipureintro; exact hf
  · iexact Hb

theorem run_loadComm (w : BitVec 32) (hw : ∀ a, (slotOff w) a + S1x512x512.size a ≤ S16x512x512.size a) (v : Vec F S512x512 .bf16)
    (Q : Vec F S1x512x512 .bf16 → sProp 𝕄) :
    iprop(ownsTc c (commSlot w hw) fullShare v ∗ (ownsTc c (commSlot w hw) fullShare v -∗ Q (lead v)))
      ⊢ run (F := F) c (Prog.lift (.load commB (Rect.unit (s := S16x512x512) (slotOff w) S1x512x512.size hw).toLoadRect (View.loadsAt_vmem h_S1x512x512))) Q := by
  unfold ownsTc owns
  iintro ⟨⟨%f, %hf, Hb⟩, Hk⟩
  iapply (wp_load_rect 𝒱₀ (c : Thread nD τ) none Set.univ (m := commB)
    (r := Rect.unit (s := S16x512x512) (slotOff w) S1x512x512.size hw) (S := (commSlot w hw).view.set) (q := fullShare) (f := f)
    (le_of_eq (View.set_reshape _ _).symm)) $$ Hb
  iintro Hb
  rw [wp_ret]
  imodintro
  rw [comm_lead, hf]
  iapply Hk
  iexists f
  isplitr
  · ipureintro; exact hf
  · iexact Hb

theorem run_loadRow (w : BitVec 32) (hw : RowIn w) (f) (Q : Vec F S512x512 .bf16 → sProp 𝕄) :
    iprop(((bfRow w hw).view.loc (c : Thread nD τ) ↦[(bfRow w hw).view.set]{fullShare} f)
        ∗ (((bfRow w hw).view.loc (c : Thread nD τ) ↦[(bfRow w hw).view.set]{fullShare} f) -∗ Q ((bfRow w hw).view.read (Elt F) f)))
      ⊢ run (F := F) c (Prog.lift (.load xBf (Rect.unit (s := S8192x512) (rowOff w) S512x512.size hw).toLoadRect (View.loadsAt_vmem h_S512x512))) Q := by
  iintro ⟨Hb, Hk⟩
  iapply (wp_load_rect 𝒱₀ (c : Thread nD τ) none Set.univ (m := xBf)
    (r := Rect.unit (s := S8192x512) (rowOff w) S512x512.size hw) (S := (bfRow w hw).view.set) (q := fullShare) (f := f)
    (le_refl _)) $$ Hb
  iintro Hb
  rw [wp_ret]
  imodintro
  iapply Hk
  iexact Hb

theorem run_narrowInto (p : ℕ) (hp : p < 2) (s : Dev nD) (hw : RowIn (place s)) (hpk) (v : Vec F S512x512 .f32) (Q : PUnit → sProp 𝕄) :
    iprop(ownsTc c (stageSlot p hp) fullShare v ∗ any c (bR s)
        ∗ ((any c (stageSlot p hp) ∗ ownsTc c (bR s) fullShare (narrow (lead v))) -∗ Q ⟨⟩))
      ⊢ run (F := F) c (narrowInto p hp (place s) hw hpk) Q := by
  unfold narrowInto
  iintro ⟨Hs, ⟨%f, Hb⟩, Hk⟩
  rw [run_bind]
  iapply (run_loadStage c p hp v)
  isplitl [Hs]; · iexact Hs
  iintro Hs
  rw [run_bind]
  iapply (run_loadRow c (place s) hw f)
  isplitl [Hb]; · iexact Hb
  iintro Hb
  iapply (wp_store 𝒱₀ (c : Thread nD τ) none Set.univ (m := xBf) (r := Rect.unit (s := S8192x512) (rowOff (place s)) S512x512.size hw)
    (S := (bR s).view.set) (f := f) (Mk := Finset.univ) (w := narrow (lead v)) (le_of_eq (View.setOn_univ _))) $$ Hb
  iintro Hb
  rw [wp_ret]
  imodintro
  iapply Hk
  unfold ownsTc owns
  isplitl [Hs]
  · icases Hs with ⟨%g, -, Hs⟩
    iexists g; iexact Hs
  · iexists _
    isplitr
    swap
    · iexact Hb
    · ipureintro; exact View.read_write_univ ..

/-- The output's staging buffer read through its one access. -/
theorem out_read (f : (outB.view.ty).Contents (Elt F)) :
    (outB.access (Rect.unit (s := S512x4096) ![0, 0] S512x4096.size inb_S512x4096_S512x4096_0_0)).read (Elt F) f = outB.view.read (Elt F) f := by
  funext i
  exact congrArg (outB.view.read (Elt F) f) (Rect.emb_unit_full (s := S512x4096) (off := ![0, 0]) inb_S512x4096_S512x4096_0_0 i)

theorem run_outStore (v : FVec F S512x4096 .f32) (Q : PUnit → sProp 𝕄) :
    iprop(any c outB ∗ (ownsTc c outB fullShare v -∗ Q ⟨⟩)) ⊢ run (F := F) c (outStore v) Q := by
  unfold outStore
  iintro ⟨⟨%f, Hb⟩, Hk⟩
  rw [run_bind]
  iapply (wp_load_rect 𝒱₀ (c : Thread nD τ) none Set.univ (m := outB)
    (r := Rect.unit (s := S512x4096) ![0, 0] S512x4096.size inb_S512x4096_S512x4096_0_0) (S := outB.view.set) (q := fullShare) (f := f)
    (outB.view.set_slice_subset _)) $$ Hb
  iintro Hb
  rw [wp_ret]
  imodintro
  iapply (wp_store 𝒱₀ (c : Thread nD τ) none Set.univ (m := outB) (r := Rect.unit (s := S512x4096) ![0, 0] S512x4096.size inb_S512x4096_S512x4096_0_0)
    (S := outB.view.set) (f := f) (Mk := Finset.univ) (w := v) ((le_of_eq (View.setOn_univ _)).trans (outB.view.set_slice_subset _))) $$ Hb
  iintro Hb
  rw [wp_ret]
  imodintro
  iapply Hk
  unfold ownsTc owns
  iexists _
  isplitr
  swap
  · iexact Hb
  · ipureintro
    rw [← out_read]
    exact View.read_write_univ ..

theorem run_loadOut (v : Vec F S512x4096 .f32) (Q : Vec F S512x4096 .f32 → sProp 𝕄) :
    iprop(ownsTc c outB fullShare v ∗ (ownsTc c outB fullShare v -∗ Q v))
      ⊢ run (F := F) c (Prog.lift (.load outB (Rect.unit (s := S512x4096) ![0, 0] S512x4096.size inb_S512x4096_S512x4096_0_0).toLoadRect (View.loadsAt_vmem h_S512x4096))) Q := by
  unfold ownsTc owns
  iintro ⟨⟨%f, %hf, Hb⟩, Hk⟩
  iapply (wp_load_rect 𝒱₀ (c : Thread nD τ) none Set.univ (m := outB)
    (r := Rect.unit (s := S512x4096) ![0, 0] S512x4096.size inb_S512x4096_S512x4096_0_0) (S := outB.view.set) (q := fullShare) (f := f)
    (outB.view.set_slice_subset _)) $$ Hb
  iintro Hb
  rw [wp_ret]
  imodintro
  rw [out_read, hf]
  iapply Hk
  iexists f
  isplitr
  · ipureintro; exact hf
  · iexact Hb

end Steps

end Cert.Proof.Body

end
-- ==== Proof.Trips.lean ====
/- The trips of the body, one rank each, and their runs over all ranks. -/
module

public import proofs.«01_k».proof.Proof.Talk
public import Idealize.ShloMosaic.Lib.SparseCore.Launch

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families in the order of the ranks -/

/-- The members of ranks `n`, …, `1`. -/
def down (P : ℕ → sProp 𝕄) : ℕ → sProp 𝕄
  | 0 => iprop(emp)
  | n + 1 => iprop(P (n + 1) ∗ down P n)

/-- The members of the last `n` of sixteen ranks. -/
def up (P : ℕ → sProp 𝕄) : ℕ → sProp 𝕄
  | 0 => iprop(emp)
  | n + 1 => iprop(P (15 - n) ∗ up P n)

theorem down_eq (P : ℕ → sProp 𝕄) (n : ℕ) : down P n = bigSep (Finset.Icc 1 n) P := by
  induction n with
  | zero => exact (bigSep_empty (Φ := P)).symm
  | succ n ih =>
    have e : Finset.Icc 1 (n + 1) = insert (n + 1) (Finset.Icc 1 n) := by
      ext k; simp only [Finset.mem_Icc, Finset.mem_insert]; omega
    rw [e, bigSep_insert (by simp only [Finset.mem_Icc]; omega), ← ih]; rfl

theorem up_eq (P : ℕ → sProp 𝕄) (n : ℕ) (h : n ≤ 16) : up P n = bigSep (Finset.Ico (16 - n) 16) P := by
  induction n with
  | zero => exact (bigSep_empty (Φ := P)).symm
  | succ n ih =>
    have e : Finset.Ico (16 - (n + 1)) 16 = insert (15 - n) (Finset.Ico (16 - n) 16) := by
      ext k; simp only [Finset.mem_Ico, Finset.mem_insert]; omega
    rw [e, bigSep_insert (by simp only [Finset.mem_Ico]; omega), ← ih (by omega)]; rfl

theorem up_down (P : ℕ → sProp 𝕄) : up P 15 = down P 15 := by
  rw [up_eq P 15 (by decide), down_eq]; rfl

theorem ranks_image : ∀ c : Dev nD, (Finset.Icc 1 15).image (ord c) = Finset.univ.erase c := by decide +kernel

theorem bigSep_others (c : Dev nD) (P : Dev nD → sProp 𝕄) : bigSep (Finset.univ.erase c) P = down (fun k => P (ord c k)) 15 := by
  rw [down_eq, ← ranks_image, bigSep_image_of_injOn]
  intro i hi j hj h
  have hi' := Finset.mem_Icc.mp (Finset.mem_coe.mp hi)
  have hj' := Finset.mem_Icc.mp (Finset.mem_coe.mp hj)
  exact ord_inj c (by omega) (by omega) h

/-- Rank `k` as one of sixteen. -/
def fin (k : ℕ) : Fin 16 := ⟨k % 16, Nat.mod_lt _ (by decide)⟩
theorem fin_of {k : ℕ} (h : k < 16) : fin k = ⟨k, h⟩ := Fin.ext (Nat.mod_eq_of_lt h)

theorem fin_image : (Finset.Icc 1 15).image fin = Finset.univ.erase (0 : Fin 16) := by decide +kernel
theorem fin_image_all : (Finset.Ico 0 16).image fin = (Finset.univ : Finset (Fin 16)) := by decide +kernel

theorem fin_inj {i j : ℕ} (hi : i < 16) (hj : j < 16) (h : fin i = fin j) : i = j := by
  rw [fin_of hi, fin_of hj] at h; exact congrArg Fin.val h

theorem bigSep_ranks (P : Fin 16 → sProp 𝕄) : bigSep (Finset.univ.erase 0) P = down (fun k => P (fin k)) 15 := by
  rw [down_eq, ← fin_image, bigSep_image_of_injOn]
  intro i hi j hj h
  have hi' := Finset.mem_Icc.mp (Finset.mem_coe.mp hi)
  have hj' := Finset.mem_Icc.mp (Finset.mem_coe.mp hj)
  exact fin_inj (by omega) (by omega) h

theorem bigSep_all (P : Fin 16 → sProp 𝕄) : bigSep Finset.univ P = up (fun k => P (fin k)) 16 := by
  rw [up_eq _ 16 (le_refl _), ← fin_image_all, bigSep_image_of_injOn]
  intro i hi j hj h
  have hi' := Finset.mem_Ico.mp (Finset.mem_coe.mp hi)
  have hj' := Finset.mem_Ico.mp (Finset.mem_coe.mp hj)
  exact fin_inj (by omega) (by omega) h

theorem down_sep (P R : ℕ → sProp 𝕄) (n : ℕ) : down (fun k => iprop(P k ∗ R k)) n = iprop(down P n ∗ down R n) := by
  rw [down_eq, down_eq, down_eq]; exact bigSep_sep _ _ _

variable (m : (ℓ : Loc nD τ sig) → Buf (Elt F) ℓ) (K : GSem nD τ sig → ℕ)

section Trips

variable (c : Dev nD)

/-! ## The copies started ahead -/

theorem run_stageNext (n : ℕ) (hn : n < 16) (Q : PUnit → sProp 𝕄) :
    iprop(tabP c ∗ (xP m c (ord c n) ∗ xFree c (n % 2) (Nat.mod_lt _ (by decide)))
        ∗ ((tabP c ∗ xFly m c (n % 2) (Nat.mod_lt _ (by decide)) (ord c n)) -∗ Q ⟨⟩))
      ⊢ run c (stageNext (F := F) c n hn) Q := by
  unfold stageNext
  iintro ⟨Ht, ⟨Hx, Hf⟩, Hk⟩
  rw [run_bind]
  iapply (run_word c n hn)
  isplitl [Ht]; · iexact Ht
  iintro Ht
  rw [run_bind]
  iapply (run_assume c (rowOff_place_inb (ord c n)))
  iapply (run_stageStart m c (n % 2) _ (ord c n))
  isplitl [Hx]; · iexact Hx
  isplitl [Hf]; · iexact Hf
  iintro Hf
  iapply Hk
  isplitl [Ht]; · iexact Ht
  iexact Hf

theorem run_wideNext (n : ℕ) (hn : n < 16) (Q : PUnit → sProp 𝕄) :
    iprop(tabP c ∗ (wP m c (ord c n) ∗ wFree c (n % 2) (Nat.mod_lt _ (by decide)))
        ∗ ((tabP c ∗ wFly m c (n % 2) (Nat.mod_lt _ (by decide)) (ord c n)) -∗ Q ⟨⟩))
      ⊢ run c (wideNext (F := F) c n hn) Q := by
  unfold wideNext
  iintro ⟨Ht, ⟨Hx, Hf⟩, Hk⟩
  rw [run_bind]
  iapply (run_word c n hn)
  isplitl [Ht]; · iexact Ht
  iintro Ht
  rw [run_bind]
  iapply (run_assume c (wideOff_place_inb (ord c n)))
  iapply (run_wideStart m c (n % 2) _ (ord c n))
  isplitl [Hx]; · iexact Hx
  isplitl [Hf]; · iexact Hf
  iintro Hf
  iapply Hk
  isplitl [Ht]; · iexact Ht
  iexact Hf

/-- Starting nothing ahead. -/
theorem run_noNext (Q : PUnit → sProp 𝕄) :
    iprop(tabP (F := F) c ∗ emp ∗ ((tabP c ∗ emp) -∗ Q ⟨⟩)) ⊢ run (F := F) c (pure ⟨⟩) Q := by
  iintro ⟨Ht, -, Hk⟩
  iapply run_pure
  iapply Hk
  isplitl [Ht]; · iexact Ht
  iempintro

/-! ## The sends -/

theorem run_sendTrip (k : ℕ) (hk : k + 1 < 16) (next : Prog (TpuEff nD τ sig (Elt F) Λ₀ .tc) PUnit) (A B : sProp 𝕄)
    (hnext : ∀ Q : PUnit → sProp 𝕄, iprop(tabP c ∗ A ∗ ((tabP c ∗ B) -∗ Q ⟨⟩)) ⊢ run c next Q) (Q : PUnit → sProp 𝕄) :
    iprop(invs m K ∗ levAts L lv ∗ tabP c ∗ xFly m c ((k + 1) % 2) (Nat.mod_lt _ (by decide)) (ord c (k + 1)) ∗ A
        ∗ any c (bR (ord c (k + 1))) ∗ sendIn c (fin (k + 1)) ∗ ow c (owedSends c (k + 1))
        ∗ ((tabP c ∗ xP m c (ord c (k + 1)) ∗ xFree c ((k + 1) % 2) (Nat.mod_lt _ (by decide)) ∗ B
            ∗ cred (tallyAt (sendCell c (fin (k + 1))) () N) ∗ ow c (owedSends c k)) -∗ Q ⟨⟩))
      ⊢ run c (sendTrip c (k + 1) hk next) Q := by
  rw [fin_of hk]
  unfold sendTrip
  iintro ⟨#HI, #Hl, Ht, Hf, HA, Hb, Hin, HO, Hk⟩
  rw [run_bind]
  iapply (run_word c (k + 1) hk)
  isplitl [Ht]; · iexact Ht
  iintro Ht
  rw [run_bind]
  iapply (run_assume c (sendOK (ord c (k + 1))))
  rw [run_bind]
  iapply (run_word c (k + 1) hk)
  isplitl [Ht]; · iexact Ht
  iintro Ht
  rw [run_bind]
  iapply (run_assume c (rowOff_place_inb (ord c (k + 1))))
  rw [run_bind]
  iapply (run_stageWait m c ((k + 1) % 2) _ (ord c (k + 1)) (owedSends c (k + 1)) (Above.mono (by decide) (owedSends_above c (k + 1))))
  isplitl [Hf]; · iexact Hf
  isplitl [HO]; · iexact HO
  isplitr; · iexact Hl
  iintro ⟨Hs, Hx, Hv, HO⟩
  rw [run_bind]
  iapply hnext
  isplitl [Ht]; · iexact Ht
  isplitl [HA]; · iexact HA
  iintro ⟨Ht, HB⟩
  rw [run_bind]
  iapply (run_narrowInto c ((k + 1) % 2) _ (ord c (k + 1)))
  isplitl [Hs]; · iexact Hs
  isplitl [Hb]; · iexact Hb
  iintro ⟨Hs, Hb⟩
  iapply (run_sendRow m K c ⟨k + 1, hk⟩ (fun h => Nat.succ_ne_zero k (congrArg Fin.val h)) (owedSends c k))
  isplitr; · iexact HI
  isplitl [Hb]; · iexact Hb
  isplitl [Hin]; · iexact Hin
  isplitl [HO]; · iexact HO
  iintro ⟨Hc, HO⟩
  iapply Hk
  isplitl [Ht]; · iexact Ht
  isplitl [Hx]; · iexact Hx
  isplitl [Hs Hv]
  · unfold xFree
    isplitl [Hs]; · iexact Hs
    iexact Hv
  isplitl [HB]; · iexact HB
  isplitl [Hc]; · iexact Hc
  iexact HO

/-- What the send of a rank takes besides its staged block. -/
def sendNeed (k : ℕ) : sProp 𝕄 := iprop(any c (bR (ord c k)) ∗ sendIn c (fin k))
/-- What it leaves for its drain. -/
def sendLeft (k : ℕ) : sProp 𝕄 := cred (tallyAt (sendCell c (fin k)) () N)

theorem run_sends (k : ℕ) : ∀ (hk : k + 1 < 16) (p : ℕ) (hp : p < 2) (_ : p = k % 2) (Q : PUnit → sProp 𝕄),
    iprop(invs m K ∗ levAts L lv ∗ tabP c ∗ xFly m c ((k + 1) % 2) (Nat.mod_lt _ (by decide)) (ord c (k + 1)) ∗ xFree c p hp
        ∗ down (fun k => xP m c (ord c k)) k ∗ down (sendNeed c) (k + 1) ∗ ow c (owedSends c (k + 1))
        ∗ ((tabP c ∗ xFree c 0 (by decide) ∗ xFree c 1 (by decide) ∗ down (fun k => xP m c (ord c k)) (k + 1)
            ∗ down (sendLeft c) (k + 1) ∗ ow c 0) -∗ Q ⟨⟩))
      ⊢ run c (sends (F := F) c (k + 1) hk) Q := by
  induction k with
  | zero =>
    intro hk p hp e Q
    subst e
    unfold sends sendNeed sendLeft down down
    iintro ⟨#HI, #Hl, Ht, Hf, Hfr, -, ⟨⟨Hb, Hin⟩, -⟩, HO, Hk⟩
    iapply (run_sendTrip m K c 0 hk (pure ⟨⟩) _ _ (run_noNext c))
    isplitr; · iexact HI
    isplitr; · iexact Hl
    isplitl [Ht]; · iexact Ht
    isplitl [Hf]; · iexact Hf
    isplitr; · iempintro
    isplitl [Hb]; · iexact Hb
    isplitl [Hin]; · iexact Hin
    isplitl [HO]; · iexact HO
    iintro ⟨Ht, Hx, Hfr', -, Hc, HO⟩
    iapply Hk
    isplitl [Ht]; · iexact Ht
    isplitl [Hfr]; · iexact Hfr
    isplitl [Hfr']; · iexact Hfr'
    isplitl [Hx]
    · isplitl [Hx]; · iexact Hx
      iempintro
    isplitl [Hc]
    · isplitl [Hc]; · iexact Hc
      iempintro
    iexact HO
  | succ k ih =>
    intro hk p hp e Q
    subst e
    rw [show sends (F := F) c (k + 1 + 1) hk = (sendTrip c (k + 2) hk (stageNext c (k + 1) (by omega)) >>= fun _ => sends c (k + 1) (by omega)) from rfl,
      show down (sendNeed (F := F) c) (k + 1 + 1) = iprop(sendNeed c (k + 2) ∗ down (sendNeed c) (k + 1)) from rfl,
      show down (fun k => xP m c (ord c k)) (k + 1) = iprop(xP m c (ord c (k + 1)) ∗ down (fun k => xP m c (ord c k)) k) from rfl,
      show down (fun k => xP m c (ord c k)) (k + 1 + 1) = iprop(xP m c (ord c (k + 2)) ∗ down (fun k => xP m c (ord c k)) (k + 1)) from rfl,
      show down (sendLeft (F := F) c) (k + 1 + 1) = iprop(sendLeft c (k + 2) ∗ down (sendLeft c) (k + 1)) from rfl,
      show sendNeed (F := F) c (k + 2) = iprop(any c (bR (ord c (k + 2))) ∗ sendIn c (fin (k + 2))) from rfl]
    iintro ⟨#HI, #Hl, Ht, Hf, Hfr, ⟨Hx, Hxs⟩, ⟨⟨Hb, Hin⟩, Hneed⟩, HO, Hk⟩
    rw [run_bind]
    iapply (run_sendTrip m K c (k + 1) hk (stageNext c (k + 1) _) _ _ (run_stageNext m c (k + 1) _))
    isplitr; · iexact HI
    isplitr; · iexact Hl
    isplitl [Ht]; · iexact Ht
    isplitl [Hf]; · iexact Hf
    isplitl [Hx Hfr]
    · isplitl [Hx]; · iexact Hx
      iexact Hfr
    isplitl [Hb]; · iexact Hb
    isplitl [Hin]; · iexact Hin
    isplitl [HO]; · iexact HO
    iintro ⟨Ht, Hx, Hfr, Hf, Hc, HO⟩
    iapply (ih _ ((k + 2) % 2) (Nat.mod_lt _ (by decide)) (by omega))
    isplitr; · iexact HI
    isplitr; · iexact Hl
    isplitl [Ht]; · iexact Ht
    isplitl [Hf]; · iexact Hf
    isplitl [Hfr]; · iexact Hfr
    isplitl [Hxs]; · iexact Hxs
    isplitl [Hneed]; · iexact Hneed
    isplitl [HO]; · iexact HO
    iintro ⟨Ht, Hf0, Hf1, Hxs, Hcs, HO⟩
    iapply Hk
    isplitl [Ht]; · iexact Ht
    isplitl [Hf0]; · iexact Hf0
    isplitl [Hf1]; · iexact Hf1
    isplitl [Hx Hxs]
    · isplitl [Hx]; · iexact Hx
      iexact Hxs
    isplitl [Hc Hcs]
    · isplitl [Hc]; · unfold sendLeft; iexact Hc
      iexact Hcs
    iexact HO

/-! ## The multiplies -/

theorem any_of_owns {sp : Space} {s : Shape} {e : EltTy} (M : Memref sig .tc sp s e) (v : Vec F s e) :
    ownsTc c M fullShare v ⊢ (any c M : sProp 𝕄) := by
  unfold ownsTc owns
  iintro ⟨%f, -, H⟩
  iexists f; iexact H

theorem owns_open {sp : Space} {s : Shape} {e : EltTy} (M : Memref sig .tc sp s e) (v : Vec F s e) :
    ownsTc c M fullShare v
      ⊢ (iprop(∃ f, ⌜M.view.read (Elt F) f = v⌝ ∗ M.view.loc (c : Thread nD τ) ↦[M.view.set]{fullShare} f) : sProp 𝕄) := by
  unfold ownsTc owns
  iintro H
  iexact H

theorem run_mulOwn (Q : PUnit → sProp 𝕄) :
    iprop(levAts L lv ∗ tabP c ∗ wFly m c 0 (by decide) c ∗ wP m c (ord c 1) ∗ wFree c 1 (by decide)
        ∗ ownsTc c (bR c) fullShare (nar m c c) ∗ any c outB ∗ ow c 0
        ∗ ((tabP c ∗ wP m c c ∗ wFree c 0 (by decide) ∗ wFly m c 1 (by decide) (ord c 1) ∗ any c (bR c)
            ∗ ownsTc c outB fullShare (acc m c 0) ∗ ow c 0) -∗ Q ⟨⟩))
      ⊢ run c (mulOwn (F := F) c) Q := by
  unfold mulOwn
  iintro ⟨#Hl, Ht, Hf, Hw, Hfr, Hb, Ho, HO, Hk⟩
  rw [run_bind]
  iapply (run_word c 0 _)
  isplitl [Ht]; · iexact Ht
  iintro Ht
  rw [ord_zero, run_bind]
  iapply (run_assume c (wideOff_place_inb c))
  rw [run_bind]
  iapply (run_wideWait m c 0 _ c 0 (above_zero 0))
  isplitl [Hf]; · iexact Hf
  isplitl [HO]; · iexact HO
  isplitr; · iexact Hl
  iintro ⟨Hs, Hwc, Hv, HO⟩
  rw [run_bind]
  iapply (run_wideNext m c 1 _)
  isplitl [Ht]; · iexact Ht
  isplitl [Hw Hfr]
  · isplitl [Hw]; · iexact Hw
    iexact Hfr
  iintro ⟨Ht, Hf⟩
  ihave Hb := (owns_open c (bR c) (nar m c c)) $$ Hb
  icases Hb with ⟨%f, %hf, Hb⟩
  rw [run_bind]
  iapply (run_loadRow c (place c) (rowOff_place_inb c) f)
  isplitl [Hb]; · iexact Hb
  iintro Hb
  rw [hf, run_bind]
  iapply (run_loadWide c 0 (by decide) (wBlk m c c))
  isplitl [Hs]; · iexact Hs
  iintro Hs
  iapply (run_outStore c (prodOwn (nar m c c) (leadW (wBlk m c c))))
  isplitl [Ho]; · iexact Ho
  iintro Ho
  iapply Hk
  isplitl [Ht]; · iexact Ht
  isplitl [Hwc]; · iexact Hwc
  isplitl [Hs Hv]
  · unfold wFree
    isplitl [Hs]; · iapply (any_of_owns c _ _) $$ Hs
    iexact Hv
  isplitl [Hf]; · iexact Hf
  isplitl [Hb]; · iexists f; iexact Hb
  isplitl [Ho]; · iexact Ho
  iexact HO

/-- What the multiply of a rank takes of its block's cell. -/
def mulNeed (k : ℕ) : sProp 𝕄 := iprop(cred (tallyAt (recvCell c (ord c k)) () N) ∗ atPos ER (recvCell c (ord c k)) 0 ∅ 0)
/-- What it leaves. -/
def mulLeft (k : ℕ) : sProp 𝕄 := iprop(atPos ER (recvCell c (ord c k)) 1 ∅ 0 ∗ any c (cS (ord c k)))

theorem run_recvWait (s : Dev nD) (hs : s ≠ c) (h₁ h₂ h₃ h₄) (Q : PUnit → sProp 𝕄) :
    iprop(invs m K ∗ levAts L lv ∗ cred (tallyAt (recvCell c s) () N) ∗ atPos ER (recvCell c s) 0 ∅ 0 ∗ ow c 0
        ∗ ((atPos ER (recvCell c s) 1 ∅ 0 ∗ ownsTc c (cS s) fullShare (nar m s c) ∗ ow c 0) -∗ Q ⟨⟩))
      ⊢ run (F := F) c (Prog.lift (.waitDma2 (recvSem (place s) h₁) (commSlot (place s) h₂) (commSlot (place s) h₂) h₃ h₄)) Q := by
  iintro ⟨#HI, #Hl, Hc, Hat, ⟨%W, HO⟩, Hk⟩
  iapply (Rounds.wp_wait_rest_token 𝒱₀ ER (rd m) (c : Thread nD τ) none (κ := K (recvCell c s))
      (wpE_waitDma2_eq (src := cS s) (dst := cS s) 𝒱₀ (c : Thread nD τ) none Set.univ) (Set.mem_univ _) () (O := 0) (W := W) (R := 0) (m := 0) (T := ∅)
      ((Nat.zero_add _).trans (expect_recv m c s hs).symm)) $$ [Hc HO Hat]
  · isplitr; · iapply (inv_recv m K c s); iexact HI
    isplitl [Hc]; · iexact Hc
    isplitl [HO]; · iexact HO
    isplitr; · iapply (mayWait c _ 2 (le_of_eq (lv_recv c s)) (above_zero 2)); iexact Hl
    iexact Hat
  iintro ⟨HO, Hat, -, Hpay⟩
  ihave Hp := (Entails.of_eq (rest_recv m c s hs)) $$ Hpay
  rw [wp_ret]
  imodintro
  iapply Hk
  isplitl [Hat]; · iexact Hat
  isplitl [Hp]; · unfold recvPay; iexact Hp
  iexists _; iexact HO

theorem run_mulTrip (k : ℕ) (n : ℕ) (e : n = k + 1) (hn : n < 16) (next : Prog (TpuEff nD τ sig (Elt F) Λ₀ .tc) PUnit) (A B : sProp 𝕄)
    (hnext : ∀ Q : PUnit → sProp 𝕄, iprop(tabP c ∗ A ∗ ((tabP c ∗ B) -∗ Q ⟨⟩)) ⊢ run c next Q) (Q : PUnit → sProp 𝕄) :
    iprop(invs m K ∗ levAts L lv ∗ tabP c ∗ wFly m c (n % 2) (Nat.mod_lt _ (by decide)) (ord c n) ∗ A
        ∗ mulNeed c n ∗ ownsTc c outB fullShare (acc m c k) ∗ ow c 0
        ∗ ((tabP c ∗ wP m c (ord c n) ∗ wFree c (n % 2) (Nat.mod_lt _ (by decide)) ∗ B
            ∗ mulLeft c n ∗ ownsTc c outB fullShare (acc m c n) ∗ ow c 0) -∗ Q ⟨⟩))
      ⊢ run c (mulTrip c n hn next) Q := by
  subst e
  unfold mulTrip mulNeed mulLeft
  iintro ⟨#HI, #Hl, Ht, Hf, HA, ⟨Hc, Hat⟩, Ho, HO, Hk⟩
  rw [run_bind]
  iapply (run_word c (k + 1) hn)
  isplitl [Ht]; · iexact Ht
  iintro Ht
  rw [run_bind]
  iapply (run_assume c (recvOK (ord c (k + 1))))
  rw [run_bind]
  iapply (run_wideWait m c ((k + 1) % 2) _ (ord c (k + 1)) 0 (above_zero 0))
  isplitl [Hf]; · iexact Hf
  isplitl [HO]; · iexact HO
  isplitr; · iexact Hl
  iintro ⟨Hs, Hw, Hv, HO⟩
  rw [run_bind]
  iapply hnext
  isplitl [Ht]; · iexact Ht
  isplitl [HA]; · iexact HA
  iintro ⟨Ht, HB⟩
  rw [run_bind]
  iapply (run_recvWait m K c (ord c (k + 1)) (ord_ne_self c hn (Nat.succ_pos k)))
  isplitr; · iexact HI
  isplitr; · iexact Hl
  isplitl [Hc]; · iexact Hc
  isplitl [Hat]; · iexact Hat
  isplitl [HO]; · iexact HO
  iintro ⟨Hat, Hp, HO⟩
  rw [run_bind]
  iapply (run_loadComm c (place (ord c (k + 1))) _ (nar m (ord c (k + 1)) c))
  isplitl [Hp]; · iexact Hp
  iintro Hp
  rw [run_bind]
  iapply (run_loadWide c ((k + 1) % 2) _ (wBlk m c (ord c (k + 1))))
  isplitl [Hs]; · iexact Hs
  iintro Hs
  rw [run_bind]
  iapply (run_loadOut c (acc m c k))
  isplitl [Ho]; · iexact Ho
  iintro Ho
  iapply (run_outStore c (acc m c (k + 1)))
  isplitl [Ho]; · iapply (any_of_owns c outB _) $$ Ho
  iintro Ho
  iapply Hk
  isplitl [Ht]; · iexact Ht
  isplitl [Hw]; · iexact Hw
  isplitl [Hs Hv]
  · unfold wFree
    isplitl [Hs]; · iapply (any_of_owns c _ _) $$ Hs
    iexact Hv
  isplitl [HB]; · iexact HB
  isplitl [Hat Hp]
  · isplitl [Hat]; · iexact Hat
    iapply (any_of_owns c _ _) $$ Hp
  isplitl [Ho]; · iexact Ho
  iexact HO

theorem run_muls (k : ℕ) : ∀ (hk : k + 1 < 16) (p : ℕ) (hp : p < 2) (_ : p = k % 2) (Q : PUnit → sProp 𝕄),
    iprop(invs m K ∗ levAts L lv ∗ tabP c ∗ wFly m c ((15 - k) % 2) (Nat.mod_lt _ (by decide)) (ord c (15 - k)) ∗ wFree c p hp
        ∗ up (fun k => wP m c (ord c k)) k ∗ up (mulNeed c) (k + 1) ∗ ownsTc c outB fullShare (acc m c (14 - k)) ∗ ow c 0
        ∗ ((tabP c ∗ wFree c 0 (by decide) ∗ wFree c 1 (by decide) ∗ up (fun k => wP m c (ord c k)) (k + 1)
            ∗ up (mulLeft c) (k + 1) ∗ ownsTc c outB fullShare (acc m c 15) ∗ ow c 0) -∗ Q ⟨⟩))
      ⊢ run c (muls (F := F) c (k + 1) hk) Q := by
  induction k with
  | zero =>
    intro hk p hp e Q
    subst e
    unfold muls up up
    iintro ⟨#HI, #Hl, Ht, Hf, Hfr, -, ⟨Hn, -⟩, Ho, HO, Hk⟩
    iapply (run_mulTrip m K c 14 15 rfl _ (pure ⟨⟩) _ _ (run_noNext c))
    isplitr; · iexact HI
    isplitr; · iexact Hl
    isplitl [Ht]; · iexact Ht
    isplitl [Hf]; · iexact Hf
    isplitr; · iempintro
    isplitl [Hn]; · iexact Hn
    isplitl [Ho]; · iexact Ho
    isplitl [HO]; · iexact HO
    iintro ⟨Ht, Hw, Hfr', -, Hm, Ho, HO⟩
    iapply Hk
    isplitl [Ht]; · iexact Ht
    isplitl [Hfr]; · iexact Hfr
    isplitl [Hfr']; · iexact Hfr'
    isplitl [Hw]
    · isplitl [Hw]; · iexact Hw
      iempintro
    isplitl [Hm]
    · isplitl [Hm]; · iexact Hm
      iempintro
    isplitl [Ho]; · iexact Ho
    iexact HO
  | succ k ih =>
    intro hk p hp e Q
    obtain rfl : p = (15 - k) % 2 := by omega
    rw [show muls (F := F) c (k + 1 + 1) hk = (mulTrip c (14 - k) (by omega) (wideNext c (15 - k) (by omega)) >>= fun _ => muls c (k + 1) (by omega)) from rfl,
      show up (mulNeed (F := F) c) (k + 1 + 1) = iprop(mulNeed c (15 - (k + 1)) ∗ up (mulNeed c) (k + 1)) from rfl,
      show up (fun k => wP m c (ord c k)) (k + 1) = iprop(wP m c (ord c (15 - k)) ∗ up (fun k => wP m c (ord c k)) k) from rfl,
      show up (fun k => wP m c (ord c k)) (k + 1 + 1) = iprop(wP m c (ord c (15 - (k + 1))) ∗ up (fun k => wP m c (ord c k)) (k + 1)) from rfl,
      show up (mulLeft (F := F) c) (k + 1 + 1) = iprop(mulLeft c (15 - (k + 1)) ∗ up (mulLeft c) (k + 1)) from rfl]
    have e14 : 15 - (k + 1) = 14 - k := by omega
    simp only [e14]
    iintro ⟨#HI, #Hl, Ht, Hf, Hfr, ⟨Hw, Hws⟩, ⟨Hn, Hns⟩, Ho, HO, Hk⟩
    rw [run_bind]
    iapply (run_mulTrip m K c (14 - (k + 1)) (14 - k) (by omega) _ (wideNext c (15 - k) _) _ _ (run_wideNext m c (15 - k) _))
    isplitr; · iexact HI
    isplitr; · iexact Hl
    isplitl [Ht]; · iexact Ht
    isplitl [Hf]; · iexact Hf
    isplitl [Hw Hfr]
    · isplitl [Hw]; · iexact Hw
      iexact Hfr
    isplitl [Hn]; · iexact Hn
    isplitl [Ho]; · iexact Ho
    isplitl [HO]; · iexact HO
    iintro ⟨Ht, Hw, Hfr, Hf, Hm, Ho, HO⟩
    iapply (ih _ ((14 - k) % 2) (Nat.mod_lt _ (by decide)) (by omega))
    isplitr; · iexact HI
    isplitr; · iexact Hl
    isplitl [Ht]; · iexact Ht
    isplitl [Hf]; · iexact Hf
    isplitl [Hfr]; · iexact Hfr
    isplitl [Hws]; · iexact Hws
    isplitl [Hns]; · iexact Hns
    isplitl [Ho]; · iexact Ho
    isplitl [HO]; · iexact HO
    iintro ⟨Ht, Hf0, Hf1, Hws, Hms, Ho, HO⟩
    iapply Hk
    isplitl [Ht]; · iexact Ht
    isplitl [Hf0]; · iexact Hf0
    isplitl [Hf1]; · iexact Hf1
    isplitl [Hw Hws]
    · isplitl [Hw]; · iexact Hw
      iexact Hws
    isplitl [Hm Hms]
    · isplitl [Hm]; · iexact Hm
      iexact Hms
    isplitl [Ho]; · iexact Ho
    iexact HO

/-! ## The drains -/

/-- What the drain of a rank takes. -/
def drainNeed (k : ℕ) : sProp 𝕄 := iprop(sendLeft c k ∗ atPos ER (sendCell c (fin k)) 0 ∅ 0)
/-- What it leaves. -/
def drainLeft (k : ℕ) : sProp 𝕄 := iprop(atPos ER (sendCell c (fin k)) 1 ∅ 0 ∗ any c (bR (ord c k)))

theorem run_drain (n : ℕ) (hn : n < 16) (h0 : 0 < n) (Q : PUnit → sProp 𝕄) :
    iprop(invs m K ∗ levAts L lv ∗ tabP c ∗ drainNeed c n ∗ ow c 0 ∗ ((tabP c ∗ drainLeft c n ∗ ow c 0) -∗ Q ⟨⟩))
      ⊢ run c (drain (F := F) c n hn) Q := by
  unfold drain drainNeed drainLeft sendLeft
  rw [fin_of hn]
  have hne : (⟨n, hn⟩ : Fin 16) ≠ 0 := fun h => Nat.pos_iff_ne_zero.mp h0 (congrArg Fin.val h)
  iintro ⟨#HI, #Hl, Ht, ⟨Hc, Hat⟩, ⟨%W, HO⟩, Hk⟩
  rw [run_bind]
  iapply (run_word c n hn)
  isplitl [Ht]; · iexact Ht
  iintro Ht
  rw [run_bind]
  iapply (run_assume c (drainOK (ord c n)))
  iapply (Rounds.wp_wait_rest_token 𝒱₀ ER (rd m) (c : Thread nD τ) none (κ := K (sendCell c ⟨n, hn⟩))
      (wpE_waitDma2_eq (src := cS c) (dst := bR (ord c n)) 𝒱₀ (c : Thread nD τ) none Set.univ) (Set.mem_univ _) () (O := 0) (W := W) (R := 0) (m := 0) (T := ∅)
      ((Nat.zero_add _).trans (expect_send m c ⟨n, hn⟩ hne).symm)) $$ [Hc HO Hat]
  · isplitr; · iapply (inv_send m K c ⟨n, hn⟩); iexact HI
    isplitl [Hc]; · iexact Hc
    isplitl [HO]; · iexact HO
    isplitr; · iapply (mayWait c _ (lv (sendCell c ⟨n, hn⟩) ()) (le_refl _) (above_zero _)); iexact Hl
    iexact Hat
  iintro ⟨HO, Hat, -, Hpay⟩
  ihave Hp := (Entails.of_eq (rest_send m c ⟨n, hn⟩ hne)) $$ Hpay
  rw [wp_ret]
  imodintro
  iapply Hk
  isplitl [Ht]; · iexact Ht
  isplitl [Hat Hp]
  · isplitl [Hat]; · iexact Hat
    unfold sendPay
    iexact Hp
  iexists _; iexact HO

theorem run_drains (k : ℕ) : ∀ (hk : k < 16) (Q : PUnit → sProp 𝕄),
    iprop(invs m K ∗ levAts L lv ∗ tabP c ∗ up (drainNeed c) k ∗ ow c 0 ∗ ((tabP c ∗ up (drainLeft c) k ∗ ow c 0) -∗ Q ⟨⟩))
      ⊢ run c (drains (F := F) c k hk) Q := by
  induction k with
  | zero =>
    intro hk Q
    unfold drains
    iintro ⟨#HI, #Hl, Ht, He, HO, Hk⟩
    iapply run_pure
    iapply Hk
    isplitl [Ht]; · iexact Ht
    isplitl [He]; · iexact He
    iexact HO
  | succ k ih =>
    intro hk Q
    unfold drains up
    iintro ⟨#HI, #Hl, Ht, ⟨Hn, Hns⟩, HO, Hk⟩
    rw [run_bind]
    iapply (run_drain m K c (15 - k) _ (by omega))
    isplitr; · iexact HI
    isplitr; · iexact Hl
    isplitl [Ht]; · iexact Ht
    isplitl [Hn]; · iexact Hn
    isplitl [HO]; · iexact HO
    iintro ⟨Ht, Hd, HO⟩
    iapply (ih _)
    isplitr; · iexact HI
    isplitr; · iexact Hl
    isplitl [Ht]; · iexact Ht
    isplitl [Hns]; · iexact Hns
    isplitl [HO]; · iexact HO
    iintro ⟨Ht, Hds, HO⟩
    iapply Hk
    isplitl [Ht]; · iexact Ht
    isplitl [Hd Hds]
    · isplitl [Hd]; · iexact Hd
      iexact Hds
    iexact HO

/-! ## The signals -/

theorem run_tells (k : ℕ) : ∀ (hk : k ≤ 16) (O : CellTallies nD τ sig Unit) (Q : PUnit → sProp 𝕄),
    iprop(invs m K ∗ up (fun k => tellIn c (fin k)) k ∗ ow c (O + owedTells c k) ∗ (ow c O -∗ Q ⟨⟩))
      ⊢ run c (tells (F := F) c k hk) Q := by
  induction k with
  | zero =>
    intro hk O Q
    unfold tells owedTells
    rw [add_zero]
    iintro ⟨#HI, -, HO, Hk⟩
    iapply run_pure
    iapply Hk
    iexact HO
  | succ k ih =>
    intro hk O Q
    have e : O + owedTells c (k + 1) = O + owedTells c k + owedTell c (fin (15 - k)) := by rw [add_assoc]; rfl
    rw [e]
    unfold tells up
    rw [fin_of (show 15 - k < 16 by omega)]
    iintro ⟨#HI, ⟨Hn, Hns⟩, HO, Hk⟩
    rw [run_bind]
    iapply (run_tell m K c (⟨15 - k, lt_of_le_of_lt (Nat.sub_le 15 k) (by decide)⟩ : Dev nD) (O + owedTells c k))
    isplitr; · iexact HI
    isplitl [Hn]; · iexact Hn
    isplitl [HO]; · iexact HO
    iintro HO
    iapply (ih _)
    isplitr; · iexact HI
    isplitl [Hns]; · iexact Hns
    isplitl [HO]; · iexact HO
    iexact Hk

end Trips

end Cert.Proof.Body

end
-- ==== Proof.Whole.lean ====
/- The whole body on one device. -/
module

public import proofs.«01_k».proof.Proof.Trips

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem down_mono {P R : ℕ → sProp 𝕄} (n : ℕ) (h : ∀ k, 1 ≤ k → k ≤ n → P k ⊢ R k) : down P n ⊢ down R n := by
  rw [down_eq, down_eq]
  exact bigSep_mono fun k hk => h k (Finset.mem_Icc.mp hk).1 (Finset.mem_Icc.mp hk).2

variable (m : (ℓ : Loc nD τ sig) → Buf (Elt F) ℓ) (K : GSem nD τ sig → ℕ) (c : Dev nD)

/-- The tokens of the send of a rank. -/
def sendToks (k : ℕ) : sProp 𝕄 :=
  iprop(dutyTok ER (sendCell c (fin k)) 0 c ∗ reached ER (sendCell c (fin k)) 0 ∗ dutyTok ER (recvCell (ord c (fin k).val) c) 0 c)

theorem sendNeed_make : iprop(down (fun k => any c (bR (ord c k))) 15 ∗ down (sendToks (F := F) c) 15 ∗ down (fun k => barPay c (ord c k)) 15)
    ⊢ down (sendNeed (F := F) c) 15 := by
  rw [← down_sep, ← down_sep]
  refine down_mono 15 fun k h1 h2 => ?_
  unfold sendToks sendNeed sendIn
  have e : (fin k).val = k := Nat.mod_eq_of_lt (by omega)
  rw [e]
  iintro ⟨Hb, ⟨H1, H2, H3⟩, H4⟩
  isplitl [Hb]; · iexact Hb
  isplitl [H1]; · iexact H1
  isplitl [H2]; · iexact H2
  isplitl [H3]; · iexact H3
  iexact H4

/-- What the body takes, besides the invariants and the levels. -/
def bodyIn : sProp 𝕄 :=
  iprop(tabP c ∗ (xP m c c ∗ down (fun k => xP m c (ord c k)) 15) ∗ (wP m c c ∗ down (fun k => wP m c (ord c k)) 15)
    ∗ (xFree c 0 (by decide) ∗ xFree c 1 (by decide)) ∗ (wFree c 0 (by decide) ∗ wFree c 1 (by decide))
    ∗ (any c (bR c) ∗ down (fun k => any c (bR (ord c k))) 15) ∗ any c outB
    ∗ up (fun k => tellIn c (fin k)) 16 ∗ down (sendToks c) 15
    ∗ (cred (tallyAt (barCell c) () 15) ∗ atPos ER (barCell c) 0 ∅ 0)
    ∗ down (mulNeed c) 15 ∗ down (fun k => atPos ER (sendCell c (fin k)) 0 ∅ 0) 15 ∗ ow c (O₀ c))

/-- What it leaves. -/
def bodyOut : sProp 𝕄 :=
  iprop(tabP c ∗ (xP m c c ∗ down (fun k => xP m c (ord c k)) 15) ∗ (wP m c c ∗ down (fun k => wP m c (ord c k)) 15)
    ∗ (xFree c 0 (by decide) ∗ xFree c 1 (by decide)) ∗ (wFree c 0 (by decide) ∗ wFree c 1 (by decide))
    ∗ (any c (bR c) ∗ down (fun k => any c (bR (ord c k))) 15) ∗ ownsTc c outB fullShare (acc m c 15)
    ∗ atPos ER (barCell c) 1 ∅ 0
    ∗ down (mulLeft c) 15 ∗ down (fun k => atPos ER (sendCell c (fin k)) 1 ∅ 0) 15 ∗ ow c 0)

theorem run_deviceId (Q : Dev nD → sProp 𝕄) : Q c ⊢ run (F := F) c (Prog.lift .deviceId) Q := by
  rw [show (Prog.lift TpuEff.deviceId : Prog (TpuEff nD τ sig (Elt F) Λ₀ .tc) (Dev nD)) = Prog.op TpuEff.deviceId Prog.ret from rfl]
  unfold run
  rw [wp_deviceId, wp_ret]
  iintro H
  imodintro
  iexact H

theorem run_entry (Q : PUnit → sProp 𝕄) :
    iprop(tabP c ∗ xP m c c ∗ xP m c (ord c 15) ∗ wP m c c ∗ xFree c 0 (by decide) ∗ xFree c 1 (by decide) ∗ wFree c 0 (by decide)
        ∗ ((tabP c ∗ xFly m c 0 (by decide) c ∗ xFly m c 1 (by decide) (ord c 15) ∗ wFly m c 0 (by decide) c) -∗ Q ⟨⟩))
      ⊢ run c (entry (F := F) c) Q := by
  unfold entry
  iintro ⟨Ht, Hx, Hx', Hw, Hf, Hf', Hg, Hk⟩
  rw [run_bind]
  iapply (run_wideStart m c 0 _ c)
  isplitl [Hw]; · iexact Hw
  isplitl [Hg]; · iexact Hg
  iintro Hg
  rw [run_bind]
  iapply (run_stageStart m c 0 _ c)
  isplitl [Hx]; · iexact Hx
  isplitl [Hf]; · iexact Hf
  iintro Hf
  iapply (run_stageNext m c 15)
  isplitl [Ht]; · iexact Ht
  isplitl [Hx' Hf']
  · isplitl [Hx']; · iexact Hx'
    iexact Hf'
  iintro ⟨Ht, Hf'⟩
  iapply Hk
  isplitl [Ht]; · iexact Ht
  isplitl [Hf]; · iexact Hf
  isplitl [Hf']; · iexact Hf'
  iexact Hg

theorem run_ownBlock (O : CellTallies nD τ sig Unit) (hO : Above 0 O) (Q : PUnit → sProp 𝕄) :
    iprop(levAts L lv ∗ xFly m c 0 (by decide) c ∗ any c (bR c) ∗ ow c O
        ∗ ((xP m c c ∗ xFree c 0 (by decide) ∗ ownsTc c (bR c) fullShare (nar m c c) ∗ ow c O) -∗ Q ⟨⟩))
      ⊢ run c (ownBlock (F := F) c) Q := by
  unfold ownBlock
  iintro ⟨#Hl, Hf, Hb, HO, Hk⟩
  rw [run_bind]
  iapply (run_stageWait m c 0 _ c O hO)
  isplitl [Hf]; · iexact Hf
  isplitl [HO]; · iexact HO
  isplitr; · iexact Hl
  iintro ⟨Hs, Hx, Hv, HO⟩
  iapply (run_narrowInto c 0 _ c)
  isplitl [Hs]; · iexact Hs
  isplitl [Hb]; · iexact Hb
  iintro ⟨Hs, Hb⟩
  iapply Hk
  isplitl [Hx]; · iexact Hx
  isplitl [Hs Hv]
  · unfold xFree
    isplitl [Hs]; · iexact Hs
    iexact Hv
  isplitl [Hb]; · iexact Hb
  iexact HO

theorem drainNeed_make : iprop(down (sendLeft (F := F) c) 15 ∗ down (fun k => atPos ER (sendCell c (fin k)) 0 ∅ 0) 15) ⊢ up (drainNeed (F := F) c) 15 := by
  rw [up_down, ← down_sep]
  exact down_mono 15 fun k _ _ => .rfl

theorem drainLeft_split : up (drainLeft (F := F) c) 15
    ⊢ iprop(down (fun k => atPos ER (sendCell c (fin k)) 1 ∅ 0) 15 ∗ down (fun k => any c (bR (ord c k))) 15) := by
  rw [up_down, ← down_sep]
  exact down_mono 15 fun k _ _ => .rfl

theorem run_body (Q : PUnit → sProp 𝕄) :
    iprop(invs m K ∗ levAts L lv ∗ bodyIn m c ∗ (bodyOut m c -∗ Q ⟨⟩)) ⊢ run c (body (F := F)) Q := by
  unfold body bodyIn bodyOut
  rw [show down (fun k => xP m c (ord c k)) 15 = iprop(xP m c (ord c 15) ∗ down (fun k => xP m c (ord c k)) 14) from rfl]
  iintro ⟨#HI, #Hl, ⟨Ht, ⟨Hx, Hx15, Hxs⟩, ⟨Hw, Hws⟩, ⟨Hf0, Hf1⟩, ⟨Hg0, Hg1⟩, ⟨Hb, Hbs⟩, Ho, Htell, Htoks, ⟨Hcb, Hab⟩, Hmul, Has, HO⟩, Hk⟩
  rw [run_bind]
  iapply run_deviceId
  rw [run_bind]
  iapply (run_entry m c)
  isplitl [Ht]; · iexact Ht
  isplitl [Hx]; · iexact Hx
  isplitl [Hx15]; · iexact Hx15
  isplitl [Hw]; · iexact Hw
  isplitl [Hf0]; · iexact Hf0
  isplitl [Hf1]; · iexact Hf1
  isplitl [Hg0]; · iexact Hg0
  iintro ⟨Ht, Hf0, Hf1, Hg0⟩
  rw [run_bind]
  iapply (run_tells m K c 16 _ (owedSends c 15))
  isplitr; · iexact HI
  isplitl [Htell]; · iexact Htell
  isplitl [HO]; · unfold O₀; iexact HO
  iintro HO
  unfold afterTells
  rw [run_bind]
  iapply (run_ownBlock m c (owedSends c 15) (Above.mono (by decide) (owedSends_above c 15)))
  isplitr; · iexact Hl
  isplitl [Hf0]; · iexact Hf0
  isplitl [Hb]; · iexact Hb
  isplitl [HO]; · iexact HO
  iintro ⟨Hx, Hf0, Hb, HO⟩
  rw [run_bind]
  iapply (run_barWait m K c (owedSends c 15) (owedSends_above c 15))
  isplitr; · iexact HI
  isplitr; · iexact Hl
  isplitl [Hcb]; · iexact Hcb
  isplitl [Hab]; · iexact Hab
  isplitl [HO]; · iexact HO
  iintro ⟨HO, Hab, Hpay⟩
  ihave Hpay := (Entails.of_eq (bigSep_others c (fun q => barPay (F := F) c q))) $$ Hpay
  ihave Hneed := (sendNeed_make (F := F) c) $$ [Hbs Htoks Hpay]
  · isplitl [Hbs]; · iexact Hbs
    isplitl [Htoks]; · iexact Htoks
    iexact Hpay
  rw [run_bind]
  iapply (run_sends m K c 14 _ 0 (by decide) rfl)
  isplitr; · iexact HI
  isplitr; · iexact Hl
  isplitl [Ht]; · iexact Ht
  isplitl [Hf1]; · iexact Hf1
  isplitl [Hf0]; · iexact Hf0
  isplitl [Hxs]; · iexact Hxs
  isplitl [Hneed]; · iexact Hneed
  isplitl [HO]; · iexact HO
  iintro ⟨Ht, Hf0, Hf1, Hxs, Hleft, HO⟩
  ihave Hxs := (Entails.of_eq (show down (fun k => xP m c (ord c k)) (14 + 1) = iprop(xP m c (ord c 15) ∗ down (fun k => xP m c (ord c k)) 14) from rfl)) $$ Hxs
  ihave Hws := (Entails.of_eq (up_down (fun k => wP m c (ord c k))).symm) $$ Hws
  icases (Entails.of_eq (show up (fun k => wP m c (ord c k)) 15 = iprop(wP m c (ord c 1) ∗ up (fun k => wP m c (ord c k)) 14) from rfl)) $$ Hws with ⟨Hw1, Hws⟩
  rw [run_bind]
  iapply (run_mulOwn m c)
  isplitr; · iexact Hl
  isplitl [Ht]; · iexact Ht
  isplitl [Hg0]; · iexact Hg0
  isplitl [Hw1]; · iexact Hw1
  isplitl [Hg1]; · iexact Hg1
  isplitl [Hb]; · iexact Hb
  isplitl [Ho]; · iexact Ho
  isplitl [HO]; · iexact HO
  iintro ⟨Ht, Hw, Hg0, Hg1, Hb, Ho, HO⟩
  ihave Hmul := (Entails.of_eq (up_down (mulNeed (F := F) c)).symm) $$ Hmul
  rw [run_bind]
  iapply (run_muls m K c 14 _ 0 (by decide) rfl)
  isplitr; · iexact HI
  isplitr; · iexact Hl
  isplitl [Ht]; · iexact Ht
  isplitl [Hg1]; · iexact Hg1
  isplitl [Hg0]; · iexact Hg0
  isplitl [Hws]; · iexact Hws
  isplitl [Hmul]; · iexact Hmul
  isplitl [Ho]; · iexact Ho
  isplitl [HO]; · iexact HO
  iintro ⟨Ht, Hg0, Hg1, Hws, Hmul, Ho, HO⟩
  ihave Hws := (Entails.of_eq (up_down (fun k => wP m c (ord c k)))) $$ Hws
  ihave Hmul := (Entails.of_eq (up_down (mulLeft (F := F) c))) $$ Hmul
  ihave Hdn := (drainNeed_make (F := F) c) $$ [Hleft Has]
  · isplitl [Hleft]; · iexact Hleft
    iexact Has
  iapply (run_drains m K c 15)
  isplitr; · iexact HI
  isplitr; · iexact Hl
  isplitl [Ht]; · iexact Ht
  isplitl [Hdn]; · iexact Hdn
  isplitl [HO]; · iexact HO
  iintro ⟨Ht, Hd, HO⟩
  icases (drainLeft_split (F := F) c) $$ Hd with ⟨Has, Hbs⟩
  iapply Hk
  isplitl [Ht]; · iexact Ht
  isplitl [Hx Hxs]
  · isplitl [Hx]; · iexact Hx
    iexact Hxs
  isplitl [Hw Hws]
  · isplitl [Hw]; · iexact Hw
    iexact Hws
  isplitl [Hf0 Hf1]
  · isplitl [Hf0]; · iexact Hf0
    iexact Hf1
  isplitl [Hg0 Hg1]
  · isplitl [Hg0]; · iexact Hg0
    iexact Hg1
  isplitl [Hb Hbs]
  · isplitl [Hb]; · iexact Hb
    iexact Hbs
  isplitl [Ho]; · iexact Ho
  isplitl [Hab]; · iexact Hab
  isplitl [Hmul]; · iexact Hmul
  isplitl [Has]; · iexact Has
  iexact HO

end Cert.Proof.Body

end
-- ==== Proof.Buffers.lean ====
/- The buffers the body works in, cut into the blocks and slots it works by, and put together again. -/
module

public import proofs.«01_k».proof.Proof.Whole

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Where the blocks and slots lie -/

theorem rowOff_lead : ∀ s : Dev nD, rowOff (place s) 0 = 512 * s.val := by decide +kernel
theorem rowOff_rest : ∀ (s : Dev nD) (a : Fin 2), a ≠ 0 → rowOff (place s) a = 0 := by decide +kernel
theorem slotOff_lead : ∀ s : Dev nD, slotOff (place s) 0 = 1 * s.val := by decide +kernel
theorem slotOff_rest : ∀ (s : Dev nD) (a : Fin 3), a ≠ 0 → slotOff (place s) a = 0 := by decide +kernel

/-- The corner of stage `p` of two. -/
def pairOff (p : Fin 2) : Fin 3 → ℕ := ![p.val, 0, 0]
theorem pairOff_lead : ∀ p : Fin 2, pairOff p 0 = 1 * p.val := by decide
theorem pairOff_rest : ∀ (p : Fin 2) (a : Fin 3), a ≠ 0 → pairOff p a = 0 := by decide

theorem xR_set (s : Dev nD) : (xR s).view.set = (Rect.unit (s := S8192x512) (rowOff (place s)) S512x512.size (rowOff_place_inb s)).set :=
  View.set_slice_whole _ _
theorem wR_set (s : Dev nD) : (wR s).view.set = (Rect.unit (s := S8192x4096) (rowOff (place s)) S512x4096.size (wideOff_place_inb s)).set :=
  View.set_slice_whole _ _
theorem bR_set (s : Dev nD) : (bR s).view.set = (Rect.unit (s := S8192x512) (rowOff (place s)) S512x512.size (rowOff_place_inb s)).set :=
  View.set_slice_whole _ _
theorem cS_set (s : Dev nD) : (cS s).view.set = (Rect.unit (s := S16x512x512) (slotOff (place s)) S1x512x512.size (slotOff_place_inb s)).set :=
  (View.set_reshape _ _).trans (View.set_slice_whole _ _)
theorem stage_set (p : Fin 2) : (stageSlot p.val p.isLt).view.set = (Rect.unit (s := S2x512x512) (pairOff p) S1x512x512.size (stageOff_inb p.val p.isLt)).set :=
  (View.set_reshape _ _).trans (View.set_slice_whole _ _)
theorem wide_set (p : Fin 2) : (wideSlot p.val p.isLt).view.set = (Rect.unit (s := S2x512x4096) (pairOff p) S1x512x4096.size (wideOff_inb p.val p.isLt)).set :=
  (View.set_reshape _ _).trans (View.set_slice_whole _ _)

theorem of_cover {B β : Type} [Fintype B] [Fintype β] [DecidableEq β] {I : B → Finset β}
    (h : Finset.univ.biUnion I = Finset.univ) (i : β) : ∃ b, i ∈ I b := by
  have hi : i ∈ Finset.univ.biUnion I := by rw [h]; exact Finset.mem_univ i
  obtain ⟨b, -, hb⟩ := Finset.mem_biUnion.mp hi
  exact ⟨b, hb⟩
theorem cover_of {B β : Type} [Fintype B] [Fintype β] [DecidableEq β] {I : B → Finset β}
    (h : ∀ i : β, ∃ b, i ∈ I b) : Finset.univ.biUnion I = Finset.univ :=
  Finset.eq_univ_iff_forall.mpr fun i => by
    obtain ⟨b, hb⟩ := h i
    exact Finset.mem_biUnion.mpr ⟨b, Finset.mem_univ b, hb⟩

/-- Cuts a buffer, whatever it holds. -/
theorem any_cut {B : Type} [Fintype B] [DecidableEq B] {ℓ : Loc nD τ sig} (I : B → Finset (Idx ℓ))
    (hd : ∀ b b', b ≠ b' → Disjoint (I b) (I b')) (hc : Finset.univ.biUnion I = Finset.univ) :
    iprop(∃ f : Buf (Elt F) ℓ, ℓ ↦{fullShare} f) ⊢ (bigSep Finset.univ fun b => iprop(∃ f : Buf (Elt F) ℓ, ℓ ↦[I b]{fullShare} f) : sProp 𝕄) := by
  iintro ⟨%f, H⟩
  ihave H := (Entails.of_eq (Ring.pointsTo_blocks I hd hc f)) $$ H
  have h (b : B) : (ℓ ↦[I b]{fullShare} f : sProp 𝕄) ⊢ iprop(∃ f : Buf (Elt F) ℓ, ℓ ↦[I b]{fullShare} f) := by
    iintro H; iexists f; iexact H
  have h' : (bigSep Finset.univ fun b => (ℓ ↦[I b]{fullShare} f : sProp 𝕄))
      ⊢ (bigSep Finset.univ fun b => iprop(∃ f : Buf (Elt F) ℓ, ℓ ↦[I b]{fullShare} f) : sProp 𝕄) :=
    bigSep_mono fun b _ => h b
  iapply h' $$ H

/-- Puts it together again. -/
theorem any_join {B : Type} [Fintype B] [DecidableEq B] {ℓ : Loc nD τ sig} (I : B → Finset (Idx ℓ))
    (hd : ∀ b b', b ≠ b' → Disjoint (I b) (I b')) (hc : Finset.univ.biUnion I = Finset.univ) :
    (bigSep Finset.univ fun b => iprop(∃ f : Buf (Elt F) ℓ, ℓ ↦[I b]{fullShare} f) : sProp 𝕄) ⊢ iprop(∃ f : Buf (Elt F) ℓ, ℓ ↦{fullShare} f) :=
  Ring.pointsTo_blocks_join_exists I hd hc (fun _ => Classical.arbitrary _)

variable (m : (ℓ : Loc nD τ sig) → Buf (Elt F) ℓ) (c : Dev nD)

theorem xR_disjoint (s s' : Dev nD) (h : s ≠ s') : Disjoint (xR s).view.set (xR s').view.set := by
  rw [xR_set, xR_set]; exact Ring.lead_disjoint (s := S8192x512) (NB := 16) 0 512 (fun b => rowOff (place b)) S512x512.size rowOff_place_inb rowOff_lead rfl s s' h
theorem xR_cover : ∀ i : S8192x512.Idx, ∃ s : Dev nD, i ∈ (xR s).view.set := fun i => by
  obtain ⟨b, hb⟩ := of_cover (Ring.lead_cover (s := S8192x512) (NB := 16) 0 512 (fun b => rowOff (place b)) S512x512.size rowOff_place_inb rowOff_lead rowOff_rest rfl (by decide) rfl) i
  exact ⟨b, by rw [xR_set]; exact hb⟩
theorem wR_disjoint (s s' : Dev nD) (h : s ≠ s') : Disjoint (wR s).view.set (wR s').view.set := by
  rw [wR_set, wR_set]; exact Ring.lead_disjoint (s := S8192x4096) (NB := 16) 0 512 (fun b => rowOff (place b)) S512x4096.size wideOff_place_inb rowOff_lead rfl s s' h
theorem wR_cover : ∀ i : S8192x4096.Idx, ∃ s : Dev nD, i ∈ (wR s).view.set := fun i => by
  obtain ⟨b, hb⟩ := of_cover (Ring.lead_cover (s := S8192x4096) (NB := 16) 0 512 (fun b => rowOff (place b)) S512x4096.size wideOff_place_inb rowOff_lead rowOff_rest rfl (by decide) rfl) i
  exact ⟨b, by rw [wR_set]; exact hb⟩
theorem bR_disjoint (s s' : Dev nD) (h : s ≠ s') : Disjoint (bR s).view.set (bR s').view.set := by
  rw [bR_set, bR_set]; exact Ring.lead_disjoint (s := S8192x512) (NB := 16) 0 512 (fun b => rowOff (place b)) S512x512.size rowOff_place_inb rowOff_lead rfl s s' h
theorem bR_cover : ∀ i : S8192x512.Idx, ∃ s : Dev nD, i ∈ (bR s).view.set := fun i => by
  obtain ⟨b, hb⟩ := of_cover (Ring.lead_cover (s := S8192x512) (NB := 16) 0 512 (fun b => rowOff (place b)) S512x512.size rowOff_place_inb rowOff_lead rowOff_rest rfl (by decide) rfl) i
  exact ⟨b, by rw [bR_set]; exact hb⟩
theorem cS_disjoint (s s' : Dev nD) (h : s ≠ s') : Disjoint (cS s).view.set (cS s').view.set := by
  rw [cS_set, cS_set]; exact Ring.lead_disjoint (s := S16x512x512) (NB := 16) 0 1 (fun b => slotOff (place b)) S1x512x512.size slotOff_place_inb slotOff_lead rfl s s' h
theorem cS_cover : ∀ i : S16x512x512.Idx, ∃ s : Dev nD, i ∈ (cS s).view.set := fun i => by
  obtain ⟨b, hb⟩ := of_cover (Ring.lead_cover (s := S16x512x512) (NB := 16) 0 1 (fun b => slotOff (place b)) S1x512x512.size slotOff_place_inb slotOff_lead slotOff_rest rfl (by decide) rfl) i
  exact ⟨b, by rw [cS_set]; exact hb⟩
theorem stage_disjoint (p p' : Fin 2) (h : p ≠ p') : Disjoint (stageSlot p.val p.isLt).view.set (stageSlot p'.val p'.isLt).view.set := by
  rw [stage_set, stage_set]; exact Ring.lead_disjoint (s := S2x512x512) (NB := 2) 0 1 pairOff S1x512x512.size (fun p => stageOff_inb p.val p.isLt) pairOff_lead rfl p p' h
theorem stage_cover : ∀ i : S2x512x512.Idx, ∃ p : Fin 2, i ∈ (stageSlot p.val p.isLt).view.set := fun i => by
  obtain ⟨b, hb⟩ := of_cover (Ring.lead_cover (s := S2x512x512) (NB := 2) 0 1 pairOff S1x512x512.size (fun p => stageOff_inb p.val p.isLt) pairOff_lead pairOff_rest rfl (by decide) rfl) i
  exact ⟨b, by rw [stage_set]; exact hb⟩
theorem wide_disjoint (p p' : Fin 2) (h : p ≠ p') : Disjoint (wideSlot p.val p.isLt).view.set (wideSlot p'.val p'.isLt).view.set := by
  rw [wide_set, wide_set]; exact Ring.lead_disjoint (s := S2x512x4096) (NB := 2) 0 1 pairOff S1x512x4096.size (fun p => wideOff_inb p.val p.isLt) pairOff_lead rfl p p' h
theorem wide_cover : ∀ i : S2x512x4096.Idx, ∃ p : Fin 2, i ∈ (wideSlot p.val p.isLt).view.set := fun i => by
  obtain ⟨b, hb⟩ := of_cover (Ring.lead_cover (s := S2x512x4096) (NB := 2) 0 1 pairOff S1x512x4096.size (fun p => wideOff_inb p.val p.isLt) pairOff_lead pairOff_rest rfl (by decide) rfl) i
  exact ⟨b, by rw [wide_set]; exact hb⟩

/-! ## The device's own member first, then the others by rank -/

theorem bigSep_own (P : Dev nD → sProp 𝕄) : bigSep Finset.univ P = iprop(P c ∗ down (fun k => P (ord c k)) 15) := by
  rw [BI.bigSep_erase (Finset.mem_univ c), bigSep_others]; rfl
theorem bigSep_first (P : Fin 16 → sProp 𝕄) : bigSep Finset.univ P = iprop(P 0 ∗ down (fun k => P (fin k)) 15) := by
  rw [BI.bigSep_erase (Finset.mem_univ (0 : Fin 16)), bigSep_ranks]; rfl

theorem x_blocks : (((c : Thread nD τ).loc main_arg0) ↦{fullShare} xOf m c : sProp 𝕄) = iprop(xP m c c ∗ down (fun k => xP m c (ord c k)) 15) :=
  (Ring.pointsTo_blocks (ℓ := (c : Thread nD τ).loc main_arg0) (fun s => (xR s).view.set) xR_disjoint (cover_of xR_cover) (xOf m c)).trans
    (bigSep_own c fun s => xP m c s)
theorem w_blocks : (((c : Thread nD τ).loc main_arg1) ↦{fullShare} wOf m c : sProp 𝕄) = iprop(wP m c c ∗ down (fun k => wP m c (ord c k)) 15) :=
  (Ring.pointsTo_blocks (ℓ := (c : Thread nD τ).loc main_arg1) (fun s => (wR s).view.set) wR_disjoint (cover_of wR_cover) (wOf m c)).trans
    (bigSep_own c fun s => wP m c s)

/-- A scratch buffer whole, whatever it holds. -/
abbrev scr (b : Ref sig .tc) : sProp 𝕄 := iprop(∃ f : Buf (Elt F) ((c : Thread nD τ).loc b), ((c : Thread nD τ).loc b) ↦{fullShare} f)

theorem bf_cut : scr (F := F) c cc0_scratch0 ⊢ iprop(any c (bR c) ∗ down (fun k => any c (bR (ord c k))) 15) :=
  (any_cut (ℓ := (c : Thread nD τ).loc cc0_scratch0) (fun s => (bR s).view.set) bR_disjoint (cover_of bR_cover)).trans
    (Entails.of_eq (bigSep_own c fun s => any (F := F) c (bR s)))
theorem bf_join : iprop(any c (bR c) ∗ down (fun k => any c (bR (ord c k))) 15) ⊢ scr (F := F) c cc0_scratch0 :=
  (Entails.of_eq (bigSep_own c fun s => any (F := F) c (bR s)).symm).trans
    (any_join (ℓ := (c : Thread nD τ).loc cc0_scratch0) (fun s => (bR s).view.set) bR_disjoint (cover_of bR_cover))
theorem comm_cut : scr (F := F) c cc0_scratch2 ⊢ iprop(any c (cS c) ∗ down (fun k => any c (cS (ord c k))) 15) :=
  (any_cut (ℓ := (c : Thread nD τ).loc cc0_scratch2) (fun s => (cS s).view.set) cS_disjoint (cover_of cS_cover)).trans
    (Entails.of_eq (bigSep_own c fun s => any (F := F) c (cS s)))
theorem comm_join : iprop(any c (cS c) ∗ down (fun k => any c (cS (ord c k))) 15) ⊢ scr (F := F) c cc0_scratch2 :=
  (Entails.of_eq (bigSep_own c fun s => any (F := F) c (cS s)).symm).trans
    (any_join (ℓ := (c : Thread nD τ).loc cc0_scratch2) (fun s => (cS s).view.set) cS_disjoint (cover_of cS_cover))
theorem stage_cut : scr (F := F) c cc0_scratch1 ⊢ iprop(any c (stageSlot 0 (by decide)) ∗ any c (stageSlot 1 (by decide))) :=
  (any_cut (ℓ := (c : Thread nD τ).loc cc0_scratch1) (fun p : Fin 2 => (stageSlot p.val p.isLt).view.set) stage_disjoint (cover_of stage_cover)).trans
    (Entails.of_eq (BI.bigSep_fin_two fun p : Fin 2 => any (F := F) c (stageSlot p.val p.isLt)))
theorem stage_join : iprop(any c (stageSlot 0 (by decide)) ∗ any c (stageSlot 1 (by decide))) ⊢ scr (F := F) c cc0_scratch1 :=
  (Entails.of_eq (BI.bigSep_fin_two fun p : Fin 2 => any (F := F) c (stageSlot p.val p.isLt)).symm).trans
    (any_join (ℓ := (c : Thread nD τ).loc cc0_scratch1) (fun p : Fin 2 => (stageSlot p.val p.isLt).view.set) stage_disjoint (cover_of stage_cover))
theorem wide_cut : scr (F := F) c cc0_scratch3 ⊢ iprop(any c (wideSlot 0 (by decide)) ∗ any c (wideSlot 1 (by decide))) :=
  (any_cut (ℓ := (c : Thread nD τ).loc cc0_scratch3) (fun p : Fin 2 => (wideSlot p.val p.isLt).view.set) wide_disjoint (cover_of wide_cover)).trans
    (Entails.of_eq (BI.bigSep_fin_two fun p : Fin 2 => any (F := F) c (wideSlot p.val p.isLt)))
theorem wide_join : iprop(any c (wideSlot 0 (by decide)) ∗ any c (wideSlot 1 (by decide))) ⊢ scr (F := F) c cc0_scratch3 :=
  (Entails.of_eq (BI.bigSep_fin_two fun p : Fin 2 => any (F := F) c (wideSlot p.val p.isLt)).symm).trans
    (any_join (ℓ := (c : Thread nD τ).loc cc0_scratch3) (fun p : Fin 2 => (wideSlot p.val p.isLt).view.set) wide_disjoint (cover_of wide_cover))

end Cert.Proof.Body

end
-- ==== Proof.Enter.lean ====
/- What a device holds around its body: how the talk's cells are opened when it begins and closed when it
   ends, and how what is held over all devices makes what the body takes. -/
module

public import proofs.«01_k».proof.Proof.Buffers
public import Idealize.ShloMosaic.Lib.Rounds.Family
public import Idealize.ShloMosaic.Harness.Basic

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## The semaphores of the kernel's own -/

abbrev Own : Type := (Fin 16 ⊕ Dev nD) ⊕ (Fin 2 ⊕ Fin 2)

def osem : Own → SemLoc sig
  | .inl (.inl j) => .dma (sendSem j.val j.isLt)
  | .inl (.inr s) => .dma (rSem s)
  | .inr (.inl p) => .dma (stageSem p.val p.isLt)
  | .inr (.inr p) => .dma (wideSem p.val p.isLt)

theorem ownSems_eq : (Pipeline.ownSems0 osem c : sProp 𝕄)
    = iprop(((bigSep Finset.univ fun j : Fin 16 => semVal (sendCell c j) 0) ∗ (bigSep Finset.univ fun s : Dev nD => semVal (recvCell c s) 0))
        ∗ (semVal ((c : Thread nD τ), .dma (stageSem 0 (by decide))) 0 ∗ semVal ((c : Thread nD τ), .dma (stageSem 1 (by decide))) 0)
        ∗ (semVal ((c : Thread nD τ), .dma (wideSem 0 (by decide))) 0 ∗ semVal ((c : Thread nD τ), .dma (wideSem 1 (by decide))) 0)) := by
  unfold Pipeline.ownSems0
  rw [BI.bigSep_univ_sum, BI.bigSep_univ_sum, BI.bigSep_univ_sum, BI.bigSep_fin_two, BI.bigSep_fin_two]
  rfl

/-! ## The talk's holdings -/

/-- Every barrier cell is in its first round. -/
def bars : sProp 𝕄 := bigSep Finset.univ fun j : Dev nD => reached ER (barCell j) 0
instance bars_persistent : BI.Persistent (bars (F := F)) := by unfold bars; infer_instance

/-- The tokens of the duties device `c` pays. -/
def toks : sProp 𝕄 :=
  iprop((bigSep Finset.univ fun j : Dev nD => dutyTok ER (barCell j) 0 c) ∗ (bigSep Finset.univ fun j : Fin 16 => dutyTok ER (sendCell c j) 0 c)
    ∗ bigSep Finset.univ fun j : Dev nD => dutyTok ER (recvCell j c) 0 c)

/-- The credit it may spend at its own cells. -/
def creds : sProp 𝕄 :=
  iprop(cred (tallyAt (barCell c) () 15) ∗ bigSep (Finset.univ.erase c) fun s : Dev nD => cred (tallyAt (recvCell c s) () N))

/-- The talk's holdings before the region; the send and receive cells not opened. -/
def ready : sProp 𝕄 :=
  iprop(bars ∗ atPos ER (barCell c) 0 ∅ 0
    ∗ ((bigSep Finset.univ fun j : Fin 16 => openTok ER (sendCell c j)) ∗ (bigSep Finset.univ fun s : Dev nD => openTok ER (recvCell c s))) ∗ toks c)

/-- Once they are opened. -/
def opened : sProp 𝕄 :=
  iprop(bars ∗ atPos ER (barCell c) 0 ∅ 0
    ∗ ((bigSep Finset.univ fun j : Fin 16 => iprop(atPos ER (sendCell c j) 0 ∅ 0 ∗ reached ER (sendCell c j) 0))
      ∗ (bigSep Finset.univ fun s : Dev nD => iprop(atPos ER (recvCell c s) 0 ∅ 0 ∗ reached ER (recvCell c s) 0))) ∗ toks c)

theorem invs_send : invs m K ⊢ bigSep Finset.univ fun j : Fin 16 => cellI m K (sendCell c j) := by
  refine (show invs m K ⊢ bigSep Finset.univ fun p : Dev nD × Fin 16 => cellI m K (sendCell p.1 p.2) from by
    unfold invs; iintro ⟨-, H, -⟩; iexact H).trans ?_
  rw [bigSep_univ_prod]
  exact bigSep_at (fun c : Dev nD => bigSep Finset.univ fun j : Fin 16 => cellI m K (sendCell c j)) c
theorem invs_recv : invs m K ⊢ bigSep Finset.univ fun s : Dev nD => cellI m K (recvCell c s) := by
  refine (show invs m K ⊢ bigSep Finset.univ fun p : Dev nD × Dev nD => cellI m K (recvCell p.1 p.2) from by
    unfold invs; iintro ⟨-, -, H⟩; iexact H).trans ?_
  rw [bigSep_univ_prod]
  exact bigSep_at (fun c : Dev nD => bigSep Finset.univ fun s : Dev nD => cellI m K (recvCell c s)) c

theorem open_cells : iprop(invs m K ∗ ready c ∗ (bigSep Finset.univ fun j : Fin 16 => semVal (sendCell c j) 0) ∗ (bigSep Finset.univ fun s : Dev nD => semVal (recvCell c s) 0))
    ⊢ (|={Set.univ}=> opened c : sProp 𝕄) := by
  unfold ready opened
  iintro ⟨#HI, ⟨#Hb, Hat, ⟨Hos, Hor⟩, Ht⟩, Hvs, Hvr⟩
  ihave #Hs := (invs_send m K c) $$ HI
  ihave #Hr := (invs_recv m K c) $$ HI
  imod (Rounds.cells_open ER (rd m) Finset.univ (fun j : Fin 16 => sendCell c j) (fun j => K (sendCell c j)) (fun _ _ => Set.mem_univ _)) $$ [Hos Hvs] with Hs'
  · isplitl [Hos]
    · iapply (bigSep_pair (Φ := fun j : Fin 16 => cellI m K (sendCell c j)) (Ψ := fun j : Fin 16 => openTok ER (sendCell c j)))
      isplitr; · iexact Hs
      iexact Hos
    · iexact Hvs
  imod (Rounds.cells_open ER (rd m) Finset.univ (fun s : Dev nD => recvCell c s) (fun s => K (recvCell c s)) (fun _ _ => Set.mem_univ _)) $$ [Hor Hvr] with Hr'
  · isplitl [Hor]
    · iapply (bigSep_pair (Φ := fun s : Dev nD => cellI m K (recvCell c s)) (Ψ := fun s : Dev nD => openTok ER (recvCell c s)))
      isplitr; · iexact Hr
      iexact Hor
    · iexact Hvr
  imodintro
  isplitr; · iexact Hb
  isplitl [Hat]; · iexact Hat
  isplitl [Hs' Hr']
  · isplitl [Hs']; · iexact Hs'
    iexact Hr'
  iexact Ht

theorem recv_none (r : ℕ) : (rd (F := F) m).duties (recvCell c c) r = ∅ := by
  dsimp only [rd]
  split
  · rw [role_recv]; exact if_pos rfl
  · rfl
theorem send_none (r : ℕ) : (rd (F := F) m).duties (sendCell c 0) r = ∅ := by
  dsimp only [rd]
  split
  · rw [role_send]; rfl
  · rfl

/-- The round each cell is in when the body ends. -/
def sendAt (j : Fin 16) : ℕ := if j = 0 then 0 else 1
def recvAt (s : Dev nD) : ℕ := if s = c then 0 else 1

theorem sendAt_end (j : Fin 16) (r : ℕ) (h : sendAt j ≤ r) : (rd (F := F) m).duties (sendCell c j) r = ∅ := by
  unfold sendAt at h
  split at h
  · next e => rw [e]; exact send_none m c r
  · exact duties_later m _ r h
theorem recvAt_end (s : Dev nD) (r : ℕ) (h : recvAt c s ≤ r) : (rd (F := F) m).duties (recvCell c s) r = ∅ := by
  unfold recvAt at h
  split at h
  · next e => rw [e]; exact recv_none m c r
  · exact duties_later m _ r h

/-- Every cell of device `c` where its body leaves it. -/
def ended : sProp 𝕄 :=
  iprop(atPos ER (barCell c) 1 ∅ 0 ∗ (bigSep Finset.univ fun j : Fin 16 => atPos ER (sendCell c j) (sendAt j) ∅ 0)
    ∗ (bigSep Finset.univ fun s : Dev nD => atPos ER (recvCell c s) (recvAt c s) ∅ 0))

theorem close_cells : iprop(invs m K ∗ ended c)
    ⊢ (|={Set.univ}=> (semVal (barCell c) 0 ∗ (bigSep Finset.univ fun j : Fin 16 => semVal (sendCell c j) 0) ∗ (bigSep Finset.univ fun s : Dev nD => semVal (recvCell c s) 0)) : sProp 𝕄) := by
  unfold ended
  iintro ⟨#HI, Hb, Has, Har⟩
  ihave #Hs := (invs_send m K c) $$ HI
  ihave #Hr := (invs_recv m K c) $$ HI
  ihave #Hi := (inv_bar m K c) $$ HI
  imod (Rounds.cell_close ER (rd m) (g := barCell c) (Set.mem_univ (K (barCell c))) (fun h => h) (R := 1) (duties_later m _)) $$ [Hb] with Hb
  · isplitr; · iexact Hi
    iexact Hb
  imod (Rounds.cells_close ER (rd m) Finset.univ (fun j : Fin 16 => sendCell c j) (fun j => K (sendCell c j)) (fun _ _ => Set.mem_univ _) (fun _ _ h => h)
    sendAt (fun j _ => sendAt_end m c j)) $$ [Has] with Has
  · iapply (bigSep_pair (Φ := fun j : Fin 16 => cellI m K (sendCell c j)) (Ψ := fun j : Fin 16 => atPos ER (sendCell c j) (sendAt j) ∅ 0))
    isplitr; · iexact Hs
    iexact Has
  imod (Rounds.cells_close ER (rd m) Finset.univ (fun s : Dev nD => recvCell c s) (fun s => K (recvCell c s)) (fun _ _ => Set.mem_univ _) (fun _ _ h => h)
    (recvAt c) (fun s _ => recvAt_end m c s)) $$ [Har] with Har
  · iapply (bigSep_pair (Φ := fun s : Dev nD => cellI m K (recvCell c s)) (Ψ := fun s : Dev nD => atPos ER (recvCell c s) (recvAt c s) ∅ 0))
    isplitr; · iexact Hr
    iexact Har
  imodintro
  isplitl [Hb]; · iexact Hb
  isplitl [Has]; · iexact Has
  iexact Har

/-! ## From what is held over all devices to what the body takes, rank by rank -/

theorem own_split (P : Dev nD → sProp 𝕄) : bigSep Finset.univ P ⊢ iprop(P c ∗ down (fun k => P (ord c k)) 15) :=
  Entails.of_eq (bigSep_own c P)
theorem first_split (P : Fin 16 → sProp 𝕄) : bigSep Finset.univ P ⊢ iprop(P 0 ∗ down (fun k => P (fin k)) 15) :=
  Entails.of_eq (bigSep_first P)

/-- What device `c` gives each other device with its barrier unit. -/
theorem tells_make :
    iprop(down (fun k => dutyTok ER (barCell (ord c k)) 0 c) 15 ∗ down (fun k => reached ER (barCell (ord c k)) 0) 15
        ∗ down (fun k => any c (cS (ord c k))) 15 ∗ down (fun k => reached ER (recvCell c (ord c k)) 0) 15)
      ⊢ up (fun k => tellIn (F := F) c (fin k)) 16 := by
  rw [← down_sep, ← down_sep, ← down_sep]
  have h1 : down (fun k => iprop(dutyTok ER (barCell (ord c k)) 0 c ∗ reached ER (barCell (ord c k)) 0 ∗ any c (cS (ord c k)) ∗ reached ER (recvCell c (ord c k)) 0)) 15
      ⊢ down (fun k => tellIn (F := F) c (ord c k)) 15 := by
    refine down_mono 15 fun k h1 h2 => ?_
    unfold tellIn
    rw [if_neg (ord_ne_self c (by omega) (by omega))]
  have h2 : iprop(tellIn (F := F) c c ∗ down (fun k => tellIn (F := F) c (ord c k)) 15) ⊢ up (fun k => tellIn (F := F) c (fin k)) 16 :=
    Entails.of_eq ((bigSep_own c fun j => tellIn (F := F) c j).symm.trans (bigSep_all (fun j : Fin 16 => tellIn (F := F) c j)))
  iintro H
  iapply h2
  isplitr
  · unfold tellIn; rw [if_pos rfl]; iempintro
  · iapply h1 $$ H

theorem sendToks_make :
    iprop(down (fun k => dutyTok ER (sendCell c (fin k)) 0 c) 15 ∗ down (fun k => reached ER (sendCell c (fin k)) 0) 15
        ∗ down (fun k => dutyTok ER (recvCell (ord c k) c) 0 c) 15)
      ⊢ down (sendToks (F := F) c) 15 := by
  rw [← down_sep, ← down_sep]
  refine down_mono 15 fun k h1 h2 => ?_
  unfold sendToks
  have e : (fin k).val = k := Nat.mod_eq_of_lt (by omega)
  rw [e]

theorem mulNeed_make :
    iprop(down (fun k => cred (tallyAt (recvCell c (ord c k)) () N)) 15 ∗ down (fun k => atPos ER (recvCell c (ord c k)) 0 ∅ 0) 15)
      ⊢ down (mulNeed (F := F) c) 15 := by
  rw [← down_sep]
  exact Entails.refl _

theorem mulLeft_split : down (mulLeft (F := F) c) 15
    ⊢ iprop(down (fun k => atPos ER (recvCell c (ord c k)) 1 ∅ 0) 15 ∗ down (fun k => any c (cS (ord c k))) 15) := by
  rw [← down_sep]
  exact Entails.refl _

/-- The cells' ends put together. -/
theorem ended_make :
    iprop(atPos ER (barCell c) 1 ∅ 0 ∗ (atPos ER (sendCell c 0) 0 ∅ 0 ∗ down (fun k => atPos ER (sendCell c (fin k)) 1 ∅ 0) 15)
        ∗ (atPos ER (recvCell c c) 0 ∅ 0 ∗ down (fun k => atPos ER (recvCell c (ord c k)) 1 ∅ 0) 15))
      ⊢ ended (F := F) c := by
  have hs : down (fun k => atPos ER (sendCell c (fin k)) 1 ∅ 0) 15 ⊢ down (fun k => (atPos ER (sendCell c (fin k)) (sendAt (fin k)) ∅ 0 : sProp 𝕄)) 15 := by
    refine down_mono 15 fun k h1 h2 => ?_
    have e : sendAt (fin k) = 1 := if_neg fun h => by
      have := congrArg Fin.val h; have e : (fin k).val = k := Nat.mod_eq_of_lt (by omega)
      rw [e] at this; have h0 : ((0 : Fin 16) : ℕ) = 0 := rfl; omega
    rw [e]
  have hr : down (fun k => atPos ER (recvCell c (ord c k)) 1 ∅ 0) 15 ⊢ down (fun k => (atPos ER (recvCell c (ord c k)) (recvAt c (ord c k)) ∅ 0 : sProp 𝕄)) 15 := by
    refine down_mono 15 fun k h1 h2 => ?_
    have e : recvAt c (ord c k) = 1 := if_neg (ord_ne_self c (by omega) (by omega))
    rw [e]
  have e0 : sendAt 0 = 0 := rfl
  have ec : recvAt c c = 0 := if_pos rfl
  unfold ended
  rw [bigSep_first, bigSep_own c, e0, ec]
  iintro ⟨Hb, ⟨H0, Hs⟩, Hc, Hr⟩
  isplitl [Hb]; · iexact Hb
  isplitl [H0 Hs]
  · isplitl [H0]; · iexact H0
    iapply hs $$ Hs
  · isplitl [Hc]; · iexact Hc
    iapply hr $$ Hr

end Cert.Proof.Body

end
-- ==== Proof.Around.lean ====
/- The body from what enters the region to what leaves it: the buffers cut for the body and put back, the cells
   closed. -/
module

public import proofs.«01_k».proof.Proof.Enter

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- The local copies' semaphores at zero. -/
def copySems : sProp 𝕄 :=
  iprop((semVal ((c : Thread nD τ), .dma (stageSem 0 (by decide))) 0 ∗ semVal ((c : Thread nD τ), .dma (stageSem 1 (by decide))) 0)
    ∗ (semVal ((c : Thread nD τ), .dma (wideSem 0 (by decide))) 0 ∗ semVal ((c : Thread nD τ), .dma (wideSem 1 (by decide))) 0))

/-- Both arguments as launched. -/
def args : sProp 𝕄 :=
  iprop((((c : Thread nD τ).loc main_arg0) ↦{fullShare} xOf m c) ∗ (((c : Thread nD τ).loc main_arg1) ↦{fullShare} wOf m c))

/-- The scratch buffers at contents not named. -/
def scratch : sProp 𝕄 :=
  iprop(scr c cc0_scratch0 ∗ scr c cc0_scratch1 ∗ scr c cc0_scratch2 ∗ scr c cc0_scratch3)

/-- What the body leaves aside: the device's own slot, and the two cells nobody pays. -/
def aside : sProp 𝕄 :=
  iprop(any c (cS c) ∗ atPos ER (sendCell c 0) 0 ∅ 0 ∗ atPos ER (recvCell c c) 0 ∅ 0)

def tabPts : sProp 𝕄 := ((c : Thread nD τ).loc cc0_stg0_0) ↦{fullShare} (tabF : Buf (Elt F) ((c : Thread nD τ).loc cc0_stg0_0))
def outAny : sProp 𝕄 := iprop(∃ f, ((c : Thread nD τ).loc cc0_stg1_0) ↦{fullShare} f)
def outPts : sProp 𝕄 := ((c : Thread nD τ).loc cc0_stg1_0) ↦{fullShare} (acc m c 15 : Buf (Elt F) ((c : Thread nD τ).loc cc0_stg1_0))

theorem tab_eq : (tabP c : sProp 𝕄) = tabPts c := by
  unfold tabPts tabP; rw [show tab.view.set = Finset.univ from View.set_whole _]
theorem out_any : outAny (F := F) c ⊢ any c outB := by
  unfold outAny any; rw [show outB.view.set = Finset.univ from View.set_whole _]
theorem out_pts : ownsTc c outB fullShare (acc m c 15) ⊢ outPts m c := by
  unfold ownsTc owns outPts
  simp only [Memref.view_whole, View.read_whole, View.set_whole]
  iintro ⟨%f, %hf, H⟩
  subst hf
  iexact H

/-- What enters the body. -/
def around : sProp 𝕄 :=
  iprop(opened c ∗ creds c ∗ copySems c ∗ args m c ∗ scratch c ∗ tabPts c ∗ outAny c ∗ ow c (O₀ c))

theorem body_make : around m c ⊢ iprop(bodyIn m c ∗ aside c) := by
  unfold around opened toks creds copySems args scratch bodyIn aside xFree wFree
  rw [x_blocks, w_blocks, tab_eq, bigSep_others]
  iintro ⟨⟨#Hb, Hat, ⟨Hsend, Hrecv⟩, Htb, Hts, Htr⟩, ⟨Hcb, Hcr⟩, ⟨⟨Hv0, Hv1⟩, Hv2, Hv3⟩, ⟨Hx, Hw⟩, ⟨Hs0, Hs1, Hs2, Hs3⟩, Htab, Hout, HO⟩
  ihave Hs0 := (bf_cut (F := F) c) $$ Hs0
  ihave Hs1 := (stage_cut (F := F) c) $$ Hs1; icases Hs1 with ⟨Hst0, Hst1⟩
  ihave Hs2 := (comm_cut (F := F) c) $$ Hs2; icases Hs2 with ⟨Hcm, Hcms⟩
  ihave Hs3 := (wide_cut (F := F) c) $$ Hs3; icases Hs3 with ⟨Hwd0, Hwd1⟩
  ihave Hsend := (bigSep_unpair (Φ := fun j : Fin 16 => (atPos ER (sendCell c j) 0 ∅ 0 : sProp 𝕄)) (Ψ := fun j : Fin 16 => reached ER (sendCell c j) 0)) $$ Hsend
  icases Hsend with ⟨Has, Hrs⟩
  ihave Hrecv := (bigSep_unpair (Φ := fun s : Dev nD => (atPos ER (recvCell c s) 0 ∅ 0 : sProp 𝕄)) (Ψ := fun s : Dev nD => reached ER (recvCell c s) 0)) $$ Hrecv
  icases Hrecv with ⟨Har, Hrr⟩
  ihave Has := (first_split fun j : Fin 16 => (atPos ER (sendCell c j) 0 ∅ 0 : sProp 𝕄)) $$ Has; icases Has with ⟨Has0, Has⟩
  ihave Hrs := (first_split fun j : Fin 16 => (reached ER (sendCell c j) 0 : sProp 𝕄)) $$ Hrs; icases Hrs with ⟨-, Hrs⟩
  ihave Har := (own_split c fun s : Dev nD => (atPos ER (recvCell c s) 0 ∅ 0 : sProp 𝕄)) $$ Har; icases Har with ⟨Harc, Har⟩
  ihave Hrr := (own_split c fun s : Dev nD => (reached ER (recvCell c s) 0 : sProp 𝕄)) $$ Hrr; icases Hrr with ⟨-, Hrr⟩
  ihave Htb := (own_split c fun j : Dev nD => (dutyTok ER (barCell j) 0 c : sProp 𝕄)) $$ Htb; icases Htb with ⟨-, Htb⟩
  ihave Hts := (first_split fun j : Fin 16 => (dutyTok ER (sendCell c j) 0 c : sProp 𝕄)) $$ Hts; icases Hts with ⟨-, Hts⟩
  ihave Htr := (own_split c fun j : Dev nD => (dutyTok ER (recvCell j c) 0 c : sProp 𝕄)) $$ Htr; icases Htr with ⟨-, Htr⟩
  ihave Hbs := (show bars (F := F) ⊢ iprop(reached ER (barCell c) 0 ∗ down (fun k => reached ER (barCell (ord c k)) 0) 15) from
    own_split c fun j : Dev nD => (reached ER (barCell j) 0 : sProp 𝕄)) $$ Hb; icases Hbs with ⟨-, Hbs⟩
  isplitr [Hcm Has0 Harc]
  · isplitl [Htab]; · iexact Htab
    isplitl [Hx]; · iexact Hx
    isplitl [Hw]; · iexact Hw
    isplitl [Hst0 Hst1 Hv0 Hv1]
    · isplitl [Hst0 Hv0]
      · isplitl [Hst0] <;> iassumption
      · isplitl [Hst1] <;> iassumption
    isplitl [Hwd0 Hwd1 Hv2 Hv3]
    · isplitl [Hwd0 Hv2]
      · isplitl [Hwd0] <;> iassumption
      · isplitl [Hwd1] <;> iassumption
    isplitl [Hs0]; · iexact Hs0
    isplitl [Hout]; · iapply (out_any c) $$ Hout
    isplitl [Htb Hbs Hcms Hrr]
    · iapply (tells_make (F := F) c)
      isplitl [Htb]; · iexact Htb
      isplitl [Hbs]; · iexact Hbs
      isplitl [Hcms]; · iexact Hcms
      iexact Hrr
    isplitl [Hts Hrs Htr]
    · iapply (sendToks_make (F := F) c)
      isplitl [Hts]; · iexact Hts
      isplitl [Hrs]; · iexact Hrs
      iexact Htr
    isplitl [Hcb Hat]
    · isplitl [Hcb] <;> iassumption
    isplitl [Hcr Har]
    · iapply (mulNeed_make (F := F) c)
      isplitl [Hcr] <;> iassumption
    isplitl [Has]; · iexact Has
    iexact HO
  · isplitl [Hcm]; · iexact Hcm
    isplitl [Has0] <;> iassumption

/-- What leaves the region beside the staged windows. -/
def leaving : sProp 𝕄 := iprop(semVal (barCell c) 0 ∗ Pipeline.ownSems0 osem c ∗ args m c ∗ scratch c)

theorem body_done : iprop(invs m K ∗ bodyOut m c ∗ aside c)
    ⊢ (|={Set.univ}=> (leaving m c ∗ tabPts c ∗ outPts m c ∗ ow c 0) : sProp 𝕄) := by
  unfold leaving bodyOut aside args scratch xFree wFree
  rw [ownSems_eq, x_blocks, w_blocks, tab_eq]
  iintro ⟨#HI, ⟨Htab, Hx, Hw, ⟨⟨Hst0, Hv0⟩, Hst1, Hv1⟩, ⟨⟨Hwd0, Hv2⟩, Hwd1, Hv3⟩, Hbf, Hout, Hab, Hmul, Has, HO⟩, Hcm, Has0, Harc⟩
  ihave Hmul := (mulLeft_split (F := F) c) $$ Hmul; icases Hmul with ⟨Har, Hcms⟩
  imod (close_cells m K c) $$ [Hab Has Has0 Har Harc] with ⟨Hb, Hsend, Hrecv⟩
  · isplitr; · iexact HI
    iapply (ended_make (F := F) c)
    isplitl [Hab]; · iexact Hab
    isplitl [Has Has0]
    · isplitl [Has0] <;> iassumption
    · isplitl [Harc] <;> iassumption
  imodintro
  isplitr [Htab Hout HO]
  · isplitl [Hb]; · iexact Hb
    isplitl [Hsend Hrecv Hv0 Hv1 Hv2 Hv3]
    · isplitl [Hsend Hrecv]
      · isplitl [Hsend] <;> iassumption
      isplitl [Hv0 Hv1]
      · isplitl [Hv0] <;> iassumption
      · isplitl [Hv2] <;> iassumption
    isplitl [Hx Hw]
    · isplitl [Hx]; · iexact Hx
      iexact Hw
    isplitl [Hbf]; · iapply (bf_join (F := F) c) $$ Hbf
    isplitl [Hst0 Hst1]
    · iapply (stage_join (F := F) c)
      isplitl [Hst0] <;> iassumption
    isplitl [Hcm Hcms]
    · iapply (comm_join (F := F) c)
      isplitl [Hcm] <;> iassumption
    · iapply (wide_join (F := F) c)
      isplitl [Hwd0] <;> iassumption
  isplitl [Htab]; · iexact Htab
  isplitl [Hout]; · iapply (out_pts m c) $$ Hout
  iexact HO

/-- The body, from one to the other. -/
theorem run_around (Q : PUnit → sProp 𝕄) :
    iprop(invs m K ∗ levAts L lv ∗ around m c ∗ ((leaving m c ∗ tabPts c ∗ outPts m c ∗ ow c 0) -∗ Q ⟨⟩))
      ⊢ run c (body (F := F)) Q := by
  refine BIBase.Entails.trans ?_ (wp_fupd _ _ _ _ _)
  iintro ⟨#HI, #Hl, Ha, Hk⟩
  ihave Ha := (body_make m c) $$ Ha
  icases Ha with ⟨Hin, Has⟩
  iapply (run_body m K c)
  isplitr; · iexact HI
  isplitr; · iexact Hl
  isplitl [Hin]; · iexact Hin
  iintro Hout
  imod (body_done m K c) $$ [Hout Has] with H
  · isplitr; · iexact HI
    isplitl [Hout] <;> iassumption
  imodintro
  iapply Hk $$ H

end Cert.Proof.Body

end
-- ==== Proof.Unfold.lean ====
/- The printed body is the regular program. -/
module

public import proofs.«01_k».proof.Proof.Program

@[expose] public section

set_option maxRecDepth 65536

noncomputable section

namespace Cert.Proof.Body

open Idealize.ShloMosaic Idealize.ShloMosaic.TcCoe Idealize.SL.Sem
open Cert.KernelIdeal Cert.KernelIdeal.Gen

variable {F : FTy → Type} [FloatOps F]

/-- Two programs with the same first operation are equal when what follows is. -/
theorem op_congr {E : Type → Type _} {α β : Type} {e : E β} {k k' : β → Prog E α} (h : ∀ x, k x = k' x) :
    Prog.op e k = Prog.op e k' := congrArg _ (funext h)

/-- A condition whose arms go on to the same program: the signal of device `j`, then that program. -/
theorem tell_step {α β : Type} {d : Dev nD} {j : ℕ} {hj : j < 16} {c : Prop} [Decidable c]
    {s : c → Prog (TpuEff nD τ sig (Elt F) Λ₀ .tc) PUnit} {r : Prog (TpuEff nD τ sig (Elt F) Λ₀ .tc) α}
    {K : α → Prog (TpuEff nD τ sig (Elt F) Λ₀ .tc) β} {R : PUnit → Prog (TpuEff nD τ sig (Elt F) Λ₀ .tc) β}
    (hs : (if h : c then s h else .ret ⟨⟩) = tell d j hj) (hr : r.bind K = R ⟨⟩) :
    (if h : c then (s h).bind (fun _ => r) else r).bind K = (tell d j hj).bind R := by
  rw [← hs]
  split
  · exact (Prog.bind_assoc _ _ _).trans (congrArg _ (funext fun _ => hr))
  · exact hr

/-- The buffers the pipeline calls the body with. -/
abbrev printed : Prog (TpuEff nD τ sig (Elt F) Λ₀ .tc) PUnit :=
  cc0_body_skel xArr (Memref.isWhole_whole _) wArr (Memref.isWhole_whole _) tab (Memref.isWhole_whole _) outB (Memref.isWhole_whole _) xBf (Memref.isWhole_whole _) stageB (Memref.isWhole_whole _) commB (Memref.isWhole_whole _) wideB (Memref.isWhole_whole _) cc0_scratch4 cc0_scratch5 cc0_scratch6 cc0_scratch7

section

variable {α : Type}

/-- The device's place, as the body carries it. -/
abbrev pl (d : Dev nD) : BitVec 32 := Scalar.remsi (Scalar.divsi (Dev.word d) 1#32) 16#32

theorem part1_then (K : (Σ' (d0 : Dev nD) (v2 : BitVec 32) (v23 : Sems sig S_) (v28 : BitVec 32), BitVec 32) → Prog (TpuEff nD τ sig (Elt F) Λ₀ .tc) α) :
    (k0_part1 xArr (Memref.isWhole_whole _) wArr (Memref.isWhole_whole _) tab (Memref.isWhole_whole _) outB (Memref.isWhole_whole _) xBf (Memref.isWhole_whole _) stageB (Memref.isWhole_whole _) commB (Memref.isWhole_whole _) wideB (Memref.isWhole_whole _) cc0_scratch4 cc0_scratch5 cc0_scratch6 cc0_scratch7).bind K =
      .op .deviceId fun d => (entry d).bind fun _ => (tell d 0 (by decide)).bind fun _ =>
        K ⟨d, pl d, SemArray.scalar (sig.barrier 0 rfl), Scalar.extui (Scalar.cmpi .ne (pl d) 1#32), 0#32⟩ := by
  rw [k0_part1_eq_skeleton]
  refine op_congr fun d => ?_
  refine op_congr fun _ => ?_
  refine op_congr fun _ => ?_
  refine op_congr fun _ => ?_
  refine op_congr fun _ => ?_
  refine op_congr fun _ => ?_
  exact tell_step rfl rfl

theorem part2_then (d : Dev nD) (K : (Σ' (v58 : BitVec 32), BitVec 32) → Prog (TpuEff nD τ sig (Elt F) Λ₀ .tc) α) :
    (k0_part2 xArr (Memref.isWhole_whole _) wArr (Memref.isWhole_whole _) tab (Memref.isWhole_whole _) outB (Memref.isWhole_whole _) xBf (Memref.isWhole_whole _) stageB (Memref.isWhole_whole _) commB (Memref.isWhole_whole _) wideB (Memref.isWhole_whole _) cc0_scratch4 cc0_scratch5 cc0_scratch6 cc0_scratch7
      d (pl d) (SemArray.scalar (sig.barrier 0 rfl)) (Scalar.extui (Scalar.cmpi .ne (pl d) 1#32)) 0#32).bind K =
      (tell d 1 (by decide)).bind fun _ => (tell d 2 (by decide)).bind fun _ => (tell d 3 (by decide)).bind fun _ =>
      (tell d 4 (by decide)).bind fun _ => (tell d 5 (by decide)).bind fun _ => (tell d 6 (by decide)).bind fun _ =>
      (tell d 7 (by decide)).bind fun _ => (tell d 8 (by decide)).bind fun _ => (tell d 9 (by decide)).bind fun _ =>
      (tell d 10 (by decide)).bind fun _ =>
        K ⟨(Scalar.extui (Scalar.cmpi .ne (pl d) 11#32) : BitVec 32), 0#32⟩ := by
  rw [k0_part2_eq_skeleton]
  iterate 10 refine tell_step (F := F) rfl ?_
  rfl

theorem part3_then (d : Dev nD) (K : (Σ' (v87 : Elt F .i32), k0_chk4 v87) → Prog (TpuEff nD τ sig (Elt F) Λ₀ .tc) α) :
    (k0_part3 xArr (Memref.isWhole_whole _) wArr (Memref.isWhole_whole _) tab (Memref.isWhole_whole _) outB (Memref.isWhole_whole _) xBf (Memref.isWhole_whole _) stageB (Memref.isWhole_whole _) commB (Memref.isWhole_whole _) wideB (Memref.isWhole_whole _) cc0_scratch4 cc0_scratch5 cc0_scratch6 cc0_scratch7
      d (pl d) (SemArray.scalar (sig.barrier 0 rfl)) (Scalar.extui (Scalar.cmpi .ne (pl d) 11#32)) 0#32).bind K =
      (tell d 11 (by decide)).bind fun _ => (tell d 12 (by decide)).bind fun _ => (tell d 13 (by decide)).bind fun _ => (tell d 14 (by decide)).bind fun _ =>
      (tell d 15 (by decide)).bind fun _ => (ownBlock d).bind fun _ => (semWaitWord barSem 15#32).bind fun _ =>
      (word d 15 (by decide)).bind fun w => .op (TpuEff.assume (k0_chk4 w) (k0_chk4.dec w)) fun h => K ⟨w, h.down⟩ := by
  rw [k0_part3_eq_skeleton]
  iterate 5 refine tell_step (F := F) rfl ?_
  rfl

end

set_option maxHeartbeats 4000000 in
/-- The printed body is the regular program. -/
theorem printed_eq : printed (F := F) = body := by
  refine (Prog.bind_assoc _ _ _).trans ((part1_then _).trans ?_)
  refine op_congr fun d => congrArg _ (funext fun _ => ?_)
  refine Eq.trans ?_ (Prog.bind_assoc _ _ _).symm
  refine congrArg _ (funext fun _ => ?_)
  refine (Prog.bind_assoc _ _ _).trans ((part2_then _ _).trans ?_)
  refine Eq.trans ?_ (Prog.bind_assoc _ _ _).symm
  iterate 9
    refine congrArg _ (funext fun _ => ?_)
    refine Eq.trans ?_ (Prog.bind_assoc _ _ _).symm
  refine congrArg _ (funext fun _ => ?_)
  refine (Prog.bind_assoc _ _ _).trans ((part3_then _ _).trans ?_)
  iterate 5
    refine Eq.trans ?_ (Prog.bind_assoc _ _ _).symm
    refine congrArg _ (funext fun _ => ?_)
  refine congrArg _ (funext fun _ => ?_)
  repeat (refine op_congr fun _ => ?_)
  rfl

/-- The body the pipeline calls is the regular program. -/
theorem bodyAt_eq : bodyAt0 (F := F) (⟨0, by decide⟩ : Fin cfg0.N) = body := by
  refine Eq.trans ?_ printed_eq
  show cc0_body _ _ _ _ _ _ _ _ _ _ _ _ _ _ _ _ _ _ _ _ = _
  rw [cc0_body_eq_skeleton]

end Cert.Proof.Body

end
-- ==== Proof.Region.lean ====
/- The kernel's one region: its proof data and its record. -/
module

public import proofs.«01_k».proof.Proof.Around
public import proofs.«01_k».proof.Proof.Unfold
public import proofs.«01_k».proof.Proof.Gen.KernelIdeal.Frame
public import proofs.«01_k».proof.Proof.Gen.KernelIdeal.Points
public import Idealize.ShloMosaic.Lib.Pipeline.Regions
public import Idealize.ShloMosaic.Lib.Pipeline.RegionTalk
public import Idealize.ShloMosaic.Lib.Pipeline.ValueKit

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## The buffers over @main -/

/-- The buffers when the region is entered: the launch contents with the table in place. -/
def Vin : Valuation τ sig (Elt F) := StableHlo.after hostOps0 (fun b => m (c, b))
/-- The same with the result in place. -/
def Vout : Valuation τ sig (Elt F) :=
  Function.update (Vin m c) (Proc.devRef .tc main_v1) (acc m c 15)

theorem Vin_arg0 : Vin m c (Proc.devRef .tc main_arg0) = xOf m c := V_main_arg0 m c
theorem Vin_arg1 : Vin m c (Proc.devRef .tc main_arg1) = wOf m c := V_main_arg1 m c
theorem Vin_c : Vin m c (Proc.devRef .tc main_c) = (fun i => lit0 (S16x16.rowMajor i)) := by
  unfold Vin
  rw [StableHlo.after_cons, StableHlo.after_nil, StableHlo.nullary_result]
  rfl
theorem Vout_v1 : Vout m c (Proc.devRef .tc main_v1) = acc m c 15 := Function.update_self ..
theorem Vout_ne (b : Ref sig .tc) (h : b ≠ main_v1) : Vout m c (Proc.devRef .tc b) = Vin m c (Proc.devRef .tc b) :=
  Function.update_of_ne (StableHlo.devRef_ne_of_ne h) ..

/-- The two arguments, which no window stages. -/
def argRefs : Finset (DevRef τ sig) := {Proc.devRef .tc main_arg0, Proc.devRef .tc main_arg1}

theorem held_args (W : Valuation τ sig (Elt F)) (h0 : W (Proc.devRef .tc main_arg0) = xOf m c) (h1 : W (Proc.devRef .tc main_arg1) = wOf m c) :
    (StableHlo.held (c : Thread nD τ) argRefs W : sProp 𝕄) = args m c := by
  unfold StableHlo.held args
  rw [bigSep_eq_bigSepL_of_eq [Proc.devRef .tc main_arg0, Proc.devRef .tc main_arg1] (by decide) (by decide), ← h0, ← h1]
  rfl

/-! ## The proof data -/

/-- What launch keeps for the region. -/
def Tk : sProp 𝕄 := iprop((∃ K, invs m K ∗ ready c) ∗ creds c)
/-- What enters its invariant, the cells opened. -/
def Xk : sProp 𝕄 := iprop((∃ K, invs m K ∗ opened c) ∗ creds c ∗ levAts L lv ∗ copySems c)
/-- What it gives back. -/
def Yk : sProp 𝕄 := semVal (barCell c) 0

def Φin : sProp 𝕄 := iprop(Xk m c ∗ args m c ∗ scratch c ∗ ∃ r, prngReg c r)
def Φout : sProp 𝕄 := iprop(leaving m c ∗ ∃ r, prngReg c r)

def dat : Dat τ (Elt F) Unit ℕ UU ℕ cfg0 c where
  A w := Vin m c (Proc.devRef .tc (Pipeline.arrRef spec0 w))
  after w _ := match w with
    | ⟨0, _⟩ => tabF
    | ⟨1, _⟩ => acc m c 15
  Φ t := if t.val = 0 then Φin m c else Φout m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owesAt_in {cfg : Cfg sig Λ₀} (dat : Dat τ (Elt F) Unit ℕ UU ℕ cfg c) (t : Fin (cfg.N + 1)) (O : CellTallies nD τ sig Unit)
    (h0 : dat.owed t = O) (hr : dat.recorded t = Set.univ) : ow c O ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_out {cfg : Cfg sig Λ₀} (dat : Dat τ (Elt F) Unit ℕ UU ℕ cfg c) (t : Fin (cfg.N + 1)) (O : CellTallies nD τ sig Unit)
    (h0 : dat.owed t = O) : (dat.owesAt () t : sProp 𝕄) ⊢ ow c O := by
  unfold Dat.owesAt Pipeline.owesWithin; rw [h0]
  iintro ⟨%W, -, HO⟩; iexists W; iexact HO

theorem owed_zero : (pdats m 0 c).owed 0 = O₀ c := rfl
theorem owed_last : (pdats m 0 c).owed (Fin.last _) = 0 := by
  show (if (Fin.last cfg0.N).val = 0 then O₀ c else 0) = 0
  rw [Fin.val_last, if_neg (by rw [show cfg0.N = 1 from N_0]; decide)]

theorem owns_whole (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} (X : Buf (Elt F) ((c : Thread nD τ).loc b))) := by
  have h1 : (owns (Ix := Unit) (Name := ℕ) (U := UU) (Lvl := ℕ) (c : Thread nD τ) (Memref.whole b) fullShare X : sProp 𝕄)
      ⊢ (((c : Thread nD τ).loc b) ↦{fullShare} (X : Buf (Elt F) ((c : Thread nD τ).loc b))) := by
    unfold owns; simp only [Memref.view_whole, View.read_whole, View.set_whole]
    iintro ⟨%f, %h, H⟩; subst h; iexact H
  have h2 : (((c : Thread nD τ).loc b) ↦{fullShare} (X : Buf (Elt F) ((c : Thread nD τ).loc b)))
      ⊢ (owns (Ix := Unit) (Name := ℕ) (U := UU) (Lvl := ℕ) (c : Thread nD τ) (Memref.whole b) fullShare X : sProp 𝕄) := by
    unfold owns; simp only [Memref.view_whole, View.read_whole, View.set_whole]
    iintro H; iexists X; isplitr; · ipureintro; rfl
    iexact H
  exact BI.equiv_iff.mp ⟨h1, h2⟩

theorem before_tab (d) : (dat m c).before 0 t0_0 d = tabF := by
  unfold Dat.before
  rw [if_pos (fetch0_0 t0_0)]
  unfold Dat.fetched Dat.blockOf
  rw [show (dat m c).A 0 = (fun i => lit0 (S16x16.rowMajor i)) from Vin_c m c]
  funext y
  show lit0 (S16x16.rowMajor (((cfg0.win 0).blk t0_0).view.emb y)) = lit0 (S16x16.rowMajor y)
  refine congrArg (fun i => lit0 (S16x16.rowMajor i)) (funext fun a => Fin.ext ?_)
  exact win0_0.rect_emb_val_of_index_zero t0_0 a (by revert a; decide +kernel) y

theorem obligation : BodyObligation (dat m c) (defs₀ (F := F)) 𝒱₀ () Set.univ := fun t => by
  obtain rfl := fin_N0 t
  rw [bigSep_W0, bigSep_W0]
  have hrun : defs₀ (F := F) .tc cfg0.body (cfg0.bodyArgs t0_0 (cfg0.slots t0_0)) = body := bodyAt_eq
  rw [hrun]
  rw [show (dat m c).Φ t0_0.castSucc = Φin m c from rfl, show (dat m c).Φ t0_0.succ = Φout m c from rfl]
  show iprop(Φin m c ∗ (dat m c).owesAt () t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d)))
    ⊢ run c body (fun _ => iprop(Φout m c ∗ (dat m c).owesAt () t0_0.succ
      ∗ owns (c : Thread nD τ) (Memref.whole cc0_stg0_0) fullShare tabF
      ∗ owns (c : Thread nD τ) (Memref.whole cc0_stg1_0) fullShare (acc m c 15)))
  simp only [owns_whole, before_tab]
  unfold Φin Φout Xk
  iintro ⟨⟨⟨⟨%K, #HI, Hop⟩, Hcr, #Hl, Hcs⟩, Hargs, Hscr, Hreg⟩, HO, ⟨%d0, Htab⟩, ⟨%d1, Hout⟩⟩
  ihave HO := (owesAt_out c (dat m c) t0_0.castSucc (O₀ c) rfl) $$ HO
  iapply (run_around m K c)
  isplitr; · iexact HI
  isplitr; · iexact Hl
  isplitl [Hop Hcr Hcs Hargs Hscr Htab Hout HO]
  · unfold around
    isplitl [Hop]; · iexact Hop
    isplitl [Hcr]; · iexact Hcr
    isplitl [Hcs]; · iexact Hcs
    isplitl [Hargs]; · iexact Hargs
    isplitl [Hscr]; · iexact Hscr
    isplitl [Htab]; · unfold tabPts; iexact Htab
    isplitl [Hout]; · unfold outAny; iexists _; iexact Hout
    iexact HO
  unfold tabPts outPts
  iintro ⟨Hleft, Htab, Hout, HO⟩
  isplitl [Hleft Hreg]
  · isplitl [Hleft]; · iexact Hleft
    iexact Hreg
  isplitl [HO]; · iapply (owesAt_in c (dat m c) t0_0.succ 0 rfl rfl); iexact HO
  isplitl [Htab]; · iexact Htab
  iexact Hout

/-! ## The record -/

theorem cut (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · exact above_add (Above.mono (by decide) (owedSends_above c 15)) (owedTells_above c 16) g i h
  · exact absurd h (Nat.lt_irrefl 0)

theorem hopen : iprop(Tk m c ∗ Pipeline.ownSems0 osem c ∗ levAts L lv) ⊢ (|={Set.univ}=> Xk m c : sProp 𝕄) := by
  rw [ownSems_eq]
  unfold Tk Xk copySems
  iintro ⟨⟨⟨%K, #HI, Hr⟩, Hcr⟩, ⟨⟨Hs, Hv⟩, Hst, Hwd⟩, #Hl⟩
  imod (open_cells m K c) $$ [Hr Hs Hv] with Ho
  · isplitr; · iexact HI
    isplitl [Hr]; · iexact Hr
    isplitl [Hs] <;> iassumption
  imodintro
  isplitl [Ho]
  · iexists K; isplitr; · iexact HI
    iexact Ho
  isplitl [Hcr]; · iexact Hcr
  isplitr; · iexact Hl
  isplitl [Hst] <;> iassumption

theorem rest_eq : (Pipeline.scopedRest (Ix := Unit) (Name := ℕ) (U := UU) (Lvl := ℕ) (Val := Elt F) (Pipeline.pin (pcfgs (F := F)) adm 0).spec c : sProp 𝕄) = scratch c :=
  scopedRest0_eq c

theorem Vout_arg0 : Vout m c (Proc.devRef .tc main_arg0) = xOf m c := (Vout_ne m c main_arg0 (by decide)).trans (Vin_arg0 m c)
theorem Vout_arg1 : Vout m c (Proc.devRef .tc main_arg1) = wOf m c := (Vout_ne m c main_arg1 (by decide)).trans (Vin_arg1 m c)

theorem hin : iprop(Pipeline.scopedRest (Pipeline.pin (pcfgs (F := F)) adm 0).spec c ∗ (∃ r, prngReg c r)
      ∗ StableHlo.held (c.tc : Thread nD τ) argRefs (Vin m c) ∗ Xk m c) ⊢ (pdats m 0 c).Φ 0 := by
  rw [show (pdats m 0 c).Φ 0 = Φin m c from rfl, rest_eq, held_args m c _ (Vin_arg0 m c) (Vin_arg1 m c)]
  unfold Φin
  iintro ⟨Hs, Hp, Ha, HX⟩
  isplitl [HX]; · iexact HX
  isplitl [Ha]; · iexact Ha
  isplitl [Hs] <;> iassumption

theorem hout : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) argRefs (Vout m c) ∗ Pipeline.ownSems0 osem c ∗ Yk c) := by
  rw [show (pdats m 0 c).Φ (Fin.last _) = Φout m c from rfl, rest_eq, held_args m c _ (Vout_arg0 m c) (Vout_arg1 m c)]
  unfold Φout leaving Yk
  iintro ⟨⟨Hb, Ho, Ha, Hs⟩, Hp⟩
  isplitl [Hs]; · iexact Hs
  isplitl [Hp]; · iexact Hp
  isplitl [Ha]; · iexact Ha
  isplitl [Ho] <;> iassumption

theorem arr_in (w : Fin 2) : (dat m c).arrAt w 0 = Vin m c (Proc.devRef .tc (Pipeline.arrRef spec0 w)) := rfl

theorem arr_out (w : Fin 2) : (dat m c).arrAt w cfg0.N = Vout m c (Proc.devRef .tc (Pipeline.arrRef spec0 w)) := by
  match w with
  | ⟨0, _⟩ =>
    rw [Vout_ne m c _ (show Pipeline.arrRef spec0 (0 : Fin 2) ≠ main_v1 by decide)]
    exact (dat m c).arrAt_in 0 rfl _
  | ⟨1, _⟩ =>
    refine Eq.trans ?_ (Vout_v1 m c).symm
    refine (dat m c).arrAt_eq_of_after_last 1 t0_0 (by decide +kernel) _ fun j => ?_
    rfl

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem role_win : ∀ (w : Fin 2) (s : Fin (spec0 w).nbuf), role (.dma ((spec0 w).sem s)) = .none := by decide +kernel
theorem lv_win (w : Fin 2) (s : Fin (spec0 w).nbuf) : lv ((c : Thread nD τ), .dma ((spec0 w).sem s)) () ≤ 0 := by
  unfold lv; rw [role_win w s]

theorem ownFacts : Pipeline.OwnSemFacts spec0 osem := by decide +kernel

set_option backward.isDefEq.respectTransparency.types false in
def reg : ℝ𝕊 0 :=
  Pipeline.RegionSeg.ofTalk (pcfgs (F := F)) adm (pdats m) () defs₀ 𝒱₀ L lv 0 osem ownFacts
    argRefs argRefs (Finset.Subset.refl _) launch0.toP rfl (fun c => (obligation m c).loose)
    (fun _ => 0) O₀ (fun c => (owed_zero m c).trans (zero_add _).symm) (owed_last m) (fun _ => rfl)
    (fun c w => by unfold Dat.share; split <;> rfl)
    (Vin m) (Vout m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _,
      fun c w s => lv_win c w s, fun c t g i h => cut m c t g i h⟩
    (fun _ => iprop(emp))
    (fun c w => arr_in m c w) (fun c w => arr_out m c w)

end Cert.Proof.Body

end
-- ==== Proof.Launch.lean ====
/- The launch: the talk's ghost state made and dealt to the devices, and the run of @main. -/
module

public import proofs.«01_k».proof.Proof.Region
public import Idealize.ShloMosaic.Lib.Pipeline.Kit
public import Idealize.ShloMosaic.Lib.Tactic

@[expose] public section

set_option maxRecDepth 16384

noncomputable section

namespace Cert.Proof.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What is owed at launch, and to whom -/

theorem owedSends_apply (d : Dev nD) (g : GSem nD τ sig) (n : ℕ) :
    owedSends d n g () = ∑ k ∈ Finset.range n, if g = recvCell (ord d (k + 1)) d then N else 0 := by
  induction n with
  | zero => rfl
  | succ n ih =>
    rw [Finset.sum_range_succ, ← ih]
    show owedSends d n g () + tallyAt (recvCell (ord d (n + 1)) d) () N g () = _
    rw [tallyAt_apply]
    simp only [and_true]

theorem owedTells_apply (d : Dev nD) (g : GSem nD τ sig) (n : ℕ) :
    owedTells d n g () = ∑ k ∈ Finset.range n,
      if d.val = (15 - k) % 16 then 0 else if g = barCell ⟨(15 - k) % 16, Nat.mod_lt _ (by decide)⟩ then 1 else 0 := by
  induction n with
  | zero => rfl
  | succ n ih =>
    rw [Finset.sum_range_succ, ← ih]
    show owedTells d n g () + (if d.val = (15 - n) % 16 then (0 : CellTallies nD τ sig Unit) else tallyAt (barCell ⟨(15 - n) % 16, Nat.mod_lt _ (by decide)⟩) () 1) g () = _
    split
    · rfl
    · rw [tallyAt_apply]
      simp only [and_true]

theorem bar_ne_recv (c c' s : Dev nD) : barCell c ≠ recvCell c' s := fun h => by
  have := congrArg (fun g : GSem nD τ sig => role g.2) h
  exact absurd (this.trans (role_recv s)) fun h => by cases h
theorem bar_eq (c c' : Dev nD) : barCell c = barCell c' ↔ c = c' :=
  ⟨fun h => congrArg (fun g : GSem nD τ sig => g.1.1) h, fun h => by rw [h]⟩
theorem recv_eq (c c' s s' : Dev nD) : recvCell c s = recvCell c' s' ↔ c = c' ∧ s = s' := by
  refine ⟨fun h => ⟨congrArg (fun g : GSem nD τ sig => g.1.1) h, ?_⟩, fun h => by rw [h.1, h.2]⟩
  have := congrArg (fun g : GSem nD τ sig => role g.2) h
  have := (role_recv s).symm.trans (this.trans (role_recv s'))
  cases this; rfl

theorem owed_bar (d c : Dev nD) : O₀ d (barCell c) ()
    = ∑ k ∈ Finset.range 16, if d.val = (15 - k) % 16 then 0 else if c.val = (15 - k) % 16 then 1 else 0 := by
  show owedSends d 15 (barCell c) () + owedTells d 16 (barCell c) () = _
  rw [owedSends_apply, owedTells_apply, Finset.sum_eq_zero fun k _ => if_neg (bar_ne_recv _ _ _), Nat.zero_add]
  refine Finset.sum_congr rfl fun k _ => ?_
  simp only [bar_eq, Fin.ext_iff]

theorem owed_recv (d c s : Dev nD) : O₀ d (recvCell c s) ()
    = if d = s then ∑ k ∈ Finset.range 15, (if c = ord d (k + 1) then N else 0) else 0 := by
  show owedSends d 15 (recvCell c s) () + owedTells d 16 (recvCell c s) () = _
  rw [owedSends_apply, owedTells_apply,
    Finset.sum_eq_zero (s := Finset.range 16) fun k _ => by
      rw [if_neg (c := recvCell c s = _) fun h => bar_ne_recv _ _ _ h.symm]; exact ite_self 0, Nat.add_zero]
  by_cases h : d = s
  · rw [if_pos h]
    exact Finset.sum_congr rfl fun k _ => by simp only [recv_eq, h, _root_.and_true]
  · rw [if_neg h]
    exact Finset.sum_eq_zero fun k _ => if_neg fun e => h ((recv_eq _ _ _ _).mp e).2.symm

theorem count_bar : ∀ c : Fin 16, (∑ d : Fin 16, ∑ k ∈ Finset.range 16,
    if d.val = (15 - k) % 16 then 0 else if c.val = (15 - k) % 16 then 1 else 0) = 15 := by decide +kernel
theorem one_rank : ∀ c s : Dev nD, s ≠ c → ((Finset.range 15).filter fun k => c = ord s (k + 1)).card = 1 := by decide +kernel

theorem credit_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  exact count_bar c

theorem credit_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ s,
    if_pos (Finset.mem_univ _), ← Finset.sum_filter, Finset.sum_const, one_rank c s h, one_smul]

theorem creds_of (c : Dev nD) : (Pipeline.launchCred O₀ c : sProp 𝕄) ⊢ creds c := by
  unfold Pipeline.launchCred creds
  rw [bigSep_univ_at _ (SemLoc.reg barSem), credit_bar]
  refine sep_mono_right ?_
  have hinj : Function.Injective fun s : Dev nD => (SemLoc.dma (rSem s) : SemLoc sig) := fun s s' h =>
    ((recv_eq 0 0 s s').mp (congrArg (fun x => (((0 : Dev nD) : Thread nD τ), x)) h)).2
  have hsub : ((Finset.univ.erase c).map ⟨_, hinj⟩ : Finset (SemLoc sig)) ⊆ Finset.univ.erase (SemLoc.reg barSem) := fun x hx => by
    obtain ⟨s, -, rfl⟩ := Finset.mem_map.mp hx
    exact Finset.mem_erase.mpr ⟨fun h => bar_ne_recv c c s (congrArg (fun x => ((c : Thread nD τ), x)) h).symm, Finset.mem_univ _⟩
  refine (bigSep_subset hsub).trans ?_
  rw [bigSep_map]
  exact bigSep_mono fun s hs => Entails.of_eq (congrArg (fun t => (cred t : sProp 𝕄)) (credit_recv c s (Finset.ne_of_mem_erase hs)))

/-! ## The launch element -/

theorem osem_inj : Function.Injective osem := ownFacts.inj
theorem osem_ne_bar : ∀ k : Own, osem k ≠ .reg barSem := by decide +kernel

/-- The kernel's own semaphores of the talk. -/
abbrev Far : Type := Fin 16 ⊕ Dev nD

def barEmb : Dev nD ↪ GSem nD τ sig := ⟨fun c => barCell c, fun _ _ h => congrArg (fun g : GSem nD τ sig => g.1.1) h⟩
def farEmb : Dev nD × Far ↪ GSem nD τ sig :=
  ⟨fun p => ((p.1 : Thread nD τ), osem (.inl p.2)), fun _ _ h =>
    Prod.ext (congrArg (fun g : GSem nD τ sig => g.1.1) h) (Sum.inl_injective (osem_inj (congrArg (fun g : GSem nD τ sig => g.2) h)))⟩

/-- The barrier cells, live from the launch; the send and receive cells, not yet opened. -/
abbrev barCells : Finset (GSem nD τ sig) := Finset.univ.map barEmb
abbrev farCells : Finset (GSem nD τ sig) := Finset.univ.map farEmb

/-- A duty's token, by the device that pays it and the cell. -/
def tokOf (p : Dev nD × (Dev nD ⊕ Far)) : GSem nD τ sig × ℕ × Dev nD :=
  match p.2 with
  | .inl j => (barCell j, 0, p.1)
  | .inr (.inl j) => (sendCell p.1 j, 0, p.1)
  | .inr (.inr j) => (recvCell j p.1, 0, p.1)

theorem tokOf_inj : Function.Injective tokOf := by
  rintro ⟨c, k⟩ ⟨c', k'⟩ h
  have hc : c = c' := by
    have := congrArg (fun x : GSem nD τ sig × ℕ × Dev nD => x.2.2) h
    rcases k with j | j | j <;> rcases k' with j' | j' | j' <;> exact this
  subst hc
  refine Prod.ext rfl ?_
  have hg := congrArg (fun x : GSem nD τ sig × ℕ × Dev nD => x.1) h
  have hd := congrArg (fun g : GSem nD τ sig => g.1.1) hg
  have hr := congrArg (fun g : GSem nD τ sig => role g.2) hg
  have hs (j : Fin 16) : role (.dma (sendSem j.val j.isLt)) = .send j := role_send j
  have hv (s : Dev nD) : role (.dma (rSem s)) = .recv s := role_recv s
  rcases k with j | j | j <;> rcases k' with j' | j' | j'
  · exact congrArg Sum.inl hd
  · exact absurd (hr.trans (hs j')) fun h => by cases h
  · exact absurd (hr.trans (hv c)) fun h => by cases h
  · exact absurd ((hs j).symm.trans hr) fun h => by cases h
  · have e := (hs j).symm.trans (hr.trans (hs j')); cases e; rfl
  · exact absurd ((hs j).symm.trans (hr.trans (hv c))) fun h => by cases h
  · exact absurd ((hv c).symm.trans hr) fun h => by cases h
  · exact absurd ((hv c).symm.trans (hr.trans (hs j'))) fun h => by cases h
  · exact congrArg (fun x => Sum.inr (Sum.inr x)) hd

def allToks : Finset (GSem nD τ sig × ℕ × Dev nD) := Finset.univ.map ⟨tokOf, tokOf_inj⟩

theorem cells_disjoint : Disjoint (barCells : Finset (GSem nD τ sig)) farCells := by
  rw [Finset.disjoint_left]
  rintro g h₁ h₂
  obtain ⟨c, -, rfl⟩ := Finset.mem_map.mp h₁
  obtain ⟨p, -, h⟩ := Finset.mem_map.mp h₂
  exact osem_ne_bar _ (congrArg (fun g : GSem nD τ sig => g.2) h)

abbrev talk₀ : UT := launchOf barCells farCells allToks

theorem pin_inj : Function.Injective (Pipeline.cellOf (nD := nD) (τ := τ) (Pipeline.pin (pcfgs (F := F)) adm)) := cellOf_inj

def u₀ : UU :=
  (initOf (Pipeline.cells (Pipeline.pin (pcfgs (F := F)) adm) pin_inj) (Pipeline.launchToks (Pipeline.pin (pcfgs (F := F)) adm) pin_inj),
    (talk₀, 1))

/-- The talk's element, kept at device 0 until it is dealt. -/
def G (c : Dev nD) : sProp 𝕄 := if c = 0 then BI.own (ER talk₀) else iprop(emp)

theorem G_all : bigSep Finset.univ (G (F := F)) = BI.own (ER talk₀) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What is dealt -/

theorem invs_all (K : GSem nD τ sig → ℕ) :
    (bigSep (barCells ∪ farCells) fun g => cellInv ER (rd m) (K g) g : sProp 𝕄) ⊢ invs m K := by
  refine Entails.of_eq ?_
  rw [bigSep_union cells_disjoint, bigSep_map, bigSep_map, bigSep_univ_prod]
  simp only [BI.bigSep_univ_sum]
  rw [bigSep_sep]
  unfold invs
  rw [bigSep_univ_prod, bigSep_univ_prod]
  rfl

theorem open_all : (bigSep farCells fun g => openTok ER g : sProp 𝕄)
    ⊢ bigSep Finset.univ fun c : Dev nD => iprop((bigSep Finset.univ fun j : Fin 16 => openTok ER (sendCell c j)) ∗ bigSep Finset.univ fun s : Dev nD => openTok ER (recvCell c s)) := by
  refine Entails.of_eq ?_
  rw [bigSep_map, bigSep_univ_prod]
  simp only [BI.bigSep_univ_sum]
  rfl

theorem toks_all : (bigSep allToks fun x => dutyTok ER x.1 x.2.1 x.2.2 : sProp 𝕄) ⊢ bigSep Finset.univ fun c : Dev nD => toks c := by
  refine Entails.of_eq ?_
  unfold allToks
  rw [bigSep_map, bigSep_univ_prod]
  simp only [BI.bigSep_univ_sum]
  rfl

theorem at_all (Φ : GSem nD τ sig → sProp 𝕄) : bigSep barCells Φ = bigSep Finset.univ fun c : Dev nD => Φ (barCell c) := bigSep_map ..

/-! ## The segments -/

/-- The buffers that @main names. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem held_bufs (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) argRefs W) := by
  unfold StableHlo.held
  refine Eq.trans (congrArg (fun s => bigSep s _) (show bufs = Pipeline.arrRefs (τ := τ) spec0 ∪ argRefs by decide)) ?_
  exact bigSep_union (by decide)

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barSem} from by decide, BI.bigSep_singleton]

/-- What rides beside the buffers up to the region. -/
def R (c : Dev nD) : sProp 𝕄 := iprop(Tk m c ∗ (∃ r, prngReg c r) ∗ ow c (O₀ c))

local notation "ℍ" => Pipeline.HostSeg (Name := ℕ) (U := UU) (pcfgs (F := F)) defs₀ 𝒱₀ L lv

theorem ops_sub : ∀ op ∈ (hostOps0 : List (HloOp τ sig (Elt F))), op.bufs ⊆ bufs := fun op h => by
  simp only [hostOps0, List.mem_singleton] at h; subst h
  show ({Proc.devRef .tc main_c} : Finset (DevRef τ sig)) ⊆ bufs
  decide
theorem ops_fresh : ∀ op ∈ (hostOps0 : List (HloOp τ sig (Elt F))), op.fresh = ∅ := List.forall_iff_forall_mem.mp hostOps0_fresh

/-- The host's part: the table is made. -/
def seg0 : ℍ := Pipeline.HostSeg.ofOps _ _ _ _ _ bufs hostOps0 ops_sub ops_fresh (fun c b => m (c, b)) (R m)

def segs : List (Pipeline.Seg (pcfgs (F := F)) adm (pdats m) () defs₀ 𝒱₀ L lv) := [.host (seg0 m), .region (reg m)]

theorem main_eq (c : Dev nD) : main (F := F) c = Pipeline.Seg.run (segs m) :=
  main_segs adm (pdats m) () 𝒱₀ L lv (seg0 m) (reg m) rfl c

theorem reg_pre (c : Dev nD) : iprop(StableHlo.held (c : Thread nD τ) bufs (Vin m c) ∗ R m c) ⊢ (reg m).pre c := by
  show _ ⊢ iprop(StableHlo.held (c.tc : Thread nD τ) (Pipeline.arrRefs (τ := τ) spec0) (Vin m c) ∗ (∃ r, prngReg c r)
    ∗ (StableHlo.held (c.tc : Thread nD τ) argRefs (Vin m c) ∗ emp) ∗ Tk m c ∗ ∃ Wd, owes (c : Thread nD τ) (0 + O₀ c) Wd)
  rw [held_bufs, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

abbrev Tₙ (c : Dev nD) : sProp 𝕄 := iprop(StableHlo.held (c : Thread nD τ) bufs (Vout m c) ∗ semVal (barCell c) 0)

theorem reg_post (c : Dev nD) : (reg m).post c
    ⊢ iprop(Tₙ m c ∗ ∃ W, owes (c : Thread nD τ) (0 : CellTallies nD τ sig Unit) W) := by
  show iprop(StableHlo.held (c.tc : Thread nD τ) (Pipeline.arrRefs (τ := τ) spec0) (Vout m c) ∗ (∃ r, prngReg c r)
    ∗ (StableHlo.held (c.tc : Thread nD τ) argRefs (Vout m c) ∗ emp) ∗ Yk c ∗ ∃ Wd, owes (c : Thread nD τ) (0 : CellTallies nD τ sig Unit) Wd) ⊢ _
  unfold Tₙ Yk
  rw [held_bufs]
  iintro ⟨Ha, -, ⟨Hr, -⟩, Hb, HO⟩
  isplitr [HO]
  · isplitr [Hb]
    · isplitl [Ha] <;> iassumption
    · iexact Hb
  iexact HO

/-! ## The launch's step -/

abbrev T₀ (c : Dev nD) : sProp 𝕄 := iprop(StableHlo.held (c : Thread nD τ) bufs (fun b => m (c, b)) ∗ R m c)

/-- What of a device's launch holdings is not the talk's. -/
def bundle (c : Dev nD) : sProp 𝕄 :=
  iprop(StableHlo.held (c : Thread nD τ) bufs (fun b => m (c, b)) ∗ creds c ∗ (∃ r, prngReg c r) ∗ ow c (O₀ c))

/-- What of the talk's is dealt to a device. -/
def dealt (c : Dev nD) : sProp 𝕄 :=
  iprop(atPos ER (barCell c) 0 ∅ 0
    ∗ ((bigSep Finset.univ fun j : Fin 16 => openTok ER (sendCell c j)) ∗ (bigSep Finset.univ fun s : Dev nD => openTok ER (recvCell c s))) ∗ toks c)

theorem deal (K : GSem nD τ sig → ℕ) (c : Dev nD) : iprop((invs m K ∗ bars) ∗ (dealt c ∗ bundle m c)) ⊢ T₀ m c := by
  unfold dealt bundle T₀ R Tk ready
  iintro ⟨⟨#HI, #Hb⟩, ⟨Hat, Hop, Htk⟩, Hh, Hcr, Hp, HO⟩
  isplitl [Hh]; · iexact Hh
  isplitl [Hat Hop Htk Hcr]
  · isplitr [Hcr]
    · iexists K
      isplitr; · iexact HI
      isplitr; · iexact Hb
      isplitl [Hat]; · iexact Hat
      isplitl [Hop] <;> iassumption
    · iexact Hcr
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (fun b => m (c, b)) from
      unscopedBufs_held c (fun b => m (c, b)), unscopedSems0_eq]
    unfold bundle
    iintro ⟨Hh, Hs, HO, Hcr, Hp, HG⟩
    ihave Hc := (creds_of (F := F) c) $$ Hcr
    isplitl [Hh Hc HO Hp]
    · isplitl [Hh]; · iexact Hh
      isplitl [Hc]; · iexact Hc
      isplitl [Hp]; · iexists (ρ c); iexact Hp
      iexists ∅; iexact HO
    isplitl [Hs] <;> iassumption
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H := bigSep_unpair $$ H; icases H with ⟨HB, H⟩
  ihave H := bigSep_unpair $$ H; icases H with ⟨Hv, HG⟩
  ihave Hu := (Entails.of_eq (G_all (F := F))) $$ HG
  imod (Rounds.fund_launch ER (rd m) cells_disjoint (fun g _ h => h) allToks) $$ [Hv Hu] with ⟨%K, -, #Hinv, #Hr, Hat, Hopen, Htok⟩
  · isplitl [Hv]
    · iapply (Entails.of_eq (at_all fun g => (semVal g 0 : sProp 𝕄)).symm) $$ Hv
    · iexact Hu
  imodintro
  iapply (bigSep_with_persistent (R := iprop(invs m K ∗ bars)) (Φ := fun c => iprop(dealt c ∗ bundle m c)) fun c _ => deal m K c)
  isplitr
  · isplitr
    · iapply (invs_all m K) $$ Hinv
    · unfold bars; iapply (Entails.of_eq (at_all fun g => (reached ER g 0 : sProp 𝕄))) $$ Hr
  iapply bigSep_pair
  isplitr [HB]
  · unfold dealt
    iapply bigSep_pair; isplitl [Hat]; · iapply (Entails.of_eq (at_all fun g => (atPos ER g 0 ∅ 0 : sProp 𝕄))) $$ Hat
    iapply bigSep_pair; isplitl [Hopen]; · iapply (open_all (F := F)) $$ Hopen
    iapply (toks_all (F := F)) $$ Htok
  · iexact HB

/-! ## The run -/

theorem unscoped_eq : ∀ sm : SemLoc sig, sm.isScoped .tc = false → sm = .reg barSem := by decide

theorem held_read (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
        ∗ (((c : Thread nD τ).loc main_c) ↦{fullShare} W (Proc.devRef .tc main_c)) ∗ (((c : Thread nD τ).loc main_v1) ↦{fullShare} W (Proc.devRef .tc main_v1))) := by
  unfold StableHlo.held
  rw [bigSep_eq_bigSepL_of_eq [Proc.devRef .tc main_arg0, Proc.devRef .tc main_arg1, Proc.devRef .tc main_c, Proc.devRef .tc main_v1] (by decide) (by decide)]
  rfl

set_option backward.isDefEq.respectTransparency.types false in
/-- From any memory with every semaphore at zero, every run of @main ends, with both arguments as they were, each
    device's result what the body leaves, and every semaphore at zero. -/
theorem run_main : θ_run defs (onTc (τ := τ) (main (F := F))) (s₀ m ρ)
    (fun r => (∀ c : Dev nD, r.2.mem ((c : Thread nD τ).loc main_arg0) = xOf m c
        ∧ r.2.mem ((c : Thread nD τ).loc main_arg1) = wOf m c
        ∧ r.2.mem ((c : Thread nD τ).loc main_v1) = acc m c 15) ∧ r.2.sem = fun _ => 0) :=
  Pipeline.θ_run_regions_kit_sems (pcfgs (F := F)) adm (pdats m) () pin_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all (F := F)]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = xOf m c ∧ s.mem ((c : Thread nD τ).loc main_arg1) = wOf m c
      ∧ s.mem ((c : Thread nD τ).loc main_v1) = acc m c 15) ∧ s.sem (barCell c) = 0)
    (hfin := fun c s' => by
      dsimp only [Tₙ]; rw [held_read, Vout_arg0, Vout_arg1, Vout_v1]
      iintro ⟨⟨⟨Hx, Hw, -, Ho⟩, Hb⟩, HSI⟩
      icombine HSI Hx gives %hx
      icombine HSI Hw gives %hw
      icombine HSI Ho gives %ho
      icombine HSI Hb gives %hb
      imodintro
      isplitr
      · ipureintro
        exact ⟨⟨Buf.eq_of_forall_mem_univ hx, Buf.eq_of_forall_mem_univ hw, Buf.eq_of_forall_mem_univ ho⟩, by simpa using hb⟩
      iexact HSI)
    (hQ := fun s h hs => ⟨fun c => (h c).1,
      sem_eq_zero hs fun c sm hsm => by
        obtain rfl := unscoped_eq sm hsm
        exact (h c).2⟩)

end Cert.Proof.Body

end
-- ==== Proof.Value.lean ====
/- What the kernel computes, at the ideal instance: device `c`'s result is row block `c` of the product of the whole
   arrays. The sixteen products, in the order of the device's table, are one sum over all the columns of `x`. -/
module

public import proofs.«01_k».proof.Proof.Schedule
public import proofs.«01_k».proof.Proof.Gen.ReferenceIdeal
public import Idealize.ShloMosaic.Lib.Layout
public import Idealize.ShloMosaic.Lib.MatmulPlain
public import Idealize.ShloMosaic.Lib.StackMember
public import Idealize.ShloMosaic.Lib.Pointwise.Sums

@[expose] public section

set_option maxRecDepth 16384

noncomputable section

namespace Cert.Proof.Body

open Idealize.ShloMosaic hiding ix2 eq_ix2
open Idealize.ShloMosaic.TcCoe Idealize.ShloMosaic.ValueIdx Idealize.SL.Sem
open Cert.KernelIdeal Cert.KernelIdeal.Gen
open scoped BigOperators

/-- A cast drops the leading axis that `lead` added. -/
theorem cast_lead {e : EltTy} (v : Vec Ideal S512x512 e) (h : S1x512x512.ShapeCasts S512x512) :
    shapeCast S512x512 (lead v) h = v := funext fun i => congrArg v (Equiv.symm_apply_apply _ i)

theorem cast_leadW {e : EltTy} (v : Vec Ideal S512x4096 e) (h : S1x512x4096.ShapeCasts S512x4096) :
    shapeCast S512x4096 (leadW v) h = v := funext fun i => congrArg v (Equiv.symm_apply_apply _ i)

/-- Narrowing changes no value. -/
theorem narrow_lead (v : Vec Ideal S512x512 .f32) : narrow (F := Ideal) (lead v) = v := by
  show shapeCast S512x512 (truncf (F := Ideal) .bf16 (shapeCast S512x512 (lead v) _) bitsLt_bf16_f32) _ = _
  rw [shapeCast_self, cast_lead]
  rfl

/-- The product of two blocks, entry by entry. -/
def prod (a : S512x512.Idx → EReal) (b : S512x4096.Idx → EReal) (r : Fin 512) (q : Fin 4096) : EReal :=
  ∑ k : Fin 512, a (ix2 r k) * b (ix2 k q)

theorem prodOwn_apply (a : Vec Ideal S512x512 .bf16) (b : Vec Ideal S512x4096 .f32) (r : Fin 512) (q : Fin 4096) :
    prodOwn a (leadW b) (ix2 r q) = prod a b r q := by
  show FloatOps.matmul (DotDims.plain 512 512 4096) none a (shapeCast S512x4096 (leadW b) _)
    (constant (F := Ideal) S512x4096 .f32 0x00000000#32) (ix2 r q) = _
  rw [cast_leadW, Ideal.matmul_plain_apply, constant_apply, Ideal.ofBits_zero_f32, zero_add]
  rfl

theorem prodAdd_apply (a : Vec Ideal S512x512 .bf16) (b o : Vec Ideal S512x4096 .f32) (r : Fin 512) (q : Fin 4096) :
    prodAdd (lead a) (leadW b) o (ix2 r q) = o (ix2 r q) + prod a b r q := by
  show shapeCast S512x4096 o _ (ix2 r q)
    + FloatOps.matmul (DotDims.plain 512 512 4096) none (shapeCast S512x512 (lead a) _) (shapeCast S512x4096 (leadW b) _)
      (constant (F := Ideal) S512x4096 .f32 0x00000000#32) (ix2 r q) = _
  rw [shapeCast_self, cast_lead, cast_leadW, Ideal.matmul_plain_apply, constant_apply, Ideal.ofBits_zero_f32, zero_add]
  rfl

variable (m : (ℓ : Loc nD τ sig) → Buf (Elt Ideal) ℓ)

/-- What device `s`'s columns of `x` contribute to device `c`'s result. -/
def part (c s : Dev nD) (r : Fin 512) (q : Fin 4096) : EReal := prod (xBlk m s c) (wBlk m c s) r q

theorem acc_apply (c : Dev nD) (n : ℕ) (r : Fin 512) (q : Fin 4096) :
    acc m c n (ix2 r q) = ∑ j ∈ Finset.range (n + 1), part m c (ord c j) r q := by
  induction n with
  | zero =>
    rw [Finset.sum_range_one, ord_zero]
    show prodOwn (narrow (lead (xBlk m c c))) (leadW (wBlk m c c)) (ix2 r q) = _
    rw [narrow_lead]
    exact prodOwn_apply _ _ r q
  | succ n ih =>
    rw [Finset.sum_range_succ, ← ih]
    show prodAdd (lead (narrow (lead (xBlk m (ord c (n + 1)) c)))) (leadW (wBlk m c (ord c (n + 1)))) (acc m c n) (ix2 r q) = _
    rw [narrow_lead]
    exact prodAdd_apply _ _ _ r q

/-- After the last rank every device has contributed once. -/
theorem acc_all (c : Dev nD) (r : Fin 512) (q : Fin 4096) :
    acc m c 15 (ix2 r q) = ∑ s : Dev nD, part m c s r q := by
  rw [acc_apply, Finset.sum_range]
  exact Equiv.sum_comp (ordEquiv c) fun s => part m c s r q

/-! ## Blocks of the whole arrays -/

/-- Row (or column) `k` of block `s` of sixteen blocks of 512. -/
def row (s : Fin 16) (k : Fin 512) : Fin 8192 := ⟨s.val * 512 + k.val, by omega⟩

theorem rowOff_zero : ∀ s : Dev nD, rowOff (place s) 0 = s.val * 512 := by decide +kernel

theorem xBlk_apply (s c : Dev nD) (r k : Fin 512) :
    xBlk m s c (ix2 r k) = xOf m s (ix2 (row c r) k : S8192x512.Idx) := by
  refine congrArg (xOf m s) (funext fun a => Fin.ext ?_)
  match a with
  | 0 => exact congrArg₂ (· + ·) (rowOff_zero c) (Nat.one_mul _)
  | 1 => exact (congrArg (0 + ·) (Nat.one_mul _)).trans (Nat.zero_add _)

theorem wBlk_apply (c s : Dev nD) (k : Fin 512) (q : Fin 4096) :
    wBlk m c s (ix2 k q) = wOf m c (ix2 (row s k) q : S8192x4096.Idx) := by
  refine congrArg (wOf m c) (funext fun a => Fin.ext ?_)
  match a with
  | 0 => exact congrArg₂ (· + ·) (rowOff_zero s) (Nat.one_mul _)
  | 1 => exact (congrArg (0 + ·) (Nat.one_mul _)).trans (Nat.zero_add _)

/-- The product of the whole arrays, as the reference takes it. -/
abbrev whole (X : Cert.ReferenceIdeal.S8192x8192.Idx → EReal) (W : S8192x4096.Idx → EReal) : S8192x4096.Idx → EReal :=
  Host.dotGeneral (F := Ideal) (φ₁ := .f32) (φ₂ := .f32) Cert.ReferenceIdeal.dot_S8192x8192_S8192x4096_S8192x4096_1_0_0_1_n_n none X W

theorem whole_apply (X : Cert.ReferenceIdeal.S8192x8192.Idx → EReal) (W : S8192x4096.Idx → EReal) (R : Fin 8192) (q : Fin 4096) :
    whole X W (ix2 R q) = ∑ s : Fin 16, ∑ k : Fin 512, X (ix2 R (row s k)) * W (ix2 (row s k) q) :=
  (StackMember.dotGeneral_plain_apply none X W R q).trans (Fin.sum_univ_tiles 16 512 rfl _)

/-- Device `c`'s result is row block `c` of the product. -/
theorem acc_block (X : Cert.ReferenceIdeal.S8192x8192.Idx → EReal) (W : S8192x4096.Idx → EReal)
    (hx : ∀ c : Dev nD, xOf m c = Layout.block ⟨2, ![8192, 512]⟩ ⟨2, ![8192, 8192]⟩ 1 16 c X)
    (hw : ∀ c : Dev nD, wOf m c = W) (c : Dev nD) :
    acc m c 15 = Layout.block ⟨2, ![512, 4096]⟩ ⟨2, ![8192, 4096]⟩ 0 16 c (whole X W) := by
  funext i
  obtain ⟨r, q, rfl⟩ : ∃ (r : Fin 512) (q : Fin 4096), i = ix2 r q := ⟨i 0, i 1, eq_ix2 i⟩
  have hi : ∀ h : Layout.Tiles ⟨2, ![512, 4096]⟩ ⟨2, ![8192, 4096]⟩ 0 16, h.idx c (ix2 r q) = ix2 (row c r) q := fun h =>
    funext fun a => Fin.ext (match a with | 0 => rfl | 1 => rfl)
  have hk : ∀ (h : Layout.Tiles ⟨2, ![8192, 512]⟩ ⟨2, ![8192, 8192]⟩ 1 16) (s : Dev nD) (k : Fin 512),
      h.idx s (ix2 (row c r) k) = ix2 (row c r) (row s k) := fun h s k =>
    funext fun a => Fin.ext (match a with | 0 => rfl | 1 => rfl)
  rw [acc_all, Layout.block_apply, hi, whole_apply]
  refine Finset.sum_congr rfl fun s _ => ?_
  unfold part prod
  refine Finset.sum_congr rfl fun k _ => ?_
  rw [xBlk_apply, wBlk_apply, hx, hw, Layout.block_apply, hk]

end Cert.Proof.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel at the ideal instance keeps its arguments and ends with every counter at zero. -/
theorem frame_kernel_ideal : Cert.quiescent_KernelIdeal := fun m ρ _ =>
  (θ_run Cert.KernelIdeal.defs _ _).mono
    (fun _ h => ⟨fun c => ⟨(h.1 c).1, (h.1 c).2.1⟩, h.2⟩) (Body.run_main (F := Ideal) m ρ)

set_option maxHeartbeats 4000000 in
set_option maxRecDepth 65536 in
/-- The two printed kernels have one text: label by label, their bodies are the same program. -/
theorem defs₀_eq : Cert.Kernel.defs₀ (F := Bits) = Cert.KernelIdeal.defs₀ (F := Bits) := by
  unfold Cert.Kernel.defs₀ Cert.KernelIdeal.defs₀
  refine congrArg (Defs.onTc (τ := Cert.KernelIdeal.τ)) (funext fun ℓ => funext fun x => ?_)
  match ℓ, x with
  | 0, (t, s) => exact rfl
  | ⟨_ + 1, h⟩, _ => exact absurd h (Nat.not_lt.2 (Nat.le_add_left _ _))

/-- So have their body tables. -/
theorem defs_eq : Cert.Kernel.defs (F := Bits) = Cert.KernelIdeal.defs (F := Bits) :=
  congrArg (Pipeline.defs Cert.KernelIdeal.pcfgs) defs₀_eq

/-- The kernel at bits keeps its arguments and ends with every counter at zero. -/
theorem frame_kernel : Cert.quiescent_Kernel := fun m ρ _ => by
  rw [defs_eq]
  exact (θ_run Cert.KernelIdeal.defs _ _).mono
    (fun _ h => ⟨fun c => ⟨(h.1 c).1, (h.1 c).2.1⟩, h.2⟩) (Body.run_main (F := Bits) m ρ)

/-- The reference keeps its arguments; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals each device ends with its row block of the product of the whole arrays. -/
theorem algebraic : Cert.algebraic_KernelIdeal_ReferenceIdeal := fun m ρ m' ρ' _ hagree =>
  ⟨Body.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Body.acc_block m _ _ (fun d => (hagree d).1) (fun d => (hagree d).2) c),
        (h.1 c).1, (h.1 c).2.1⟩) (Body.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernel_ideal, frame_reference, trivial, algebraic⟩

end Cert.Proof
